-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_expert_in_range : Cert.Pre_expert_in_range.Facts] (m : (ℓ : Loc Cert.Kernel3.nD Cert.Kernel3.τ Cert.Kernel3.sig) → Buf (Elt Bits) ℓ) : Prop :=
  ∀ c : Dev Cert.Kernel3.nD,
    (Cert.Pre_expert_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_expert_in_range : Cert.Pre_expert_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_expert_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal [hPre_expert_in_range : Cert.Pre_expert_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_expert_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_expert_in_range : Cert.Pre_expert_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_expert_in_range : Cert.Pre_expert_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_expert_in_range : Cert.Pre_expert_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_expert_in_range : Cert.Pre_expert_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)) (v2 : (c : Dev Cert.Kernel4Ideal.nD) → Buf (Elt Ideal) ((c.tc : Thread Cert.Kernel4Ideal.nD Cert.Kernel4Ideal.τ).loc Cert.Kernel4Ideal.main_v15_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_v15_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_in_range : Cert.Pre_rows_in_range.Facts) (hPre_expert_in_range : Cert.Pre_expert_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_expert_in_range := hPre_expert_in_range)
    ∧ quiescent_Kernel3Ideal (hKernel3Ideal := hKernel3Ideal) (hPre_expert_in_range := hPre_expert_in_range)
    ∧ quiescent_Reference3Ideal (hReference3Ideal := hReference3Ideal) (hPre_expert_in_range := hPre_expert_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_expert_in_range := hPre_expert_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_expert_in_range.lean ====
abbrev S73728x512 : Shape := ⟨2, ![73728, 512]⟩
abbrev S4x16x1024x512 : Shape := ⟨4, ![4, 16, 1024, 512]⟩
abbrev S4x16x512x1024 : Shape := ⟨4, ![4, 16, 512, 1024]⟩
abbrev S144 : Shape := ⟨1, ![144]⟩
abbrev S1 : Shape := ⟨1, ![1]⟩
abbrev S_ : Shape := ⟨0, ![]⟩

class Facts : Prop where
  bcast_S_S144 : S_.BroadcastsInDim S144 (![] : Fin 0 → Fin S144.rank)

variable [Facts]

def fn {F : FTy → Type} [FloatOps F] (main_arg0 : FVec F S73728x512 .bf16) (main_arg1 : FVec F S73728x512 .bf16) (main_arg2 : FVec F S4x16x1024x512 .f32) (main_arg3 : FVec F S4x16x1024x512 .f32) (main_arg4 : FVec F S4x16x512x1024 .f32) (main_arg5 : IVec S144 32) (main_arg6 : IVec S1 32) : IVec S144 1 :=
  let main_c : IVec S_ 32 := constantI S_ 32 0#32
  let main_v0 : IVec S144 32 := broadcastInDim S144 ![] bcast_S_S144 main_c
  let main_v1 : IVec S144 1 := cmpi .sge main_arg5 main_v0
  let main_c_0 : IVec S_ 32 := constantI S_ 32 16#32
  let main_v2 : IVec S144 32 := broadcastInDim S144 ![] bcast_S_S144 main_c_0
  let main_v3 : IVec S144 1 := cmpi .slt main_arg5 main_v2
  let main_v4 : IVec S144 1 := andi main_v1 main_v3
  main_v4
-- ==== Pre_rows_in_range.lean ====
abbrev S73728x256 : Shape := ⟨2, ![73728, 256]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S73728x256 32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 73728#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S73728x256 : Shape := ⟨2, ![73728, 256]⟩
abbrev S16384 : Shape := ⟨1, ![16384]⟩
abbrev S73728x2x128 : Shape := ⟨3, ![73728, 2, 128]⟩
abbrev S1x16384 : Shape := ⟨2, ![1, 16384]⟩
abbrev S16384x2x128 : Shape := ⟨3, ![16384, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S16384x256 : Shape := ⟨2, ![16384, 256]⟩

abbrev nBuf : Table → Nat
  | .hbm => 6
  | .local .scVector .vmem => 2
  | _ => 0

abbrev bufTy : (tb : Table) → Fin (nBuf tb) → BufTy
  | .hbm, ⟨0, _⟩ => ⟨S73728x256, .i32⟩
  | .hbm, ⟨1, _⟩ => ⟨S16384, .i32⟩
  | .hbm, ⟨2, _⟩ => ⟨S73728x2x128, .i32⟩
  | .hbm, ⟨3, _⟩ => ⟨S1x16384, .i32⟩
  | .hbm, ⟨4, _⟩ => ⟨S16384x2x128, .i32⟩
  | .hbm, ⟨5, _⟩ => ⟨S16384x256, .i32⟩
  | .local .scVector .vmem, ⟨0, _⟩ => ⟨S2x1x128, .i32⟩
  | .local .scVector .vmem, ⟨1, _⟩ => ⟨S2x128x2x128, .i32⟩
  | _, _ => ⟨S73728x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c4_i32_66_r0 : BitVec 32 := 4#32
  let v74_r0 : BitVec 1 := Scalar.cmpi .eq v73_r0 c4_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_72_r0 : BitVec 32 := 3#32
  let v83_r0 : BitVec 1 := Scalar.cmpi .sge arg5_r0 c3_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c4_i32_66_r0 : BitVec 32 := 4#32
  let v74_r0 : BitVec 1 := Scalar.cmpi .eq v73_r0 c4_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c3_i32_63_r0 : BitVec 32 := 3#32
  let v70_r0 : BitVec 32 := Scalar.select v69_r0 c3_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c4_i32_66_r0 : BitVec 32 := 4#32
  let v74_r0 : BitVec 1 := Scalar.cmpi .eq v73_r0 c4_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_59_r0 : BitVec 32 := 3#32
  let v65_r0 : BitVec 1 := Scalar.cmpi .eq arg5_r0 c3_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c3_i32_63_r0 : BitVec 32 := 3#32
  let v70_r0 : BitVec 32 := Scalar.select v69_r0 c3_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c3_i32_63_r0 : BitVec 32 := 3#32
  let v70_r0 : BitVec 32 := Scalar.select v69_r0 c3_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S16384x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S16384x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S16384x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S16384x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S16384x2x128.size a)
theorem k0_off19_inb : ∀ (i : grid0.Coords) (v33_4_r0 : BitVec 32) (k0_hw5 : k0_chk5 i v33_4_r0), ∀ a, (k0_off19 i v33_4_r0) a + S128x2x128.size a ≤ S16384x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S73728x256 : Shape := ⟨2, ![73728, 256]⟩
abbrev S16384 : Shape := ⟨1, ![16384]⟩
abbrev S16384x1 : Shape := ⟨2, ![16384, 1]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S73728x256, .i32⟩
  | .hbm, ⟨1, _⟩ => ⟨S16384, .i32⟩
  | .hbm, ⟨2, _⟩ => ⟨S16384x1, .i32⟩
  | .hbm, ⟨3, _⟩ => ⟨S16384x256, .i32⟩
  | _, _ => ⟨S73728x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel2.lean ====
abbrev S8x4096x1024 : Shape := ⟨3, ![8, 4096, 1024]⟩
abbrev S4x1024x12296 : Shape := ⟨3, ![4, 1024, 12296]⟩
abbrev S4x1024x6144 : Shape := ⟨3, ![4, 1024, 6144]⟩
abbrev S32768x1024 : Shape := ⟨2, ![32768, 1024]⟩
abbrev S32768x6144 : Shape := ⟨2, ![32768, 6144]⟩
abbrev S2048x1024 : Shape := ⟨2, ![2048, 1024]⟩
abbrev S1x1024x1536 : Shape := ⟨3, ![1, 1024, 1536]⟩
abbrev S2048x1536 : Shape := ⟨2, ![2048, 1536]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S4x1024x12296, .f32⟩
  | .hbm, ⟨2, _⟩ => ⟨S4x1024x6144, .f32⟩
  | .hbm, ⟨3, _⟩ => ⟨S4x1024x6144, .bf16⟩
  | .hbm, ⟨4, _⟩ => ⟨S32768x1024, .f32⟩
  | .hbm, ⟨5, _⟩ => ⟨S32768x1024, .bf16⟩
  | .hbm, ⟨6, _⟩ => ⟨S32768x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S2048x1536, .bf16⟩
  | .local _ .vmem, ⟨5, _⟩ => ⟨S2048x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x4096x1024 : Shape := ⟨3, ![8, 4096, 1024]⟩
abbrev S4x1024x12296 : Shape := ⟨3, ![4, 1024, 12296]⟩
abbrev S1x1024x12296 : Shape := ⟨3, ![1, 1024, 12296]⟩
abbrev S1024x12296 : Shape := ⟨2, ![1024, 12296]⟩
abbrev S8x4096x12296 : Shape := ⟨3, ![8, 4096, 12296]⟩
abbrev S8x4096x6144 : Shape := ⟨3, ![8, 4096, 6144]⟩
abbrev S32768x6144 : Shape := ⟨2, ![32768, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024x12296, .f32⟩
  | .hbm, ⟨2, _⟩ => ⟨S1x1024x12296, .f32⟩
  | .hbm, ⟨3, _⟩ => ⟨S1024x12296, .f32⟩
  | .hbm, ⟨4, _⟩ => ⟨S8x4096x12296, .f32⟩
  | .hbm, ⟨5, _⟩ => ⟨S8x4096x6144, .f32⟩
  | .hbm, ⟨6, _⟩ => ⟨S32768x6144, .f32⟩
  | .hbm, ⟨7, _⟩ => ⟨S32768x6144, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S73728x512 : Shape := ⟨2, ![73728, 512]⟩
abbrev S4x16x1024x512 : Shape := ⟨4, ![4, 16, 1024, 512]⟩
abbrev S4x16x512x1024 : Shape := ⟨4, ![4, 16, 512, 1024]⟩
abbrev S144 : Shape := ⟨1, ![144]⟩
abbrev S1 : Shape := ⟨1, ![1]⟩
abbrev S512x512 : Shape := ⟨2, ![512, 512]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S512x256 : Shape := ⟨2, ![512, 256]⟩

abbrev nBuf : Space → Nat
  | .hbm => 7
  | .vmem => 17
  | .smem => 2
  | _ => 0

abbrev bufTy : (tb : Table) → Fin (tcTables nBuf tb) → BufTy
  | .hbm, ⟨0, _⟩ => ⟨S73728x512, .bf16⟩
  | .hbm, ⟨1, _⟩ => ⟨S73728x512, .bf16⟩
  | .hbm, ⟨2, _⟩ => ⟨S4x16x1024x512, .f32⟩
  | .hbm, ⟨3, _⟩ => ⟨S4x16x1024x512, .f32⟩
  | .hbm, ⟨4, _⟩ => ⟨S4x16x512x1024, .f32⟩
  | .hbm, ⟨5, _⟩ => ⟨S73728x512, .bf16⟩
  | .hbm, ⟨6, _⟩ => ⟨S73728x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .smem, ⟨0, _⟩ => ⟨S144, .i32⟩
  | .local _ .smem, ⟨1, _⟩ => ⟨S1, .i32⟩
  | _, _ => ⟨S73728x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v13 : BitVec 32 := Scalar.extui v1
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v15 : BitVec 1 := Scalar.xori v1 v_true
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S73728x512 : Shape := ⟨2, ![73728, 512]⟩
abbrev S4x16x1024x512 : Shape := ⟨4, ![4, 16, 1024, 512]⟩
abbrev S4x16x512x1024 : Shape := ⟨4, ![4, 16, 512, 1024]⟩
abbrev S144 : Shape := ⟨1, ![144]⟩
abbrev S1 : Shape := ⟨1, ![1]⟩
abbrev S73728x1024 : Shape := ⟨2, ![73728, 1024]⟩
abbrev S144x512 : Shape := ⟨2, ![144, 512]⟩
abbrev S73728 : Shape := ⟨1, ![73728]⟩
abbrev S1x16x1024x512 : Shape := ⟨4, ![1, 16, 1024, 512]⟩
abbrev S16x1024x512 : Shape := ⟨3, ![16, 1024, 512]⟩
abbrev S73728x16x512 : Shape := ⟨3, ![73728, 16, 512]⟩
abbrev S_ : Shape := ⟨0, ![]⟩
abbrev S1x16x512x1024 : Shape := ⟨4, ![1, 16, 512, 1024]⟩
abbrev S16x512x1024 : Shape := ⟨3, ![16, 512, 1024]⟩
abbrev S16x73728x1024 : Shape := ⟨3, ![16, 73728, 1024]⟩
abbrev S1x73728 : Shape := ⟨2, ![1, 73728]⟩
abbrev S16 : Shape := ⟨1, ![16]⟩
abbrev S16x1 : Shape := ⟨2, ![16, 1]⟩
abbrev S16x73728 : Shape := ⟨2, ![16, 73728]⟩
abbrev S16x73728x1 : Shape := ⟨3, ![16, 73728, 1]⟩

abbrev nBuf : Space → Nat
  | .hbm => 56
  | .vmem => 0
  | .smem => 0
  | _ => 0

abbrev bufTy : (tb : Table) → Fin (tcTables nBuf tb) → BufTy
  | .hbm, ⟨0, _⟩ => ⟨S73728x512, .bf16⟩
  | .hbm, ⟨1, _⟩ => ⟨S73728x512, .bf16⟩
  | .hbm, ⟨2, _⟩ => ⟨S4x16x1024x512, .f32⟩
  | .hbm, ⟨3, _⟩ => ⟨S4x16x1024x512, .f32⟩
  | .hbm, ⟨4, _⟩ => ⟨S4x16x512x1024, .f32⟩
  | .hbm, ⟨5, _⟩ => ⟨S144, .i32⟩
  | .hbm, ⟨6, _⟩ => ⟨S1, .i32⟩
  | .hbm, ⟨7, _⟩ => ⟨S73728x1024, .bf16⟩
  | .hbm, ⟨8, _⟩ => ⟨S73728x1024, .f32⟩
  | .hbm, ⟨9, _⟩ => ⟨S144x512, .i32⟩
  | .hbm, ⟨10, _⟩ => ⟨S73728, .i32⟩
  | .hbm, ⟨11, _⟩ => ⟨S144, .i32⟩
  | .hbm, ⟨12, _⟩ => ⟨S144, .i32⟩
  | .hbm, ⟨13, _⟩ => ⟨S144, .i1⟩
  | .hbm, ⟨14, _⟩ => ⟨S144x512, .i1⟩
  | .hbm, ⟨15, _⟩ => ⟨S73728, .i1⟩
  | .hbm, ⟨16, _⟩ => ⟨S1x16x1024x512, .f32⟩
  | .hbm, ⟨17, _⟩ => ⟨S16x1024x512, .f32⟩
  | .hbm, ⟨18, _⟩ => ⟨S73728x16x512, .f32⟩
  | .hbm, ⟨19, _⟩ => ⟨S73728x16x512, .f32⟩
  | .hbm, ⟨20, _⟩ => ⟨S73728x16x512, .f32⟩
  | .hbm, ⟨21, _⟩ => ⟨S_, .f32⟩
  | .hbm, ⟨22, _⟩ => ⟨S73728x16x512, .f32⟩
  | .hbm, ⟨23, _⟩ => ⟨S73728x16x512, .f32⟩
  | .hbm, ⟨24, _⟩ => ⟨S_, .f32⟩
  | .hbm, ⟨25, _⟩ => ⟨S73728x16x512, .f32⟩
  | .hbm, ⟨26, _⟩ => ⟨S73728x16x512, .f32⟩
  | .hbm, ⟨27, _⟩ => ⟨S73728x16x512, .f32⟩
  | .hbm, ⟨28, _⟩ => ⟨S1x16x1024x512, .f32⟩
  | .hbm, ⟨29, _⟩ => ⟨S16x1024x512, .f32⟩
  | .hbm, ⟨30, _⟩ => ⟨S73728x16x512, .f32⟩
  | .hbm, ⟨31, _⟩ => ⟨S73728x16x512, .f32⟩
  | .hbm, ⟨32, _⟩ => ⟨S1x16x512x1024, .f32⟩
  | .hbm, ⟨33, _⟩ => ⟨S16x512x1024, .f32⟩
  | .hbm, ⟨34, _⟩ => ⟨S16x73728x1024, .f32⟩
  | .hbm, ⟨35, _⟩ => ⟨S1x73728, .i32⟩
  | .hbm, ⟨36, _⟩ => ⟨S16, .i32⟩
  | .hbm, ⟨37, _⟩ => ⟨S16x1, .i32⟩
  | .hbm, ⟨38, _⟩ => ⟨S16x73728, .i32⟩
  | .hbm, ⟨39, _⟩ => ⟨S16x73728, .i32⟩
  | .hbm, ⟨40, _⟩ => ⟨S16x73728, .i1⟩
  | .hbm, ⟨41, _⟩ => ⟨S1x73728, .i1⟩
  | .hbm, ⟨42, _⟩ => ⟨S16x73728, .i1⟩
  | .hbm, ⟨43, _⟩ => ⟨S16x73728, .i1⟩
  | .hbm, ⟨44, _⟩ => ⟨S16x73728x1, .i1⟩
  | .hbm, ⟨45, _⟩ => ⟨S_, .f32⟩
  | .hbm, ⟨46, _⟩ => ⟨S_, .f32⟩
  | .hbm, ⟨47, _⟩ => ⟨S16x73728x1024, .i1⟩
  | .hbm, ⟨48, _⟩ => ⟨S16x73728x1024, .f32⟩
  | .hbm, ⟨49, _⟩ => ⟨S16x73728x1024, .f32⟩
  | .hbm, ⟨50, _⟩ => ⟨S_, .f32⟩
  | .hbm, ⟨51, _⟩ => ⟨S73728x1024, .f32⟩
  | .hbm, ⟨52, _⟩ => ⟨S73728x512, .f32⟩
  | .hbm, ⟨53, _⟩ => ⟨S73728x512, .bf16⟩
  | .hbm, ⟨54, _⟩ => ⟨S73728x512, .f32⟩
  | .hbm, ⟨55, _⟩ => ⟨S73728x512, .bf16⟩
  | _, _ => ⟨S73728x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S8x4096x1024 : Shape := ⟨3, ![8, 4096, 1024]⟩
abbrev S32768x6144 : Shape := ⟨2, ![32768, 6144]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1024 : Shape := ⟨2, ![4, 1024]⟩
abbrev S32768x1024 : Shape := ⟨2, ![32768, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S32768x512 : Shape := ⟨2, ![32768, 512]⟩
abbrev S512x1024 : Shape := ⟨2, ![512, 1024]⟩
abbrev S1x3x1024x1024 : Shape := ⟨4, ![1, 3, 1024, 1024]⟩
abbrev S1x1024x1024 : Shape := ⟨3, ![1, 1024, 1024]⟩
abbrev S512x512 : Shape := ⟨2, ![512, 512]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩
abbrev S512x256 : Shape := ⟨2, ![512, 256]⟩

abbrev nBuf : Space → Nat
  | .hbm => 28
  | .vmem => 25
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S32768x6144, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S8x4096x1024, .f32⟩
  | .hbm, ⟨8, _⟩ => ⟨S4x1024, .f32⟩
  | .hbm, ⟨9, _⟩ => ⟨S4x1024, .f32⟩
  | .hbm, ⟨10, _⟩ => ⟨S4x3x1024x1024, .bf16⟩
  | .hbm, ⟨11, _⟩ => ⟨S4x1024x1024, .bf16⟩
  | .hbm, ⟨12, _⟩ => ⟨S32768x1024, .f32⟩
  | .hbm, ⟨13, _⟩ => ⟨S32768x1024, .bf16⟩
  | .hbm, ⟨14, _⟩ => ⟨S32768x1024, .bf16⟩
  | .hbm, ⟨15, _⟩ => ⟨S32768x1024, .bf16⟩
  | .hbm, ⟨16, _⟩ => ⟨S1x3072, .f32⟩
  | .hbm, ⟨17, _⟩ => ⟨S3072, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x3072, .f32⟩
  | .hbm, ⟨23, _⟩ => ⟨S1x1024, .f32⟩
  | .hbm, ⟨24, _⟩ => ⟨S1x1024, .f32⟩
  | .hbm, ⟨25, _⟩ => ⟨S32768x1024, .f32⟩
  | .hbm, ⟨26, _⟩ => ⟨S32768x512, .bf16⟩
  | .hbm, ⟨27, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x3072, .f32⟩
  | .local _ .vmem, ⟨13, _⟩ => ⟨S1x3x1024x1024, .bf16⟩
  | .local _ .vmem, ⟨14, _⟩ => ⟨S1x1024x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8x4096x1024 : Shape := ⟨3, ![8, 4096, 1024]⟩
abbrev S32768x6144 : Shape := ⟨2, ![32768, 6144]⟩
abbrev S4x3072 : Shape := ⟨2, ![4, 3072]⟩
abbrev S4x3x1024x1024 : Shape := ⟨4, ![4, 3, 1024, 1024]⟩
abbrev S4x1024x1024 : Shape := ⟨3, ![4, 1024, 1024]⟩
abbrev S4x1024 : Shape := ⟨2, ![4, 1024]⟩
abbrev S8x4096x1x1024 : Shape := ⟨4, ![8, 4096, 1, 1024]⟩
abbrev S8x4096x3x1024 : Shape := ⟨4, ![8, 4096, 3, 1024]⟩
abbrev S1x3x1024x1024 : Shape := ⟨4, ![1, 3, 1024, 1024]⟩
abbrev S3x1024x1024 : Shape := ⟨3, ![3, 1024, 1024]⟩
abbrev S3x1024x8x4096 : Shape := ⟨4, ![3, 1024, 8, 4096]⟩
abbrev S32768x3072 : Shape := ⟨2, ![32768, 3072]⟩
abbrev S8x4096x3072 : Shape := ⟨3, ![8, 4096, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S1x1024x1024 : Shape := ⟨3, ![1, 1024, 1024]⟩
abbrev S1024x1024 : Shape := ⟨2, ![1024, 1024]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩
abbrev S32768x512 : Shape := ⟨2, ![32768, 512]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x1024, .bf16⟩
  | .hbm, ⟨3, _⟩ => ⟨S32768x6144, .bf16⟩
  | .hbm, ⟨4, _⟩ => ⟨S4x3072, .f32⟩
  | .hbm, ⟨5, _⟩ => ⟨S4x3x1024x1024, .f32⟩
  | .hbm, ⟨6, _⟩ => ⟨S4x1024x1024, .f32⟩
  | .hbm, ⟨7, _⟩ => ⟨S8x4096x1024, .f32⟩
  | .hbm, ⟨8, _⟩ => ⟨S4x1024, .f32⟩
  | .hbm, ⟨9, _⟩ => ⟨S4x1024, .f32⟩
  | .hbm, ⟨10, _⟩ => ⟨S8x4096x1x1024, .bf16⟩
  | .hbm, ⟨11, _⟩ => ⟨S8x4096x1x1024, .bf16⟩
  | .hbm, ⟨12, _⟩ => ⟨S8x4096x1x1024, .bf16⟩
  | .hbm, ⟨13, _⟩ => ⟨S8x4096x3x1024, .bf16⟩
  | .hbm, ⟨14, _⟩ => ⟨S8x4096x3x1024, .f32⟩
  | .hbm, ⟨15, _⟩ => ⟨S1x3x1024x1024, .f32⟩
  | .hbm, ⟨16, _⟩ => ⟨S3x1024x1024, .f32⟩
  | .hbm, ⟨17, _⟩ => ⟨S3x1024x8x4096, .f32⟩
  | .hbm, ⟨18, _⟩ => ⟨S8x4096x3x1024, .f32⟩
  | .hbm, ⟨19, _⟩ => ⟨S32768x3072, .bf16⟩
  | .hbm, ⟨20, _⟩ => ⟨S32768x3072, .f32⟩
  | .hbm, ⟨21, _⟩ => ⟨S8x4096x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S8x4096x3072, .f32⟩
  | .hbm, ⟨26, _⟩ => ⟨S8x4096x3072, .f32⟩
  | .hbm, ⟨27, _⟩ => ⟨S8x4096x3072, .f32⟩
  | .hbm, ⟨28, _⟩ => ⟨S8x4096x3072, .f32⟩
  | .hbm, ⟨29, _⟩ => ⟨S_, .f32⟩
  | .hbm, ⟨30, _⟩ => ⟨S8x4096x3072, .f32⟩
  | .hbm, ⟨31, _⟩ => ⟨S8x4096x3072, .f32⟩
  | .hbm, ⟨32, _⟩ => ⟨S_, .f32⟩
  | .hbm, ⟨33, _⟩ => ⟨S8x4096x3072, .f32⟩
  | .hbm, ⟨34, _⟩ => ⟨S8x4096x3072, .f32⟩
  | .hbm, ⟨35, _⟩ => ⟨S8x4096x3x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x3x1024, .f32⟩
  | .hbm, ⟨40, _⟩ => ⟨S_, .f32⟩
  | .hbm, ⟨41, _⟩ => ⟨S8x4096x1024, .f32⟩
  | .hbm, ⟨42, _⟩ => ⟨S1x1024x1024, .f32⟩
  | .hbm, ⟨43, _⟩ => ⟨S1024x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1024, .f32⟩
  | .hbm, ⟨70, _⟩ => ⟨S1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S1x1024, .f32⟩
  | .hbm, ⟨75, _⟩ => ⟨S1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S32768x1024, .f32⟩
  | .hbm, ⟨80, _⟩ => ⟨S32768x512, .f32⟩
  | .hbm, ⟨81, _⟩ => ⟨S32768x512, .bf16⟩
  | .hbm, ⟨82, _⟩ => ⟨S32768x512, .f32⟩
  | .hbm, ⟨83, _⟩ => ⟨S32768x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel5.lean ====
abbrev S8x4096x1024 : Shape := ⟨3, ![8, 4096, 1024]⟩
abbrev S4x1024x12296 : Shape := ⟨3, ![4, 1024, 12296]⟩
abbrev S4x1024x6144 : Shape := ⟨3, ![4, 1024, 6144]⟩
abbrev S4x1024x8 : Shape := ⟨3, ![4, 1024, 8]⟩
abbrev S_ : Shape := ⟨0, ![]⟩
abbrev S4x1024x128 : Shape := ⟨3, ![4, 1024, 128]⟩
abbrev S32768x1024 : Shape := ⟨2, ![32768, 1024]⟩
abbrev S32768x6144 : Shape := ⟨2, ![32768, 6144]⟩
abbrev S32768x128 : Shape := ⟨2, ![32768, 128]⟩
abbrev S2048x1024 : Shape := ⟨2, ![2048, 1024]⟩
abbrev S1x1024x1536 : Shape := ⟨3, ![1, 1024, 1536]⟩
abbrev S1x1024x128 : Shape := ⟨3, ![1, 1024, 128]⟩
abbrev S2048x1536 : Shape := ⟨2, ![2048, 1536]⟩
abbrev S2048x128 : Shape := ⟨2, ![2048, 128]⟩
abbrev S1024x1536 : Shape := ⟨2, ![1024, 1536]⟩
abbrev S1024x128 : Shape := ⟨2, ![1024, 128]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S4x1024x12296, .f32⟩
  | .hbm, ⟨2, _⟩ => ⟨S4x1024x6144, .f32⟩
  | .hbm, ⟨3, _⟩ => ⟨S4x1024x6144, .bf16⟩
  | .hbm, ⟨4, _⟩ => ⟨S4x1024x8, .f32⟩
  | .hbm, ⟨5, _⟩ => ⟨S_, .i32⟩
  | .hbm, ⟨6, _⟩ => ⟨S_, .f32⟩
  | .hbm, ⟨7, _⟩ => ⟨S4x1024x128, .f32⟩
  | .hbm, ⟨8, _⟩ => ⟨S4x1024x128, .bf16⟩
  | .hbm, ⟨9, _⟩ => ⟨S32768x1024, .f32⟩
  | .hbm, ⟨10, _⟩ => ⟨S32768x1024, .bf16⟩
  | .hbm, ⟨11, _⟩ => ⟨S32768x6144, .bf16⟩
  | .hbm, ⟨12, _⟩ => ⟨S32768x128, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x128, .bf16⟩
  | .local _ .vmem, ⟨5, _⟩ => ⟨S2048x1536, .bf16⟩
  | .local _ .vmem, ⟨6, _⟩ => ⟨S2048x1536, .bf16⟩
  | .local _ .vmem, ⟨7, _⟩ => ⟨S2048x128, .f32⟩
  | .local _ .vmem, ⟨8, _⟩ => ⟨S2048x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8x4096x1024 : Shape := ⟨3, ![8, 4096, 1024]⟩
abbrev S4x1024x12296 : Shape := ⟨3, ![4, 1024, 12296]⟩
abbrev S1x1024x12296 : Shape := ⟨3, ![1, 1024, 12296]⟩
abbrev S1024x12296 : Shape := ⟨2, ![1024, 12296]⟩
abbrev S8x4096x12296 : Shape := ⟨3, ![8, 4096, 12296]⟩
abbrev S8x4096x6144 : Shape := ⟨3, ![8, 4096, 6144]⟩
abbrev S32768x6144 : Shape := ⟨2, ![32768, 6144]⟩
abbrev S8x4096x8 : Shape := ⟨3, ![8, 4096, 8]⟩
abbrev S32768x8 : Shape := ⟨2, ![32768, 8]⟩
abbrev S_ : Shape := ⟨0, ![]⟩
abbrev S32768x128 : Shape := ⟨2, ![32768, 128]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024x12296, .f32⟩
  | .hbm, ⟨2, _⟩ => ⟨S1x1024x12296, .f32⟩
  | .hbm, ⟨3, _⟩ => ⟨S1024x12296, .f32⟩
  | .hbm, ⟨4, _⟩ => ⟨S8x4096x12296, .f32⟩
  | .hbm, ⟨5, _⟩ => ⟨S8x4096x6144, .f32⟩
  | .hbm, ⟨6, _⟩ => ⟨S32768x6144, .f32⟩
  | .hbm, ⟨7, _⟩ => ⟨S8x4096x8, .f32⟩
  | .hbm, ⟨8, _⟩ => ⟨S32768x8, .f32⟩
  | .hbm, ⟨9, _⟩ => ⟨S32768x6144, .bf16⟩
  | .hbm, ⟨10, _⟩ => ⟨S_, .i32⟩
  | .hbm, ⟨11, _⟩ => ⟨S_, .f32⟩
  | .hbm, ⟨12, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Rows.Base.lean ====
/-
  The row gather on the SparseCores: the program as the launch theorem sees it, the arrays, the blocks of 128 rows a
  subcore's pipeline moves, the two slots of its buffers, and the words of its loop (which slot, which block, which
  transfers a trip makes).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and none of them is a subcore's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
/-- The resources the proof is over. -/
abbrev MM (F : FTy → Type) : Type := MT nD τ sig (HIx 1) (Elt F) ℕ UU ℕ
abbrev EH : Emb UH (MM F) := embL

/-! ## The arrays -/

/-- The table's buffer, the row numbers' and the result's, as the device's host thread names them. -/
abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

/-- The vector subcore a task runs on. -/
abbrev thr (d : Dev nD) (i : grid0.Coords) : Thread nD τ := V d ((i 0).castLE hcore0) ((i 1).castLE hsub0)

abbrev xW : Memref sig .scVector .hbm S73728x2x128 .i32 := Memref.whole main_v0_scv
abbrev iW : Memref sig .scVector .hbm S1x16384 .i32 := Memref.whole main_v1_scv
abbrev oW : Memref sig .scVector .hbm S16384x2x128 .i32 := Memref.whole main_v2_scv
abbrev bW : Memref sig .scVector .vmem S2x1x128 .i32 := Memref.whole cc0_scoped0
abbrev rW : Memref sig .scVector .vmem S2x128x2x128 .i32 := Memref.whole cc0_scoped2

/-- Row numbers `128 n … 128 n + 127`, and rows `128 n … 128 n + 127` of the result. -/
def iSet (n : ℕ) : Finset S1x16384.Idx := Finset.univ.filter fun x => (x 1).val / 128 = n
def oSet (n : ℕ) : Finset S16384x2x128.Idx := Finset.univ.filter fun x => (x 0).val / 128 = n

/-- Slot `p` of the buffer of row numbers and of the buffer of rows. -/
def bSet (p : Fin 2) : Finset S2x1x128.Idx := Finset.univ.filter fun x => (x 0).val = p.val
def rSet (p : Fin 2) : Finset S2x128x2x128.Idx := Finset.univ.filter fun x => (x 0).val = p.val

/-! ## The windows, at an offset -/

/-- A block of row numbers, a block of the result, a slot of each buffer and a slot's semaphores, at the offset given. -/
abbrev iAt (off : Fin 2 → ℕ) (h : ∀ a, off a + S1x128.size a ≤ S1x16384.size a) : Memref sig .scVector .hbm S1x128 .i32 :=
  iW.slice (Rect.unit (s := S1x16384) off S1x128.size h) (fun _ => rfl)
abbrev oAt (off : Fin 3 → ℕ) (h : ∀ a, off a + S128x2x128.size a ≤ S16384x2x128.size a) : Memref sig .scVector .hbm S128x2x128 .i32 :=
  oW.slice (Rect.unit (s := S16384x2x128) off S128x2x128.size h) (fun _ => rfl)
abbrev bAt (off : Fin 3 → ℕ) (h : ∀ a, off a + S1x1x128.size a ≤ S2x1x128.size a) : Memref sig .scVector .vmem S1x128 .i32 :=
  (bW.slice (Rect.unit (s := S2x1x128) off S1x1x128.size h) (fun _ => rfl)).squeeze S1x128 squeezes_S1x1x128_S1x128
abbrev rAt (off : Fin 4 → ℕ) (h : ∀ a, off a + S1x128x2x128.size a ≤ S2x128x2x128.size a) : Memref sig .scVector .vmem S128x2x128 .i32 :=
  (rW.slice (Rect.unit (s := S2x128x2x128) off S1x128x2x128.size h) (fun _ => rfl)).squeeze S128x2x128 squeezes_S1x128x2x128_S128x2x128
abbrev inAt (off : Fin 1 → ℕ) (h : ∀ a, off a + S1.size a ≤ S2.size a) : DmaSem sig :=
  ((cc0_scoped1.slice (Rect.unit (s := S2) off S1.size h)).squeeze S_ squeezes_S1_S_).sem
abbrev outAt (off : Fin 1 → ℕ) (h : ∀ a, off a + S1.size a ≤ S2.size a) : DmaSem sig :=
  ((cc0_scoped3.slice (Rect.unit (s := S2) off S1.size h)).squeeze S_ squeezes_S1_S_).sem
/-- A slot's row numbers as the indirect transfer reads them, and the table as it reads it. -/
abbrev lAt (off : Fin 3 → ℕ) (h : ∀ a, off a + S1x1x128.size a ≤ S2x1x128.size a) : Memref sig .scVector .vmem S128 .i32 :=
  ((bAt off h).slice (Rect.unit (s := S1x128) ![0, 0] S1x128.size inb_S1x128_S1x128_0_0) (fun _ => rfl)).squeeze S128 squeezes_S1x128_S128
abbrev xAll : Memref sig .scVector .hbm S73728x2x128 .i32 :=
  xW.slice (Rect.unit (s := S73728x2x128) ![0, 0, 0] S73728x2x128.size inb_S73728x2x128_S73728x2x128_0_0_0) (fun _ => rfl)

/-- Slot `p`'s window lies in its buffer. -/
theorem bInb (p : Fin 2) : ∀ a, (![p.val, 0, 0] : Fin 3 → ℕ) a + S1x1x128.size a ≤ S2x1x128.size a := by revert p; decide
theorem rInb (p : Fin 2) : ∀ a, (![p.val, 0, 0, 0] : Fin 4 → ℕ) a + S1x128x2x128.size a ≤ S2x128x2x128.size a := by revert p; decide
theorem sInb (p : Fin 2) : ∀ a, (![p.val] : Fin 1 → ℕ) a + S1.size a ≤ S2.size a := by revert p; decide

/-- Slot `p`'s semaphore for row numbers coming in, and for rows going out. -/
abbrev inSem (p : Fin 2) : DmaSem sig := inAt ![p.val] (sInb p)
abbrev outSem (p : Fin 2) : DmaSem sig := outAt ![p.val] (sInb p)

/-! ## The windows' elements -/

theorem iAt_set {off : Fin 2 → ℕ} (n : ℕ) (e : off = ![0, 128 * n]) (h) : (iAt off h).view.set = iSet n := by
  subst e
  show ((View.whole main_v1_scv).slice _).set = _
  rw [View.set_slice_whole]
  ext x
  rw [Rect.mem_set_unit]
  simp only [iSet, Finset.mem_filter, Finset.mem_univ, true_and]
  have h0 : (x 0).val < 1 := (x 0).isLt
  constructor
  · intro hx
    have := hx 1
    simp at this
    omega
  · intro hx a
    match a with
    | 0 => simp; omega
    | 1 => simp; omega

theorem oAt_set {off : Fin 3 → ℕ} (n : ℕ) (e : off = ![128 * n, 0, 0]) (h) : (oAt off h).view.set = oSet n := by
  subst e
  show ((View.whole main_v2_scv).slice _).set = _
  rw [View.set_slice_whole]
  ext x
  rw [Rect.mem_set_unit]
  simp only [oSet, Finset.mem_filter, Finset.mem_univ, true_and]
  have h1 : (x 1).val < 2 := (x 1).isLt
  have h2 : (x 2).val < 128 := (x 2).isLt
  constructor
  · intro hx
    have := hx 0
    simp at this
    omega
  · intro hx a
    match a with
    | 0 => simp; omega
    | 1 => simp; omega
    | 2 => simp; omega

theorem bAt_set (p : Fin 2) (h) : (bAt ![p.val, 0, 0] h).view.set = bSet p := by
  show (((View.whole cc0_scoped0).slice _).reshape _ _).set = _
  rw [View.set_reshape, View.set_slice_whole]
  ext x
  rw [Rect.mem_set_unit]
  simp only [bSet, Finset.mem_filter, Finset.mem_univ, true_and]
  have h1 : (x 1).val < 1 := (x 1).isLt
  have h2 : (x 2).val < 128 := (x 2).isLt
  constructor
  · intro hx
    have := hx 0
    simp at this
    omega
  · intro hx a
    match a with
    | 0 => simp; omega
    | 1 => simp; omega
    | 2 => simp; omega

theorem rAt_set (p : Fin 2) (h) : (rAt ![p.val, 0, 0, 0] h).view.set = rSet p := by
  show (((View.whole cc0_scoped2).slice _).reshape _ _).set = _
  rw [View.set_reshape, View.set_slice_whole]
  ext x
  rw [Rect.mem_set_unit]
  simp only [rSet, Finset.mem_filter, Finset.mem_univ, true_and]
  have h1 : (x 1).val < 128 := (x 1).isLt
  have h2 : (x 2).val < 2 := (x 2).isLt
  have h3 : (x 3).val < 128 := (x 3).isLt
  constructor
  · intro hx
    have := hx 0
    simp at this
    omega
  · intro hx a
    match a with
    | 0 => simp; omega
    | 1 => simp; omega
    | 2 => simp; omega
    | 3 => simp; omega

/-- The list the indirect transfer reads covers the slot it lies in. -/
theorem lAt_set (p : Fin 2) (h) : (lAt ![p.val, 0, 0] h).view.set = bSet p := by
  rw [← bAt_set p h]
  show (((bAt ![p.val, 0, 0] h).view.slice _).reshape _ _).set = _
  rw [View.set_reshape, View.set_slice]
  rw [show (Rect.unit (s := S1x128) ![0, 0] S1x128.size inb_S1x128_S1x128_0_0).set = Finset.univ from by
    ext x
    rw [Rect.mem_set_unit]
    have h0 : (x 0).val < 1 := (x 0).isLt
    have h1 : (x 1).val < 128 := (x 1).isLt
    refine ⟨fun _ => Finset.mem_univ _, fun _ a => ?_⟩
    match a with
    | 0 => simp; omega
    | 1 => simp; omega]
  rfl

theorem xAll_set : (xAll).view.set = Finset.univ := by
  show ((View.whole main_v0_scv).slice _).set = _
  rw [View.set_slice_whole]
  ext x
  rw [Rect.mem_set_unit]
  have h0 : (x 0).val < 73728 := (x 0).isLt
  have h1 : (x 1).val < 2 := (x 1).isLt
  have h2 : (x 2).val < 128 := (x 2).isLt
  refine ⟨fun _ => Finset.mem_univ _, fun _ a => ?_⟩
  match a with
  | 0 => simp; omega
  | 1 => simp; omega
  | 2 => simp; omega

/-! ## The words of the loop -/

/-- A subcore's first block: it moves blocks `4 s + 64 c … 4 s + 64 c + 3`. -/
def base (i : grid0.Coords) : ℕ := 4 * (i 1).val + 64 * (i 0).val
/-- The word the program holds it in. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 4#32

theorem trips_eq : k0_t1_loop.trips = 4 := by decide +kernel

/-- The words the loop carries into trip `k`: the block to fetch next, the block to read, the block to fill, the block
    to wait for, and the trip's own number within the subcore's four. -/
def w6 (k : ℕ) : BitVec 32 := BitVec.ofNat 32 (min (k + 1) 4)
def w7 (k : ℕ) : BitVec 32 := BitVec.ofNat 32 k
def w8 (k : ℕ) : BitVec 32 := BitVec.ofNat 32 k
def w9 (k : ℕ) : BitVec 32 := BitVec.ofNat 32 (k - 1)
def w10 (k : ℕ) : BitVec 32 := BitVec.ofNat 32 (k % 4)

/-- Which slot block `k` uses. -/
def par (k : ℕ) : Fin 2 := ⟨k % 2, Nat.mod_lt _ (by decide)⟩
theorem par_add_two (k : ℕ) : par (k + 2) = par k := Fin.ext (by simp [par])

/-- A fetch is made on every trip but the last; a write-out is waited for on every trip but the first. -/
theorem cond1_eq : ∀ (i : grid0.Coords) (t : Fin k0_t1_loop.trips), (k0_cond1 i t (w10 t.val) = 1#1) = (t.val < 3) := by
  have : ∀ (i : grid0.Coords) (t : Fin k0_t1_loop.trips), (k0_cond1 i t (w10 t.val) = 1#1) ↔ (t.val < 3) := by decide +kernel
  exact fun i t => propext (this i t)
theorem cond2_eq : ∀ (i : grid0.Coords) (t : Fin k0_t1_loop.trips), k0_cond2 i t (w10 t.val) = 1#1 := by decide +kernel
theorem cond5_eq : ∀ (i : grid0.Coords) (t : Fin k0_t1_loop.trips), k0_cond5 i t (w10 t.val) = 1#1 := by decide +kernel
theorem cond7_eq : ∀ (i : grid0.Coords) (t : Fin k0_t1_loop.trips), (k0_cond7 i t (w10 t.val) = 1#1) = (t.val ≠ 0) := by
  have : ∀ (i : grid0.Coords) (t : Fin k0_t1_loop.trips), (k0_cond7 i t (w10 t.val) = 1#1) ↔ (t.val ≠ 0) := by decide +kernel
  exact fun i t => propext (this i t)

theorem off4_eq : ∀ (t : Fin k0_t1_loop.trips), t.val < 3 → k0_off4 (w6 t.val) = ![(par (t.val + 1)).val, 0, 0] := by decide +kernel
theorem off5_eq : ∀ (i : grid0.Coords) (t : Fin k0_t1_loop.trips), t.val < 3 → k0_off5 i (w10 t.val) = ![0, 128 * (base i + (t.val + 1))] := by decide +kernel
theorem off6_eq : ∀ (t : Fin k0_t1_loop.trips), t.val < 3 → k0_off6 (w6 t.val) = ![(par (t.val + 1)).val] := by decide +kernel
theorem off7_eq : ∀ (t : Fin k0_t1_loop.trips), k0_off7 (w7 t.val) = ![(par t.val).val, 0, 0] := by decide +kernel
theorem off8_eq : ∀ (i : grid0.Coords) (t : Fin k0_t1_loop.trips), k0_off8 i (w10 t.val) = ![0, 128 * (base i + t.val)] := by decide +kernel
theorem off9_eq : ∀ (t : Fin k0_t1_loop.trips), k0_off9 (w7 t.val) = ![(par t.val).val] := by decide +kernel
theorem off10_eq : ∀ (t : Fin k0_t1_loop.trips), k0_off10 (w8 t.val) = ![(par t.val).val, 0, 0, 0] := by decide +kernel
theorem off11_eq : ∀ (t : Fin k0_t1_loop.trips), k0_off11 (w7 t.val) = ![(par t.val).val, 0, 0] := by decide +kernel
theorem off12_eq : ∀ (t : Fin k0_t1_loop.trips), k0_off12 (w8 t.val) = ![(par t.val).val, 0, 0, 0] := by decide +kernel
theorem off13_eq : ∀ (i : grid0.Coords) (t : Fin k0_t1_loop.trips), k0_off13 i (w10 t.val) = ![128 * (base i + t.val), 0, 0] := by decide +kernel
theorem off14_eq : ∀ (t : Fin k0_t1_loop.trips), k0_off14 (w8 t.val) = ![(par t.val).val] := by decide +kernel
theorem off15_eq : ∀ (t : Fin k0_t1_loop.trips), t.val ≠ 0 → k0_off15 (w9 t.val) = ![(par (t.val - 1)).val, 0, 0, 0] := by decide +kernel
theorem off17_eq : ∀ (t : Fin k0_t1_loop.trips), t.val ≠ 0 → k0_off17 (w9 t.val) = ![(par (t.val - 1)).val] := by decide +kernel
theorem off20_eq : k0_off20 (w9 4) = ![(par 3).val] := by decide +kernel

/-- The side conditions of a trip's windows hold. -/
theorem chk1_ok : ∀ (i : grid0.Coords) (t : Fin k0_t1_loop.trips), k0_chk1 i t (w6 t.val) (w7 t.val) (w8 t.val) (w9 t.val) (w10 t.val) := by decide +kernel
theorem chk2_ok : ∀ (t : Fin k0_t1_loop.trips), k0_chk2 (w8 t.val) := by decide +kernel
theorem chk3_ok : ∀ (t : Fin k0_t1_loop.trips), k0_chk3 (w7 t.val) := by decide +kernel
theorem chk4_ok : k0_chk4 (w9 4) := by decide +kernel
theorem chk5_ok : ∀ (i : grid0.Coords), k0_chk5 i (w10 4) := by decide +kernel

end Cert.Proof.Rows

end
-- ==== Proof.Rows.Ops.lean ====
/-
  The row gather's transfers, each as a rule over the slot and the block it is about: fetching a block of row numbers,
  waiting for it, gathering the block's rows, writing them out, waiting for that.
-/
module

public import proofs.«01_k».proof.Proof.Rows.Base

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The values -/

/-- The row a row number names (below the table's 73728; a larger number would name the last). -/
def rowNo (w : BitVec 32) : Fin 73728 := ⟨min w.toNat 73727, by omega⟩
/-- The gathered rows: row `r` is the table's row that the `r`-th row number names. -/
def gathered (X : S73728x2x128.Idx → BitVec 32) (I : S1x16384.Idx → BitVec 32) : S16384x2x128.Idx → BitVec 32 :=
  fun y => X (ix3 (rowNo (I (ix2 (0 : Fin 1) (y 0 : Fin 16384)))) (y 1 : Fin 2) (y 2 : Fin 128))
/-- Every row number is one of the table's. -/
def InRange (I : S1x16384.Idx → BitVec 32) : Prop := ∀ y, (I y).toNat < 73728

section
variable (X : S73728x2x128.Idx → BitVec 32) (I : S1x16384.Idx → BitVec 32) (d : Dev nD) (i : grid0.Coords)

/-! ## What a subcore holds -/

/-- Block `n` of the row numbers; of the result, at some contents; the table, at share `q`. -/
def idxPts (n : ℕ) : sProp (MM F) := iLoc d ↦[iSet n]{fullShare} (I : Buf (Elt F) (iLoc d))
def outPts (n : ℕ) (f : S16384x2x128.Idx → BitVec 32) : sProp (MM F) := oLoc d ↦[oSet n]{fullShare} (f : Buf (Elt F) (oLoc d))
def tblPts (q : PosShare TreeShare) : sProp (MM F) := xLoc d ↦{q} (X : Buf (Elt F) (xLoc d))

/-- Slot `p` of the row-number buffer at contents `f`, and of the row buffer. -/
def bPts (p : Fin 2) (f : S2x1x128.Idx → BitVec 32) : sProp (MM F) := (thr d i).loc cc0_scoped0 ↦[bSet p]{fullShare} (f : Buf (Elt F) ((thr d i).loc cc0_scoped0))
def rPts (p : Fin 2) (f : S2x128x2x128.Idx → BitVec 32) : sProp (MM F) := (thr d i).loc cc0_scoped2 ↦[rSet p]{fullShare} (f : Buf (Elt F) ((thr d i).loc cc0_scoped2))

/-- A slot no transfer is using. -/
def bFree (p : Fin 2) : sProp (MM F) := iprop((∃ f, bPts d i p f) ∗ semVal (thr d i, .dma (inSem p)) 0)
def rFree (p : Fin 2) : sProp (MM F) := iprop((∃ f, rPts d i p f) ∗ semVal (thr d i, .dma (outSem p)) 0)

/-- Slot `p` of the row-number buffer holds block `n`. -/
def Holds (p : Fin 2) (n : ℕ) (f : S2x1x128.Idx → BitVec 32) : Prop :=
  ∀ (x : S2x1x128.Idx) (y : S1x16384.Idx), (x 0).val = p.val → (y 1).val = 128 * n + (x 2).val → f x = I y
/-- Slot `p` of the row buffer holds block `n` of the gathered rows. -/
def HoldsRows (p : Fin 2) (n : ℕ) (f : S2x128x2x128.Idx → BitVec 32) : Prop :=
  ∀ (x : S2x128x2x128.Idx) (y : S16384x2x128.Idx), (x 0).val = p.val → (y 0).val = 128 * n + (x 1).val → (y 1).val = (x 2).val → (y 2).val = (x 3).val →
    f x = gathered X I y

/-- What a block of row numbers, and a block of rows, credit their semaphores. -/
def bN : ℕ := (bAt ![0, 0, 0] (bInb 0)).view.dmaCredit
def oN : ℕ := (oAt ![0, 0, 0] (by decide)).view.dmaCredit
def rN : ℕ := (rAt ![0, 0, 0, 0] (rInb 0)).view.dmaCredit

/-- Block `n` of the row numbers is on its way into slot `p`. -/
def inFly (p : Fin 2) (n : ℕ) : sProp (MM F) :=
  Transfers.Flight countersEmb (thr d i) (.dma (inSem p)) (default : HIx 1) bN iprop((∃ f, ⌜Holds I p n f⌝ ∗ bPts d i p f) ∗ idxPts I d n)
/-- Slot `p` of the row buffer is on its way out into block `n` of the result. -/
def outFly (p : Fin 2) (n : ℕ) : sProp (MM F) :=
  Transfers.Flight countersEmb (thr d i) (.dma (outSem p)) (default : HIx 1) oN iprop(outPts d n (gathered X I) ∗ ∃ f, rPts d i p f)

/-! ## Where the windows' elements lie -/

theorem iAt_emb {off : Fin 2 → ℕ} (h) (x : S1x128.Idx) (a : Fin 2) : (((iAt off h).view.emb x : S1x16384.Idx) a : ℕ) = off a + (x a).val := by
  show ((Rect.unit (s := S1x16384) off S1x128.size h).emb x a : ℕ) = _
  rw [Rect.emb_apply]; simp

theorem oAt_emb {off : Fin 3 → ℕ} (h) (x : S128x2x128.Idx) (a : Fin 3) : (((oAt off h).view.emb x : S16384x2x128.Idx) a : ℕ) = off a + (x a).val := by
  show ((Rect.unit (s := S16384x2x128) off S128x2x128.size h).emb x a : ℕ) = _
  rw [Rect.emb_apply]; simp

theorem xAll_emb (x : S73728x2x128.Idx) : ((xAll).view.emb x : S73728x2x128.Idx) = x := by
  funext a
  apply Fin.ext
  show ((Rect.unit (s := S73728x2x128) ![0, 0, 0] S73728x2x128.size inb_S73728x2x128_S73728x2x128_0_0_0).emb x a : ℕ) = _
  rw [Rect.emb_apply]
  match a with
  | 0 => simp
  | 1 => simp
  | 2 => simp

theorem bAt_emb {off : Fin 3 → ℕ} (h) (l : Fin 1) (x : Fin 128) :
    (((bAt off h).view.emb (ix2 l x) : S2x1x128.Idx) 0 : ℕ) = off 0 ∧ (((bAt off h).view.emb (ix2 l x) : S2x1x128.Idx) 2 : ℕ) = off 2 + x.val := by
  have e : ((bAt off h).view.emb (ix2 l x) : S2x1x128.Idx)
      = (Rect.unit (s := S2x1x128) off S1x1x128.size h).emb (ix3 (0 : Fin 1) l x) := by
    show (Rect.unit (s := S2x1x128) off S1x1x128.size h).emb (Shape.reshapeEquiv _ (ix2 l x)) = _
    rw [reshapeEquiv_ix2_1ab]
    rfl
  rw [e]
  constructor
  · show off 0 + 1 * 0 = off 0
    omega
  · show off 2 + 1 * x.val = _
    omega

theorem lAt_emb {off : Fin 3 → ℕ} (h) (x : S128.Idx) :
    (((lAt off h).view.emb x : S2x1x128.Idx) 0 : ℕ) = off 0 ∧ (((lAt off h).view.emb x : S2x1x128.Idx) 2 : ℕ) = off 2 + (x 0).val := by
  have e : ((lAt off h).view.emb x : S2x1x128.Idx) = (bAt off h).view.emb (ix2 (0 : Fin 1) (x 0 : Fin 128)) := by
    show (bAt off h).view.emb ((Rect.unit (s := S1x128) ![0, 0] S1x128.size inb_S1x128_S1x128_0_0).emb (Shape.reshapeEquiv _ x)) = _
    congr 1
    have e1 : Shape.reshapeEquiv squeezes_S1x128_S128.numel_eq x = ix2 (0 : Fin 1) (x 0 : Fin 128) := by
      apply Shape.reshapeEquiv_eq_of_rowMajor
      refine (Shape.rowMajor_val_two _).trans (Eq.trans ?_ (Shape.rowMajor_val_one _).symm)
      show 0 * 128 + (x 0).val = (x 0).val
      omega
    rw [e1]
    funext a
    apply Fin.ext
    match a with
    | 0 => rfl
    | 1 =>
      show 0 + 1 * (x 0).val = (x 0).val
      omega
  rw [e]
  exact bAt_emb h _ _

theorem rAt_emb {off : Fin 4 → ℕ} (h) (x : S128x2x128.Idx) :
    (((rAt off h).view.emb x : S2x128x2x128.Idx) 0 : ℕ) = off 0 ∧ (((rAt off h).view.emb x : S2x128x2x128.Idx) 1 : ℕ) = off 1 + (x 0).val
      ∧ (((rAt off h).view.emb x : S2x128x2x128.Idx) 2 : ℕ) = off 2 + (x 1).val ∧ (((rAt off h).view.emb x : S2x128x2x128.Idx) 3 : ℕ) = off 3 + (x 2).val := by
  have ex : x = ix3 (x 0 : Fin 128) (x 1 : Fin 2) (x 2 : Fin 128) := by
    funext a
    match a with
    | 0 => rfl
    | 1 => rfl
    | 2 => rfl
  have e : ((rAt off h).view.emb x : S2x128x2x128.Idx)
      = (Rect.unit (s := S2x128x2x128) off S1x128x2x128.size h).emb (ix4 (0 : Fin 1) (x 0 : Fin 128) (x 1 : Fin 2) (x 2 : Fin 128)) := by
    show (Rect.unit (s := S2x128x2x128) off S1x128x2x128.size h).emb (Shape.reshapeEquiv _ x) = _
    congr 1
    conv_lhs => rw [ex]
    exact reshapeEquiv_ix3_1abc _ _ _ _
  rw [e]
  refine ⟨?_, ?_, ?_, ?_⟩
  · show off 0 + 1 * 0 = _
    omega
  · show off 1 + 1 * (x 0).val = _
    omega
  · show off 2 + 1 * (x 1).val = _
    omega
  · show off 3 + 1 * (x 2).val = _
    omega

/-! ## What the transfers leave -/

/-- A slot written with block `n` of the row numbers holds it. -/
theorem holds_fetch (p : Fin 2) (n : ℕ) (h4) (h5) (f : S2x1x128.Idx → BitVec 32) :
    Holds I p n ((bAt ![p.val, 0, 0] h4).view.write (Elt F) (f : Buf (Elt F) ((thr d i).loc cc0_scoped0))
      ((iAt ![0, 128 * n] h5).view.read (Elt F) (I : Buf (Elt F) (iLoc d))) Finset.univ) := by
  intro x y hx hy
  have hx1 : (x 1).val < 1 := (x 1).isLt
  have e : x = (bAt ![p.val, 0, 0] h4).view.emb (ix2 (0 : Fin 1) (x 2 : Fin 128)) := by
    obtain ⟨e0, e2⟩ := bAt_emb h4 (0 : Fin 1) (x 2 : Fin 128)
    have e1 : (((bAt ![p.val, 0, 0] h4).view.emb (ix2 (0 : Fin 1) (x 2 : Fin 128)) : S2x1x128.Idx) 1).val < 1 := Fin.isLt _
    funext a
    apply Fin.ext
    match a with
    | 0 => exact hx.trans e0.symm
    | 1 => omega
    | 2 => exact ((e2.trans (Nat.zero_add _))).symm
  rw [e, View.write_emb_of_mem _ _ (Finset.mem_univ _), View.read_apply]
  simp only [cast_eq]
  congr 1
  funext a
  apply Fin.ext
  rw [iAt_emb]
  match a with
  | 0 =>
    have : (y 0).val < 1 := (y 0).isLt
    show 0 + 0 = (y 0).val
    omega
  | 1 => exact hy.symm

/-- What a slot holding a block's rows reads at is the gathered rows where the block's window lies. -/
theorem out_read (p : Fin 2) (n : ℕ) (h12) (h13) (f : S2x128x2x128.Idx → BitVec 32) (hf : HoldsRows X I p n f) (x : S128x2x128.Idx) :
    (rAt ![p.val, 0, 0, 0] h12).view.read (Elt F) (f : Buf (Elt F) ((thr d i).loc cc0_scoped2)) x
      = gathered X I ((oAt ![128 * n, 0, 0] h13).view.emb x) := by
  rw [View.read_apply]
  simp only [cast_eq]
  obtain ⟨e0, e1, e2, e3⟩ := rAt_emb h12 x
  refine hf _ _ e0 ?_ ?_ ?_
  · refine (oAt_emb h13 x 0).trans ?_
    show 128 * n + (x 0).val = _
    exact congrArg (128 * n + ·) (e1.trans (Nat.zero_add _)).symm
  · refine (oAt_emb h13 x 1).trans ?_
    exact (Nat.zero_add _).trans (e2.trans (Nat.zero_add _)).symm
  · refine (oAt_emb h13 x 2).trans ?_
    exact (Nat.zero_add _).trans (e3.trans (Nat.zero_add _)).symm

/-- The list read from a slot that holds a block of row numbers names rows of the table. -/
theorem list_inRange (hI : InRange I) (p : Fin 2) (n : ℕ) (hn : n < 128) (h11) (f : S2x1x128.Idx → BitVec 32) (hf : Holds I p n f) (x : S128.Idx) :
    (lAt ![p.val, 0, 0] h11).view.read (Elt F) (f : Buf (Elt F) ((thr d i).loc cc0_scoped0)) x
      = I (ix2 (0 : Fin 1) (⟨128 * n + (x 0).val, by have : (x 0).val < 128 := (x 0).isLt; omega⟩ : Fin 16384)) := by
  obtain ⟨e0, e2⟩ := lAt_emb h11 x
  rw [View.read_apply]
  simp only [cast_eq]
  exact hf _ _ e0 (congrArg (128 * n + ·) (e2.trans (Nat.zero_add _)).symm)

/-- A slot written with the gather through a slot's list holds the list's block of rows. -/
theorem holds_gather (hI : InRange I) (p : Fin 2) (n : ℕ) (hn : n < 128) (h10) (h11) (f : S2x1x128.Idx → BitVec 32) (hf : Holds I p n f)
    (g : S2x128x2x128.Idx → BitVec 32) (hnum : S128.numel = S128x2x128.size gathers_S73728x2x128_S128x2x128.axis')
    (hin : ∀ x, ((lAt ![p.val, 0, 0] h11).view.read (Elt F) (f : Buf (Elt F) ((thr d i).loc cc0_scoped0)) x).toNat
      < S73728x2x128.size gathers_S73728x2x128_S128x2x128.axis) :
    HoldsRows X I p n ((rAt ![p.val, 0, 0, 0] h10).view.write (Elt F) (g : Buf (Elt F) ((thr d i).loc cc0_scoped2))
      (SparseCore.gatherPayload gathers_S73728x2x128_S128x2x128 ((xAll).view.read (Elt F) (X : Buf (Elt F) (xLoc d)))
        (SparseCore.rows ((lAt ![p.val, 0, 0] h11).view.read (Elt F) (f : Buf (Elt F) ((thr d i).loc cc0_scoped0))) hnum hin)) Finset.univ) := by
  intro x y hx hy0 hy1 hy2
  have e : x = (rAt ![p.val, 0, 0, 0] h10).view.emb (ix3 (x 1 : Fin 128) (x 2 : Fin 2) (x 3 : Fin 128)) := by
    obtain ⟨e0, e1, e2, e3⟩ := rAt_emb h10 (ix3 (x 1 : Fin 128) (x 2 : Fin 2) (x 3 : Fin 128))
    funext a
    apply Fin.ext
    match a with
    | 0 => exact hx.trans e0.symm
    | 1 => exact (e1.trans (Nat.zero_add _)).symm
    | 2 => exact (e2.trans (Nat.zero_add _)).symm
    | 3 => exact (e3.trans (Nat.zero_add _)).symm
  rw [e, View.write_emb_of_mem _ _ (Finset.mem_univ _)]
  simp only [cast_eq, SparseCore.gatherPayload]
  rw [View.read_apply]
  simp only [cast_eq]
  rw [xAll_emb]
  unfold gathered
  congr 1
  funext a
  apply Fin.ext
  match a with
  | 0 =>
    refine (congrArg Fin.val (Shape.Gathers.idx_axis _ _ _)).trans ?_
    show (_ : BitVec 32).toNat = min _ _
    refine (congrArg BitVec.toNat (list_inRange I hI p n hn h11 f hf _)).trans ?_
    have hrow : ((S128.rowMajor.symm ((x 1 : Fin 128).cast rfl) : S128.Idx) 0).val = (x 1).val := by
      have h := Shape.rowMajor_val_one (d := ![128]) (S128.rowMajor.symm ((x 1 : Fin 128).cast rfl))
      rw [← h]
      exact congrArg Fin.val (S128.rowMajor.apply_symm_apply _)
    have hy : (y 0 : Fin 16384) = (⟨128 * n + ((S128.rowMajor.symm ((x 1 : Fin 128).cast rfl) : S128.Idx) 0).val, by
        have : (x 1).val < 128 := (x 1).isLt
        omega⟩ : Fin 16384) := Fin.ext (hy0.trans (congrArg (128 * n + ·) hrow.symm))
    rw [hy]
    refine (Nat.min_eq_left ?_).symm
    exact Nat.le_of_lt_succ (hI _)
  | 1 => exact (Shape.Gathers.idx_of_ne _ _ _ 1 (by decide)).trans hy1.symm
  | 2 => exact (Shape.Gathers.idx_of_ne _ _ _ 2 (by decide)).trans hy2.symm

end

end Cert.Proof.Rows

end
-- ==== Proof.Rows.Steps.lean ====
/-
  The rules of the row gather's transfers: fetching a block of row numbers into a slot, waiting for it, gathering the
  block's rows into a slot, writing them out, waiting for that.
-/
module

public import proofs.«01_k».proof.Proof.Rows.Ops

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable (X : S73728x2x128.Idx → BitVec 32) (I : S1x16384.Idx → BitVec 32) (d : Dev nD) (i : grid0.Coords)

/-- The weakest precondition of a subcore's program. -/
abbrev wpT {α : Type} (prog : Prog (TpuEff nD τ sig (Elt F) Λ₀ (thr d i).2) α) (Q : α → sProp (MM F)) : sProp (MM F) :=
  wp frame (wpE (defs₀ (F := F)) 𝒱₀ (thr d i) none) Set.univ prog Q

/-! ## The buffers as the windows name them -/

theorem idxPts_eq (n : ℕ) (h5) :
    ((iAt ![0, 128 * n] h5).view.loc (thr d i) ↦[(iAt ![0, 128 * n] h5).view.set]{fullShare} I : sProp (MM F)) = idxPts I d n := by
  rw [iAt_set n rfl]; rfl
theorem outPts_eq (n : ℕ) (h13) (f) :
    ((oAt ![128 * n, 0, 0] h13).view.loc (thr d i) ↦[(oAt ![128 * n, 0, 0] h13).view.set]{fullShare} f : sProp (MM F)) = outPts d n f := by
  rw [oAt_set n rfl]; rfl
theorem bPts_eq (p : Fin 2) (h4) (f) :
    ((bAt ![p.val, 0, 0] h4).view.loc (thr d i) ↦[(bAt ![p.val, 0, 0] h4).view.set]{fullShare} f : sProp (MM F)) = bPts d i p f := by
  rw [bAt_set p]; rfl
theorem lPts_eq (p : Fin 2) (h4) (f) :
    ((lAt ![p.val, 0, 0] h4).view.loc (thr d i) ↦[(lAt ![p.val, 0, 0] h4).view.set]{fullShare} f : sProp (MM F)) = bPts d i p f := by
  rw [lAt_set p]; rfl
theorem rPts_eq (p : Fin 2) (h) (f) :
    ((rAt ![p.val, 0, 0, 0] h).view.loc (thr d i) ↦[(rAt ![p.val, 0, 0, 0] h).view.set]{fullShare} f : sProp (MM F)) = rPts d i p f := by
  rw [rAt_set p]; rfl
theorem xPts_eq (q : PosShare TreeShare) :
    ((xAll).view.loc (thr d i) ↦[(xAll).view.set]{q} X : sProp (MM F)) = tblPts X d q := by
  rw [xAll_set]; rfl

/-! ## The rules -/

/-- Fetching block `n` of the row numbers into the free slot `p` puts it on its way. -/
theorem wp_fetch (p : Fin 2) (n : ℕ) {o4 : Fin 3 → ℕ} {o5 : Fin 2 → ℕ} {o6 : Fin 1 → ℕ} (e4 : o4 = ![p.val, 0, 0]) (e5 : o5 = ![0, 128 * n]) (e6 : o6 = ![p.val])
    (h4) (h5) (h6) {hsrc} {hdst} {hsem} {Q : PUnit → sProp (MM F)} :
    iprop(bFree d i p ∗ idxPts I d n)
      ⊢ iprop((inFly I d i p n -∗ Q ⟨⟩)
        -∗ wpT d i (Prog.lift (.enqueueDma (iAt o5 h5) (.here (bAt o4 h4)) (.dma (inAt o6 h6)) hsrc hdst hsem)) Q) := by
  subst e4 e5 e6
  unfold bFree inFly
  iintro ⟨⟨⟨%f, Hb⟩, Hv⟩, Hi⟩ Hk
  ihave Hb := (Entails.of_eq (bPts_eq d i p h4 f).symm) $$ Hb
  ihave Hi := (Entails.of_eq (idxPts_eq I d i n h5).symm) $$ Hi
  iapply (Transfers.wp_dmaLocal countersEmb 𝒱₀ (thr d i) none (default : HIx 1) bN (rfl : (bAt ![p.val, 0, 0] h4).view.amount _ = _)
    (View.dmaCredit_pos _ (by decide)) (Finset.Subset.refl _)) $$ [Hb Hi Hv]
  · isplitl [Hi]; · iexact Hi
    isplitl [Hb]; · iexact Hb
    iexact Hv
  iintro Hf
  rw [wp_ret]; imodintro
  iapply Hk
  iapply (Transfers.Flight_mono countersEmb (thr d i) (by
    iintro ⟨Hb, Hi⟩
    isplitl [Hb]
    · iexists _
      isplitr
      swap
      · iapply (Entails.of_eq (bPts_eq d i p h4 _)); iexact Hb
      · ipureintro
        exact holds_fetch I p n h4 h5 f
    · iapply (Entails.of_eq (idxPts_eq I d i n h5)); iexact Hi)) $$ Hf

/-- Waiting for a block of row numbers: slot `p` holds it and is idle, the block is back. -/
theorem wp_fetched (p : Fin 2) (n : ℕ) {o7 : Fin 3 → ℕ} {o8 : Fin 2 → ℕ} {o9 : Fin 1 → ℕ} (e9 : o9 = ![p.val])
    (h7) (h8) (h9) {hsrc} {hdst} {O : CellTallies nD τ sig (HIx 1)} {W : Waits sig (HIx 1)} {Q : PUnit → sProp (MM F)} :
    iprop(inFly I d i p n ∗ owes (thr d i) O W ∗ Transfers.MayWaits (thr d i) (default : HIx 1) O)
      ⊢ iprop((iprop(((∃ f, ⌜Holds I p n f⌝ ∗ bPts d i p f) ∗ semVal (thr d i, .dma (inSem p)) 0) ∗ idxPts I d n
          ∗ owes (thr d i) O (insert (SemLoc.dma (inSem p), (default : HIx 1)) W)) -∗ Q ⟨⟩)
        -∗ wpT d i (Prog.lift (.waitDma2 (inAt o9 h9) (iAt o8 h8) (bAt o7 h7) hsrc hdst)) Q) := by
  subst e9
  unfold inFly
  iintro ⟨Hf, HO, #Hmw⟩ Hk
  iapply (Transfers.wp_waitLocalO countersEmb 𝒱₀ (thr d i) none (default : HIx 1) (rfl : (bAt o7 h7).view.dmaCredit = bN)) $$ [Hf HO]
  · isplitl [Hf]; · iexact Hf
    isplitl [HO]; · iexact HO
    iapply (Transfers.MayWaits.elim (SemLoc.dma (inSem p))) $$ Hmw
  iintro ⟨⟨Hb, Hi⟩, Hv, HO⟩
  rw [wp_ret]; imodintro
  iapply Hk
  isplitl [Hb Hv]
  · isplitl [Hb]; · iexact Hb
    iexact Hv
  isplitl [Hi]; · iexact Hi
  iexact HO

/-- Writing a slot that holds block `n`'s rows out to block `n` of the result puts it on its way. -/
theorem wp_writeOut (p : Fin 2) (n : ℕ) {o12 : Fin 4 → ℕ} {o13 : Fin 3 → ℕ} {o14 : Fin 1 → ℕ} (e12 : o12 = ![p.val, 0, 0, 0]) (e13 : o13 = ![128 * n, 0, 0])
    (e14 : o14 = ![p.val]) (h12) (h13) (h14) {hsrc} {hdst} {hsem} {g : S16384x2x128.Idx → BitVec 32} {Q : PUnit → sProp (MM F)} :
    iprop((∃ f, ⌜HoldsRows X I p n f⌝ ∗ rPts d i p f) ∗ semVal (thr d i, .dma (outSem p)) 0 ∗ outPts d n g)
      ⊢ iprop((outFly X I d i p n -∗ Q ⟨⟩)
        -∗ wpT d i (Prog.lift (.enqueueDma (rAt o12 h12) (.here (oAt o13 h13)) (.dma (outAt o14 h14)) hsrc hdst hsem)) Q) := by
  subst e12 e13 e14
  unfold outFly
  iintro ⟨⟨%f, %hf, Hr⟩, Hv, Ho⟩ Hk
  ihave Hr := (Entails.of_eq (rPts_eq d i p h12 f).symm) $$ Hr
  ihave Ho := (Entails.of_eq (outPts_eq d i n h13 g).symm) $$ Ho
  iapply (Transfers.wp_dmaLocal countersEmb 𝒱₀ (thr d i) none (default : HIx 1) oN (rfl : (oAt ![128 * n, 0, 0] h13).view.amount _ = _)
    (View.dmaCredit_pos _ (by decide)) (Finset.Subset.refl _)) $$ [Hr Ho Hv]
  · isplitl [Hr]; · iexact Hr
    isplitl [Ho]; · iexact Ho
    iexact Hv
  iintro Hf
  rw [wp_ret]; imodintro
  iapply Hk
  iapply (Transfers.Flight_mono countersEmb (thr d i) (by
    refine BIClass.sep_mono ?_ ?_
    · refine (Entails.of_eq ?_).trans (Entails.of_eq (outPts_eq d i n h13 (gathered X I)))
      refine pointsTo_congr (fun y hy => ?_)
      obtain ⟨x, -, rfl⟩ := Finset.mem_map.mp hy
      rw [View.write_emb_of_mem _ _ (Finset.mem_univ _)]
      simp only [cast_eq]
      exact out_read X I p n h12 h13 f hf x
    · iintro Hr
      iexists f
      iapply (Entails.of_eq (rPts_eq d i p h12 f)); iexact Hr)) $$ Hf

/-- Waiting for a write-out: slot `p` is free, the block of the result holds the gathered rows. -/
theorem wp_written (p : Fin 2) (n : ℕ) {o15 : Fin 4 → ℕ} {o16 : Fin 3 → ℕ} {o17 : Fin 1 → ℕ} (e17 : o17 = ![p.val])
    (h15) (h16) (h17) {hsrc} {hdst} {O : CellTallies nD τ sig (HIx 1)} {W : Waits sig (HIx 1)} {Q : PUnit → sProp (MM F)} :
    iprop(outFly X I d i p n ∗ owes (thr d i) O W ∗ Transfers.MayWaits (thr d i) (default : HIx 1) O)
      ⊢ iprop((iprop(rFree d i p ∗ outPts d n (gathered X I)
          ∗ owes (thr d i) O (insert (SemLoc.dma (outSem p), (default : HIx 1)) W)) -∗ Q ⟨⟩)
        -∗ wpT d i (Prog.lift (.waitDma2 (outAt o17 h17) (rAt o15 h15) (oAt o16 h16) hsrc hdst)) Q) := by
  subst e17
  unfold outFly rFree
  iintro ⟨Hf, HO, #Hmw⟩ Hk
  iapply (Transfers.wp_waitLocalO countersEmb 𝒱₀ (thr d i) none (default : HIx 1) (rfl : (oAt o16 h16).view.dmaCredit = oN)) $$ [Hf HO]
  · isplitl [Hf]; · iexact Hf
    isplitl [HO]; · iexact HO
    iapply (Transfers.MayWaits.elim (SemLoc.dma (outSem p))) $$ Hmw
  iintro ⟨⟨Ho, Hr⟩, Hv, HO⟩
  rw [wp_ret]; imodintro
  iapply Hk
  isplitl [Hr Hv]
  · isplitl [Hr]; · iexact Hr
    iexact Hv
  isplitl [Ho]; · iexact Ho
  iexact HO

/-- The gather's semaphore. -/
abbrev gSem : DmaSem sig := cc0_scoped4.sem

/-- The gather of block `n` through the list in slot `p` of the row numbers into slot `p` of the rows, and its wait. -/
theorem wp_gather (hI : InRange I) (p : Fin 2) (n : ℕ) (hn : n < 128) {o10 : Fin 4 → ℕ} {o11 : Fin 3 → ℕ} (e10 : o10 = ![p.val, 0, 0, 0]) (e11 : o11 = ![p.val, 0, 0])
    (h10) (h11) {hp} {hnum} {h1 : (xAll).view.WordExact} {h2} {h3} {h4} {h5} {h6} {q : PosShare TreeShare} {O : CellTallies nD τ sig (HIx 1)} {W : Waits sig (HIx 1)} {Q : PUnit → sProp (MM F)} :
    iprop((∃ f, ⌜Holds I p n f⌝ ∗ bPts d i p f) ∗ (∃ f, rPts d i p f) ∗ tblPts X d q ∗ semVal (thr d i, .dma gSem) 0
        ∗ owes (thr d i) O W ∗ Transfers.MayWaits (thr d i) (default : HIx 1) O)
      ⊢ iprop((iprop((∃ f, bPts d i p f) ∗ (∃ f, ⌜HoldsRows X I p n f⌝ ∗ rPts d i p f) ∗ tblPts X d q ∗ semVal (thr d i, .dma gSem) 0
          ∗ owes (thr d i) O (insert (SemLoc.dma gSem, (default : HIx 1)) W)) -∗ Q ⟨⟩)
        -∗ wpT d i (SparseCore.enqueueIndirectGather hp xAll (rAt o10 h10) gathers_S73728x2x128_S128x2x128 (lAt o11 h11) hnum gSem h1 h2 h3 h4)
            (fun _ => wpT d i (SparseCore.waitIndirectGather gSem xAll (rAt o10 h10) h5 h6) Q)) := by
  subst e10 e11
  simp only [wpT, ← wp_bind]
  iintro ⟨⟨%f, %hf, Hb⟩, ⟨%g, Hr⟩, Hx, Hv, HO, #Hmw⟩ Hk
  have hin : ∀ x, ((lAt ![p.val, 0, 0] h11).view.read (Elt F) (f : Buf (Elt F) ((thr d i).loc cc0_scoped0)) x).toNat
      < S73728x2x128.size gathers_S73728x2x128_S128x2x128.axis := by
    intro x
    rw [list_inRange I hI p n hn h11 f hf x]
    exact hI _
  ihave Hb := (Entails.of_eq (lPts_eq d i p h11 f).symm) $$ Hb
  ihave Hr := (Entails.of_eq (rPts_eq d i p h10 g).symm) $$ Hr
  ihave Hx := (Entails.of_eq (xPts_eq X d i q).symm) $$ Hx
  iapply (SparseCore.wp_indirectGatherLocal countersEmb 𝒱₀ (thr d i) none (default : HIx 1) rN
    (SparseCore.sum_rowCredit_eq_dmaCredit (rAt ![p.val, 0, 0, 0] h10) gathers_S73728x2x128_S128x2x128.axis' (fun _ => rfl)) (by decide) hin) $$ [Hx Hr Hb Hv]
  · isplitl [Hx]; · iexact Hx
    isplitl [Hr]; · iexact Hr
    isplitl [Hb]; · iexact Hb
    iexact Hv
  iintro Hf
  iapply (Transfers.wp_waitLocalO countersEmb 𝒱₀ (thr d i) none (default : HIx 1) (rfl : (rAt ![p.val, 0, 0, 0] h10).view.dmaCredit = rN)) $$ [Hf HO]
  · isplitl [Hf]; · iexact Hf
    isplitl [HO]; · iexact HO
    iapply (Transfers.MayWaits.elim (SemLoc.dma gSem)) $$ Hmw
  iintro ⟨⟨Hr, Hx, Hb⟩, Hv, HO⟩
  rw [wp_ret]; imodintro
  iapply Hk
  isplitl [Hb]
  · iexists f
    iapply (Entails.of_eq (lPts_eq d i p h11 f)); iexact Hb
  isplitl [Hr]
  · iexists _
    isplitr
    swap
    · iapply (Entails.of_eq (rPts_eq d i p h10 _)); iexact Hr
    · ipureintro
      exact holds_gather X I hI p n hn h10 h11 f hf g hnum hin
  isplitl [Hx]
  · iapply (Entails.of_eq (xPts_eq X d i q)); iexact Hx
  isplitl [Hv]; · iexact Hv
  iexact HO

end Cert.Proof.Rows

end
-- ==== Proof.Rows.Trip.lean ====
/-
  A trip of the row gather's loop: the next block of row numbers is sent for, this trip's block is waited for, its rows
  are gathered and sent out, and the last trip's rows are waited for.
-/
module

public import proofs.«01_k».proof.Proof.Rows.Steps

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable (X : S73728x2x128.Idx → BitVec 32) (I : S1x16384.Idx → BitVec 32) (d : Dev nD) (i : grid0.Coords)

/-! ## What a trip holds -/

/-- The words the loop carries into trip `k`. -/
abbrev carry (k : ℕ) : BitVec 32 × BitVec 32 × BitVec 32 × BitVec 32 × BitVec 32 := (w6 k, w7 k, w8 k, w9 k, w10 k)

/-- The blocks of row numbers not under way at trip `k`: all four but block `k`. -/
def idxRest (k : ℕ) : sProp (MM F) := bigSep ((Finset.range 4).erase k) fun j => idxPts I d (base i + j)
/-- Block `k` of the row numbers on its way in, while there is one; after the last the slot is free. -/
def inAhead (k : ℕ) : sProp (MM F) := if k < 4 then inFly I d i (par k) (base i + k) else bFree d i (par k)
/-- The block before `k` on its way out; before the first the slot is free. -/
def outBehind (k : ℕ) : sProp (MM F) := if k = 0 then rFree d i (par (k + 1)) else outFly X I d i (par (k - 1)) (base i + (k - 1))
/-- The result's blocks: those whose write-out is known to have landed, and those not yet written. -/
def outDone (k : ℕ) : sProp (MM F) := bigSep (Finset.range k) fun j => outPts d (base i + j) (gathered X I)
def outTodo (g : S16384x2x128.Idx → BitVec 32) (k : ℕ) : sProp (MM F) := bigSep (Finset.Ico k 4) fun j => outPts d (base i + j) g

/-- A subcore's waits so far: those it had, and its transfers'. -/
abbrev owesUp (O : CellTallies nD τ sig (HIx 1)) (W : Waits sig (HIx 1)) : sProp (MM F) :=
  iprop(∃ W', ⌜∀ p ∈ W', p ∈ W ∨ p.2 = none⌝ ∗ owes (thr d i) O W')

theorem owesUp_insert {O : CellTallies nD τ sig (HIx 1)} {W W' : Waits sig (HIx 1)} (h : ∀ p ∈ W', p ∈ W ∨ p.2 = none) (c : SemLoc sig) :
    (owes (thr d i) O (insert (c, (default : HIx 1)) W') : sProp (MM F)) ⊢ owesUp d i O W := by
  unfold owesUp
  iintro H
  iexists _
  isplitr
  swap
  · iexact H
  · ipureintro
    intro p hp
    rcases Finset.mem_insert.mp hp with hp | hp
    · exact .inr (hp ▸ rfl)
    · exact h p hp

/-- What the loop keeps. -/
def Inv (g : S16384x2x128.Idx → BitVec 32) (q : PosShare TreeShare) (O : CellTallies nD τ sig (HIx 1)) (W : Waits sig (HIx 1)) (k : ℕ) : sProp (MM F) :=
  iprop(tblPts X d q ∗ semVal (thr d i, .dma gSem) 0 ∗ inAhead I d i k ∗ bFree d i (par (k + 1)) ∗ idxRest I d i k
    ∗ outBehind X I d i k ∗ rFree d i (par k) ∗ outDone X I d i (k - 1) ∗ outTodo d i g k ∗ owesUp d i O W)

/-! ## The two conditional steps -/

/-- The fetch of the next block, made on every trip but the last. -/
theorem wp_fetchNext (t : Fin k0_t1_loop.trips) {h4 : k0_cond1 i t (w10 t.val) = 1#1 → ∀ a, k0_off4 (w6 t.val) a + S1x1x128.size a ≤ S2x1x128.size a}
    {h5 : k0_cond1 i t (w10 t.val) = 1#1 → ∀ a, k0_off5 i (w10 t.val) a + S1x128.size a ≤ S1x16384.size a}
    {h6 : k0_cond1 i t (w10 t.val) = 1#1 → ∀ a, k0_off6 (w6 t.val) a + S1.size a ≤ S2.size a} {α : Type} {k : Prog (TpuEff nD τ sig (Elt F) Λ₀ (thr d i).2) α} {Q : α → sProp (MM F)} :
    iprop(bFree d i (par (t.val + 1)) ∗ idxRest I d i t.val)
      ⊢ iprop((iprop(inAhead I d i (t.val + 1) ∗ bigSep (((Finset.range 4).erase (t.val + 1)).erase t.val) fun j => idxPts I d (base i + j)) -∗ wpT d i k Q)
        -∗ wpT d i (if h : k0_cond1 i t (w10 t.val) = 1#1 then
            (do
              Prog.lift (.enqueueDma (iAt (k0_off5 i (w10 t.val)) (h5 h)) (.here (bAt (k0_off4 (w6 t.val)) (h4 h)))
                (.dma (inAt (k0_off6 (w6 t.val)) (h6 h))) (View.wordExact_bits rfl) ((View.wordExact_bits rfl).reshape _ _) ⟨Or.inl rfl, trivial⟩)
              k)
          else k) Q) := by
  have ht : t.val < 4 := trips_eq ▸ t.isLt
  unfold idxRest inAhead
  by_cases hc : t.val < 3
  · rw [dif_pos ((cond1_eq i t).mpr hc), if_pos (by omega),
      SparseCore.bigSep_erase' (s := (Finset.range 4).erase t.val) (i := t.val + 1) (Finset.mem_erase.mpr ⟨by omega, Finset.mem_range.mpr (by omega)⟩),
      Finset.erase_right_comm]
    simp only [wpT, wp_bind, wp_pure]
    iintro ⟨Hb, Hi, Hr⟩ Hk
    iapply (wp_fetch I d i (par (t.val + 1)) (base i + (t.val + 1)) (off4_eq t hc) (off5_eq i t hc) (off6_eq t hc)) $$ [Hb Hi]
    · isplitl [Hb]; · iexact Hb
      iexact Hi
    iintro Hf
    iapply Hk
    isplitl [Hf]; · iexact Hf
    iexact Hr
  · rw [dif_neg (fun h => hc ((cond1_eq i t).mp h)), if_neg (by omega)]
    simp only [wpT, wp_pure]
    have e : ((Finset.range 4).erase (t.val + 1)).erase t.val = (Finset.range 4).erase t.val := by
      rw [Finset.erase_eq_of_notMem (s := Finset.range 4)]
      simp; omega
    rw [e]
    iintro ⟨Hb, Hi⟩ Hk
    iapply Hk
    isplitl [Hb]; · iexact Hb
    iexact Hi

/-- The wait for the rows sent out on the trip before, made on every trip but the first. -/
theorem wp_writtenPrev (t : Fin k0_t1_loop.trips) {h15 : k0_cond7 i t (w10 t.val) = 1#1 → ∀ a, k0_off15 (w9 t.val) a + S1x128x2x128.size a ≤ S2x128x2x128.size a}
    {h16 : k0_cond7 i t (w10 t.val) = 1#1 → ∀ a, k0_off16 i (w10 t.val) a + S128x2x128.size a ≤ S16384x2x128.size a}
    {h17 : k0_cond7 i t (w10 t.val) = 1#1 → ∀ a, k0_off17 (w9 t.val) a + S1.size a ≤ S2.size a}
    {O : CellTallies nD τ sig (HIx 1)} {W : Waits sig (HIx 1)} {α : Type} {k : Prog (TpuEff nD τ sig (Elt F) Λ₀ (thr d i).2) α} {Q : α → sProp (MM F)} :
    iprop(outBehind X I d i t.val ∗ outDone X I d i (t.val - 1) ∗ owesUp d i O W ∗ Transfers.MayWaits (thr d i) (default : HIx 1) O)
      ⊢ iprop((iprop(rFree d i (par (t.val + 1)) ∗ outDone X I d i t.val ∗ owesUp d i O W) -∗ wpT d i k Q)
        -∗ wpT d i (if h : k0_cond7 i t (w10 t.val) = 1#1 then
            (do
              Prog.lift (.waitDma2 (outAt (k0_off17 (w9 t.val)) (h17 h)) (rAt (k0_off15 (w9 t.val)) (h15 h)) (oAt (k0_off16 i (w10 t.val)) (h16 h)) ((View.wordExact_bits rfl).reshape _ _) (View.wordExact_bits rfl))
              k)
          else k) Q) := by
  have ht : t.val < 4 := trips_eq ▸ t.isLt
  unfold outBehind
  by_cases hc : t.val = 0
  · rw [dif_neg (fun h => ((cond7_eq i t).mp h) hc), if_pos hc]
    simp only [wpT, wp_pure]
    rw [hc]
    iintro ⟨Hb, Hd, HO, -⟩ Hk
    iapply Hk
    isplitl [Hb]; · iexact Hb
    isplitl [Hd]; · iexact Hd
    iexact HO
  · rw [dif_pos ((cond7_eq i t).mpr hc), if_neg hc]
    simp only [wpT, wp_bind, wp_pure]
    have e : par (t.val + 1) = par (t.val - 1) := by
      rw [show t.val + 1 = (t.val - 1) + 2 by omega, par_add_two]
    have e' : (outDone X I d i t.val : sProp (MM F)) = iprop(outPts d (base i + (t.val - 1)) (gathered X I) ∗ outDone X I d i (t.val - 1)) := by
      conv_lhs => rw [show t.val = (t.val - 1) + 1 by omega]
      unfold outDone
      rw [Finset.range_add_one, SparseCore.bigSep_insert' Finset.notMem_range_self]
    rw [e, e']
    unfold owesUp
    iintro ⟨Hf, Hd, ⟨%W', %hW', HO⟩, #Hmw⟩ Hk
    iapply (wp_written X I d i (par (t.val - 1)) (base i + (t.val - 1)) (off17_eq t hc)) $$ [Hf HO]
    · isplitl [Hf]; · iexact Hf
      isplitl [HO]; · iexact HO
      iexact Hmw
    iintro ⟨Hr, Ho, HO⟩
    iapply Hk
    isplitl [Hr]; · iexact Hr
    isplitl [Ho Hd]
    · isplitl [Ho]; · iexact Ho
      iexact Hd
    iapply (owesUp_insert d i hW' _) $$ HO

/-! ## The trip -/

/-- The word a trip's body starts its block from, and those of its neighbours. -/
abbrev here (i : grid0.Coords) (t : Fin k0_t1_loop.trips) : BitVec 32 := Scalar.addi (w10 t.val) (baseW i)
abbrev after (t : Fin k0_t1_loop.trips) : BitVec 32 := Scalar.select 1#1 (Scalar.addi (w10 t.val) 1#32) (w10 t.val)
abbrev before (t : Fin k0_t1_loop.trips) : BitVec 32 := Scalar.select 1#1 (Scalar.subi (w10 t.val) 1#32) (w10 t.val)
abbrev hereAfter (i : grid0.Coords) (t : Fin k0_t1_loop.trips) : BitVec 32 :=
  Scalar.addi (Scalar.select (Scalar.cmpi .eq (after t) 4#32) 0#32 (after t)) (baseW i)
abbrev hereBefore (i : grid0.Coords) (t : Fin k0_t1_loop.trips) : BitVec 32 :=
  Scalar.addi (Scalar.select (Scalar.cmpi .eq (before t) 4294967295#32) 3#32 (before t)) (baseW i)

/-- The words a trip hands on are the next trip's. -/
theorem next6 : ∀ (i : grid0.Coords) (t : Fin k0_t1_loop.trips),
    Scalar.select (Scalar.andi (Scalar.andi (Scalar.cmpi .ne (here i t) (hereAfter i t))
      (Scalar.xori (Scalar.cmpi .sge (Scf.iv 0#32 1#32 t) 3#32) 1#1)) 1#1) (Scalar.addi (w6 t.val) 1#32) (w6 t.val) = w6 (t.val + 1) := by decide +kernel
theorem last_ok : ∀ (i : grid0.Coords) (t : Fin k0_t1_loop.trips),
    Scalar.ori (Scalar.cmpi .ne (here i t) (hereAfter i t)) (Scalar.cmpi .eq (Scf.iv 0#32 1#32 t) 3#32) = 1#1 := by decide +kernel
theorem next9 : ∀ (i : grid0.Coords) (t : Fin k0_t1_loop.trips),
    Scalar.select (Scalar.andi (Scalar.andi (Scalar.cmpi .ne (here i t) (hereBefore i t))
      (Scalar.xori (Scalar.cmpi .eq (Scf.iv 0#32 1#32 t) 0#32) 1#1)) 1#1) (Scalar.addi (w9 t.val) 1#32) (w9 t.val) = w9 (t.val + 1) := by decide +kernel
theorem next7 : ∀ (t : Fin k0_t1_loop.trips), Scalar.select 1#1 (Scalar.addi (w7 t.val) 1#32) (w7 t.val) = w7 (t.val + 1) := by decide +kernel
theorem next8 : ∀ (t : Fin k0_t1_loop.trips), Scalar.select (Scalar.andi 1#1 1#1) (Scalar.addi (w8 t.val) 1#32) (w8 t.val) = w8 (t.val + 1) := by decide +kernel
theorem next10 : ∀ (t : Fin k0_t1_loop.trips), Scalar.select (Scalar.cmpi .eq (after t) 4#32) 0#32 (after t) = w10 (t.val + 1) := by decide +kernel

theorem wpT_pure {α : Type} {a : α} {Q : α → sProp (MM F)} : Q a ⊢ wpT d i (pure a) Q := by
  simp only [wpT, wp_pure]
  iintro H
  imodintro
  iexact H

set_option maxHeartbeats 4000000 in
/-- The first part of a trip: its side conditions hold, and the next block is sent for. -/
theorem wp_part1 (t : Fin k0_t1_loop.trips) {Q : _ → sProp (MM F)} :
    iprop(bFree d i (par (t.val + 1)) ∗ idxRest I d i t.val)
      ⊢ iprop((∀ r, ⌜r.2.2.2.2.2.2.2.2.2.1 = w6 (t.val + 1)
            ∧ Scalar.ori (Scalar.cmpi .ne r.2.2.2.2.2.2.1 r.2.2.2.2.2.2.2.2.1) r.2.2.2.2.2.1 = 1#1
            ∧ Scalar.select (Scalar.andi (Scalar.andi (Scalar.cmpi .ne r.2.2.2.2.2.2.1 r.2.2.2.2.2.2.2.1) (Scalar.xori r.2.2.2.2.1 1#1)) 1#1)
                (Scalar.addi (w9 t.val) 1#32) (w9 t.val) = w9 (t.val + 1)⌝
          -∗ iprop(inAhead I d i (t.val + 1) ∗ bigSep (((Finset.range 4).erase (t.val + 1)).erase t.val) fun j => idxPts I d (base i + j)) -∗ Q r)
        -∗ wpT d i (k0_part1 (F := F) i xW (Memref.isWhole_whole _) iW (Memref.isWhole_whole _) oW (Memref.isWhole_whole _) bW (Memref.isWhole_whole _) cc0_scoped1
          rW (Memref.isWhole_whole _) cc0_scoped3 cc0_scoped4 (baseW i) 0#32 1#32 t (w6 t.val) (w7 t.val) (w8 t.val) (w9 t.val) (w10 t.val)) Q) := by
  rw [k0_part1_eq_skeleton]
  unfold k0_part1_skel
  simp only [wpT, wp_bind, wp_pure]
  iintro H Hk
  iapply (wp_assume 𝒱₀ (thr d i) none Set.univ (chk3_ok t))
  rw [wp_ret]; imodintro
  iapply (wp_assume 𝒱₀ (thr d i) none Set.univ (chk2_ok t))
  rw [wp_ret]; imodintro
  iapply (wp_assume 𝒱₀ (thr d i) none Set.univ (chk1_ok i t))
  rw [wp_ret]; imodintro
  iapply (wp_fetchNext I d i t) $$ H
  iintro H
  iapply (wpT_pure d i)
  iapply Hk $$ [] H
  ipureintro
  dsimp only
  exact ⟨next6 i t, last_ok i t, next9 i t⟩

set_option maxHeartbeats 4000000 in
/-- The second part of a trip: this trip's block of row numbers is waited for, and its rows are gathered. -/
theorem wp_part2 (hI : InRange I) (t : Fin k0_t1_loop.trips) (q : PosShare TreeShare) {O : CellTallies nD τ sig (HIx 1)} {W : Waits sig (HIx 1)} (hw3 hw2 hw1) (a5 v64 v65 v66 v71 v76 v96) {Q : _ → sProp (MM F)} :
    iprop(inFly I d i (par t.val) (base i + t.val) ∗ (∃ f, rPts d i (par t.val) f) ∗ tblPts X d q ∗ semVal (thr d i, .dma gSem) 0
        ∗ owesUp d i O W ∗ Transfers.MayWaits (thr d i) (default : HIx 1) O)
      ⊢ iprop((∀ r, iprop(bFree d i (par t.val) ∗ idxPts I d (base i + t.val) ∗ (∃ f, ⌜HoldsRows X I (par t.val) (base i + t.val) f⌝ ∗ rPts d i (par t.val) f)
            ∗ tblPts X d q ∗ semVal (thr d i, .dma gSem) 0 ∗ owesUp d i O W) -∗ Q r)
        -∗ wpT d i (k0_part2 (F := F) i xW (Memref.isWhole_whole _) iW (Memref.isWhole_whole _) oW (Memref.isWhole_whole _) bW (Memref.isWhole_whole _) cc0_scoped1
          rW (Memref.isWhole_whole _) cc0_scoped3 cc0_scoped4 t (w6 t.val) (w7 t.val) (w8 t.val) (w9 t.val) (w10 t.val) hw3 hw2 hw1 a5 v64 v65 v66 v71 v76 v96) Q) := by
  have hb : base i + t.val < 128 := by
    have h0 : (i 0).val < 2 := (i 0).isLt
    have h1 : (i 1).val < 16 := (i 1).isLt
    have ht : t.val < 4 := trips_eq ▸ t.isLt
    unfold base; omega
  rw [k0_part2_eq_skeleton]
  unfold k0_part2_skel
  simp only [wpT, dif_pos (cond2_eq i t), wp_bind, wp_pure, ite_self]
  unfold owesUp
  iintro ⟨Hf, Hr, Hx, Hv, ⟨%W', %hW', HO⟩, #Hmw⟩ Hk
  iapply (wp_fetched I d i (par t.val) (base i + t.val) (off9_eq t)) $$ [Hf HO]
  · isplitl [Hf]; · iexact Hf
    isplitl [HO]; · iexact HO
    iexact Hmw
  iintro ⟨⟨Hb, Hs⟩, Hi, HO⟩
  iapply (wp_gather X I d i hI (par t.val) (base i + t.val) hb (off10_eq t) (off11_eq t)) $$ [Hb Hr Hx Hv HO]
  · isplitl [Hb]; · iexact Hb
    isplitl [Hr]; · iexact Hr
    isplitl [Hx]; · iexact Hx
    isplitl [Hv]; · iexact Hv
    isplitl [HO]; · iexact HO
    iexact Hmw
  iintro ⟨Hb, Hr, Hx, Hv, HO⟩
  imodintro
  iapply Hk
  isplitl [Hb Hs]
  · unfold bFree
    isplitl [Hb]; · iexact Hb
    iexact Hs
  isplitl [Hi]; · iexact Hi
  isplitl [Hr]; · iexact Hr
  isplitl [Hx]; · iexact Hx
  isplitl [Hv]; · iexact Hv
  iapply (owesUp_insert d i (W' := insert _ W') ?_ _) $$ HO
  intro p hp
  rcases Finset.mem_insert.mp hp with hp | hp
  · exact .inr (hp ▸ rfl)
  · exact hW' p hp

set_option maxHeartbeats 4000000 in
/-- A trip takes the loop's resources at `t` to those at `t + 1`. -/
theorem trip (hI : InRange I) (g : S16384x2x128.Idx → BitVec 32) (q : PosShare TreeShare) (O : CellTallies nD τ sig (HIx 1)) (W : Waits sig (HIx 1))
    (t : Fin k0_t1_loop.trips) :
    iprop(Inv X I d i g q O W t.val ∗ Transfers.MayWaits (thr d i) (default : HIx 1) O)
      ⊢ wpT d i (k0_t1_body (F := F) i xW (Memref.isWhole_whole _) iW (Memref.isWhole_whole _) oW (Memref.isWhole_whole _) bW (Memref.isWhole_whole _) cc0_scoped1
          rW (Memref.isWhole_whole _) cc0_scoped3 cc0_scoped4 (baseW i) t (carry t.val))
        fun r => iprop(⌜r = carry (t.val + 1)⌝ ∗ Inv X I d i g q O W (t.val + 1)) := by
  have ht : t.val < 4 := trips_eq ▸ t.isLt
  unfold k0_t1_body
  simp only [wpT, dif_pos (cond5_eq i t), wp_bind, wp_pure, ite_self]
  have e1 : (inAhead I d i t.val : sProp (MM F)) = inFly I d i (par t.val) (base i + t.val) := if_pos ht
  have e2 : (idxRest I d i (t.val + 1) : sProp (MM F))
      = iprop(idxPts I d (base i + t.val) ∗ bigSep (((Finset.range 4).erase (t.val + 1)).erase t.val) fun j => idxPts I d (base i + j)) := by
    unfold idxRest
    rw [SparseCore.bigSep_erase' (s := (Finset.range 4).erase (t.val + 1)) (i := t.val) (Finset.mem_erase.mpr ⟨by omega, Finset.mem_range.mpr ht⟩)]
  have e3 : (outTodo d i g t.val : sProp (MM F)) = iprop(outPts d (base i + t.val) g ∗ outTodo d i g (t.val + 1)) := by
    unfold outTodo
    rw [← Finset.insert_Ico_add_one_left_eq_Ico ht, SparseCore.bigSep_insert' (by simp)]
  have e4 : (outBehind X I d i (t.val + 1) : sProp (MM F)) = outFly X I d i (par t.val) (base i + t.val) := if_neg (by omega)
  have e5 : par (t.val + 1 + 1) = par t.val := par_add_two _
  unfold Inv
  rw [e1, e2, e3, e4, e5, Nat.add_sub_cancel]
  iintro ⟨⟨Hx, Hv, Hin, Hb, Hidx, Hout, Hr, Hdone, ⟨Ho, Htodo⟩, HO⟩, #Hmw⟩
  iapply (wp_part1 I d i t) $$ [Hb Hidx]
  · isplitl [Hb]; · iexact Hb
    iexact Hidx
  iintro %r %hr ⟨Hin', Hidx⟩
  obtain ⟨r3, r2, r1, a5, v64, v65, v66, v71, v76, v91, v96⟩ := r
  dsimp only at hr ⊢
  obtain ⟨h91, h65, h9⟩ := hr
  unfold rFree
  icases Hr with ⟨Hr, Hrs⟩
  iapply (wp_part2 X I d i hI t q r3 r2 r1 a5 v64 v65 v66 v71 v76 v96) $$ [Hin Hr Hx Hv HO]
  · isplitl [Hin]; · iexact Hin
    isplitl [Hr]; · iexact Hr
    isplitl [Hx]; · iexact Hx
    isplitl [Hv]; · iexact Hv
    isplitl [HO]; · iexact HO
    iexact Hmw
  iintro %r' ⟨Hb, Hi, Hr, Hx, Hv, HO⟩
  iapply (wp_writeOut X I d i (par t.val) (base i + t.val) (off12_eq t) (off13_eq i t) (off14_eq t)) $$ [Hr Hrs Ho]
  · isplitl [Hr]; · iexact Hr
    isplitl [Hrs]; · iexact Hrs
    iexact Ho
  iintro Hfly
  iapply (wp_writtenPrev X I d i t) $$ [Hout Hdone HO]
  · isplitl [Hout]; · iexact Hout
    isplitl [Hdone]; · iexact Hdone
    isplitl [HO]; · iexact HO
    iexact Hmw
  iintro ⟨Hr, Hdone, HO⟩
  iapply (wpT_pure d i)
  isplitr
  · ipureintro
    rw [h91, h9, h65, next7, next8, next10]
  isplitl [Hx]; · iexact Hx
  isplitl [Hv]; · iexact Hv
  isplitl [Hin']; · iexact Hin'
  isplitl [Hb]; · iexact Hb
  isplitl [Hi Hidx]
  · isplitl [Hi]; · iexact Hi
    iexact Hidx
  isplitl [Hfly]; · iexact Hfly
  isplitl [Hr]; · unfold rFree; iexact Hr
  isplitl [Hdone]; · iexact Hdone
  isplitl [Htodo]; · iexact Htodo
  iexact HO

end Cert.Proof.Rows

end
-- ==== Proof.Rows.Tile.lean ====
/-
  A subcore's whole task: the two buffers cut into slots, the first block of row numbers sent for, the loop, and the
  wait for the last block of rows.
-/
module

public import proofs.«01_k».proof.Proof.Rows.Trip

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
variable (X : S73728x2x128.Idx → BitVec 32) (I : S1x16384.Idx → BitVec 32) (d : Dev nD) (i : grid0.Coords)

/-! ## The subcore's own buffers and semaphores -/

abbrev bLoc (d : Dev nD) (i : grid0.Coords) : Loc nD τ sig := (thr d i).loc cc0_scoped0
abbrev rLoc (d : Dev nD) (i : grid0.Coords) : Loc nD τ sig := (thr d i).loc cc0_scoped2

theorem bSet_disj : ∀ p ∈ (Finset.univ : Finset (Fin 2)), ∀ p' ∈ (Finset.univ : Finset (Fin 2)), p ≠ p' → Disjoint (bSet p) (bSet p') := by
  intro p _ p' _ h
  refine Finset.disjoint_left.mpr fun x hx hx' => h (Fin.ext ?_)
  exact (Finset.mem_filter.mp hx).2.symm.trans (Finset.mem_filter.mp hx').2
theorem rSet_disj : ∀ p ∈ (Finset.univ : Finset (Fin 2)), ∀ p' ∈ (Finset.univ : Finset (Fin 2)), p ≠ p' → Disjoint (rSet p) (rSet p') := by
  intro p _ p' _ h
  refine Finset.disjoint_left.mpr fun x hx hx' => h (Fin.ext ?_)
  exact (Finset.mem_filter.mp hx).2.symm.trans (Finset.mem_filter.mp hx').2
theorem bSet_cover : (Finset.univ : Finset (Fin 2)).biUnion bSet = Finset.univ := by
  ext x
  refine ⟨fun _ => Finset.mem_univ _, fun _ => Finset.mem_biUnion.mpr ⟨⟨(x 0).val, (x 0).isLt⟩, Finset.mem_univ _, Finset.mem_filter.mpr ⟨Finset.mem_univ _, rfl⟩⟩⟩
theorem rSet_cover : (Finset.univ : Finset (Fin 2)).biUnion rSet = Finset.univ := by
  ext x
  refine ⟨fun _ => Finset.mem_univ _, fun _ => Finset.mem_biUnion.mpr ⟨⟨(x 0).val, (x 0).isLt⟩, Finset.mem_univ _, Finset.mem_filter.mpr ⟨Finset.mem_univ _, rfl⟩⟩⟩

theorem two (Φ : Fin 2 → sProp (MM F)) : bigSep Finset.univ Φ = iprop(Φ 0 ∗ Φ 1) := bigSep_fin_two Φ

/-- A buffer held whole is its two slots. -/
theorem b_split (f : Buf (Elt F) (bLoc d i)) : (bLoc d i ↦{fullShare} f : sProp (MM F)) ⊢ iprop((∃ f, bPts d i 0 f) ∗ ∃ f, bPts d i 1 f) := by
  have e : (bLoc d i ↦{fullShare} f : sProp (MM F)) = bigSep Finset.univ fun p : Fin 2 => bLoc d i ↦[bSet p]{fullShare} f := by
    rw [← pointsTo_biUnion Finset.univ (ℓ := bLoc d i) bSet bSet_disj]
    exact congrArg (fun S => (bLoc d i ↦[S]{fullShare} f : sProp (MM F))) bSet_cover.symm
  unfold bPts
  rw [e, two]
  iintro ⟨H0, H1⟩
  isplitl [H0]
  · iexists f; iexact H0
  · iexists f; iexact H1
theorem r_split (f : Buf (Elt F) (rLoc d i)) : (rLoc d i ↦{fullShare} f : sProp (MM F)) ⊢ iprop((∃ f, rPts d i 0 f) ∗ ∃ f, rPts d i 1 f) := by
  have e : (rLoc d i ↦{fullShare} f : sProp (MM F)) = bigSep Finset.univ fun p : Fin 2 => rLoc d i ↦[rSet p]{fullShare} f := by
    rw [← pointsTo_biUnion Finset.univ (ℓ := rLoc d i) rSet rSet_disj]
    exact congrArg (fun S => (rLoc d i ↦[S]{fullShare} f : sProp (MM F))) rSet_cover.symm
  unfold rPts
  rw [e, two]
  iintro ⟨H0, H1⟩
  isplitl [H0]
  · iexists f; iexact H0
  · iexists f; iexact H1

/-- Its two slots, whatever they hold, are the buffer at some contents. -/
theorem b_join : (iprop((∃ f, bPts d i 0 f) ∗ ∃ f, bPts d i 1 f) : sProp (MM F)) ⊢ iprop(∃ f, bLoc d i ↦{fullShare} f) := by
  unfold bPts
  iintro ⟨⟨%f0, H0⟩, ⟨%f1, H1⟩⟩
  ihave H := (pointsTo_biUnion_join (ℓ := bLoc d i) (q := fullShare) (Val := Elt F) Finset.univ bSet
    (fun p : Fin 2 => if p = 0 then (f0 : Buf (Elt F) (bLoc d i)) else (f1 : Buf (Elt F) (bLoc d i))) f0 bSet_disj) $$ [H0 H1]
  · rw [two, if_pos rfl, if_neg (by decide)]
    isplitl [H0]
    · iexact H0
    · iexact H1
  icases H with ⟨%g, -, H⟩
  iexists g
  iapply (Entails.of_eq (congrArg (fun S => (bLoc d i ↦[S]{fullShare} g : sProp (MM F))) bSet_cover)) $$ H
theorem r_join : (iprop((∃ f, rPts d i 0 f) ∗ ∃ f, rPts d i 1 f) : sProp (MM F)) ⊢ iprop(∃ f, rLoc d i ↦{fullShare} f) := by
  unfold rPts
  iintro ⟨⟨%f0, H0⟩, ⟨%f1, H1⟩⟩
  ihave H := (pointsTo_biUnion_join (ℓ := rLoc d i) (q := fullShare) (Val := Elt F) Finset.univ rSet
    (fun p : Fin 2 => if p = 0 then (f0 : Buf (Elt F) (rLoc d i)) else (f1 : Buf (Elt F) (rLoc d i))) f0 rSet_disj) $$ [H0 H1]
  · rw [two, if_pos rfl, if_neg (by decide)]
    isplitl [H0]
    · iexact H0
    · iexact H1
  icases H with ⟨%g, -, H⟩
  iexists g
  iapply (Entails.of_eq (congrArg (fun S => (rLoc d i ↦[S]{fullShare} g : sProp (MM F))) rSet_cover)) $$ H

/-- The cells of the five semaphores. -/
abbrev inCell (p : Fin 2) : GSem nD τ sig := (thr d i, .dma (inSem p))
abbrev outCell (p : Fin 2) : GSem nD τ sig := (thr d i, .dma (outSem p))
abbrev gCell : GSem nD τ sig := (thr d i, .dma gSem)

/-- The subcore's other cells, and its other buffers. -/
def otherCells : sProp (MM F) :=
  bigSep ((((((ownCells (thr d i)).erase (inCell d i 0)).erase (inCell d i 1)).erase (outCell d i 0)).erase (outCell d i 1)).erase (gCell d i)) fun g => semVal g 0
def otherBufs : sProp (MM F) :=
  bigSep (((ownRefs (τ := τ) (thr d i).2).erase ((thr d i).2.devRef cc0_scoped0)).erase ((thr d i).2.devRef cc0_scoped2))
    fun b => iprop(∃ f, ((d, b) : Loc nD τ sig) ↦{fullShare} f)

theorem cell_ne {s s' : DmaSem sig} (h : s ≠ s') : ((thr d i, .dma s) : GSem nD τ sig) ≠ (thr d i, .dma s') :=
  fun e => h (SemLoc.dma.inj (Prod.mk.inj e).2)

theorem cell_own {s : DmaSem sig} (h : (SemLoc.dma s : SemLoc sig).isScoped .scVector = true) : ((thr d i, .dma s) : GSem nD τ sig) ∈ ownCells (thr d i) :=
  mem_ownCells.mpr ⟨rfl, h⟩

theorem ownSems0_V :
    (ownSems0 (thr d i) : sProp (MM F))
      = iprop(semVal (inCell d i 0) 0 ∗ semVal (inCell d i 1) 0 ∗ semVal (outCell d i 0) 0 ∗ semVal (outCell d i 1) 0 ∗ semVal (gCell d i) 0 ∗ otherCells d i) := by
  unfold SparseCore.Cfg.ownSems0 otherCells
  rw [SparseCore.bigSep_erase' (cell_own d i (s := inSem 0) (by decide)),
    SparseCore.bigSep_erase' (Finset.mem_erase.mpr ⟨cell_ne d i (by decide), cell_own d i (s := inSem 1) (by decide)⟩),
    SparseCore.bigSep_erase' (Finset.mem_erase.mpr ⟨cell_ne d i (by decide), Finset.mem_erase.mpr ⟨cell_ne d i (by decide), cell_own d i (s := outSem 0) (by decide)⟩⟩),
    SparseCore.bigSep_erase' (Finset.mem_erase.mpr ⟨cell_ne d i (by decide), Finset.mem_erase.mpr ⟨cell_ne d i (by decide), Finset.mem_erase.mpr ⟨cell_ne d i (by decide),
      cell_own d i (s := outSem 1) (by decide)⟩⟩⟩),
    SparseCore.bigSep_erase' (Finset.mem_erase.mpr ⟨cell_ne d i (by decide), Finset.mem_erase.mpr ⟨cell_ne d i (by decide), Finset.mem_erase.mpr ⟨cell_ne d i (by decide),
      Finset.mem_erase.mpr ⟨cell_ne d i (by decide), cell_own d i (s := gSem) (by decide)⟩⟩⟩⟩)]

theorem ownBufs_V :
    (ownBufs (thr d i) : sProp (MM F)) = iprop((∃ f, bLoc d i ↦{fullShare} f) ∗ (∃ f, rLoc d i ↦{fullShare} f) ∗ otherBufs d i) := by
  unfold SparseCore.Cfg.ownBufs otherBufs
  refine (SparseCore.bigSep_erase' (SparseCore.Cfg.mem_ownRefs_of_owner (p := (thr d i).2) (b := (thr d i).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d i).2) (b := (thr d i).2.devRef cc0_scoped2) rfl⟩)]

/-! ## The task -/

theorem off1_eq : k0_off1 = ![(par 0).val, 0, 0] := by decide +kernel
theorem off2_eq : ∀ i : grid0.Coords, k0_off2 i = ![0, 128 * (base i + 0)] := by decide +kernel
theorem off3_eq : k0_off3 = ![(par 0).val] := by decide +kernel

/-- The loop's invariant over the words it carries. -/
def LoopI (g : S16384x2x128.Idx → BitVec 32) (q : PosShare TreeShare) (O : CellTallies nD τ sig (HIx 1)) (W : Waits sig (HIx 1)) (k : ℕ)
    (acc : BitVec 32 × BitVec 32 × BitVec 32 × BitVec 32 × BitVec 32) : sProp (MM F) :=
  iprop((⌜acc = carry k⌝ ∗ Inv X I d i g q O W k) ∗ Transfers.MayWaits (thr d i) (default : HIx 1) O)

theorem trip_loop (hI : InRange I) (g : S16384x2x128.Idx → BitVec 32) (q : PosShare TreeShare) (O : CellTallies nD τ sig (HIx 1)) (W : Waits sig (HIx 1))
    (k : Fin k0_t1_loop.trips) (acc : BitVec 32 × BitVec 32 × BitVec 32 × BitVec 32 × BitVec 32) :
    LoopI X I d i g q O W k.val acc
      ⊢ wpT d i (k0_t1_body (F := F) i xW (Memref.isWhole_whole _) iW (Memref.isWhole_whole _) oW (Memref.isWhole_whole _) bW (Memref.isWhole_whole _) cc0_scoped1
          rW (Memref.isWhole_whole _) cc0_scoped3 cc0_scoped4 (baseW i) k acc) (LoopI X I d i g q O W (k.val + 1)) := by
  unfold LoopI
  iintro ⟨⟨%hacc, HI⟩, #Hmw⟩
  subst hacc
  iapply (wp_wand_r _ _ _)
  isplitl [HI]
  · iapply (trip X I d i hI g q O W k)
    isplitl [HI]; · iexact HI
    iexact Hmw
  · iintro %r Hr
    isplitl [Hr]; · iexact Hr
    iexact Hmw

set_option maxHeartbeats 4000000 in
/-- The task on a subcore: its four blocks of the result hold the gathered rows; everything it was lent is back. -/
theorem tile_body (hF : (K (F := F)).Facts) (hI : InRange I) (g : S16384x2x128.Idx → BitVec 32) (q : PosShare TreeShare)
    (O : CellTallies nD τ sig (HIx 1)) (W : Waits sig (HIx 1)) (hO : ∀ g, O g none = 0) :
    iprop(levAts (K (F := F)).L (K (F := F)).lev ∗ emp
        ∗ (tblPts X d q ∗ (bigSep (Finset.range 4) fun j => idxPts I d (base i + j)) ∗ bigSep (Finset.range 4) fun j => outPts d (base i + j) g)
        ∗ scopedBufs (thr d i) ∗ scopedSems0 (thr d i) ∗ owes (thr d i) O W)
      ⊢ wpT d i (cc0_collect_rows (F := F) i xW (Memref.isWhole_whole _) iW (Memref.isWhole_whole _) oW (Memref.isWhole_whole _) bW (Memref.isWhole_whole _) cc0_scoped1
          rW (Memref.isWhole_whole _) cc0_scoped3 cc0_scoped4)
          fun _ => iprop((tblPts X d q ∗ (bigSep (Finset.range 4) fun j => idxPts I d (base i + j)) ∗ bigSep (Finset.range 4) fun j => outPts d (base i + j) (gathered X I))
            ∗ scopedBufs (thr d i) ∗ scopedSems0 (thr d i) ∗ ∃ W', ⌜∀ p ∈ W', p ∈ W ∨ p.2 = none⌝ ∗ owes (thr d i) O W') := by
  rw [cc0_collect_rows_eq_skeleton]
  unfold cc0_collect_rows_skel
  rw [k0_part3_eq_skeleton, k0_part4_eq_skeleton]
  unfold k0_part3_skel k0_part4_skel
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  simp only [wpT, wp_bind, wp_pure]
  iintro ⟨#Hlv, -, ⟨Hx, Hi, Ho⟩, ⟨⟨%fb, Hb⟩, ⟨%fr, Hr⟩, Hbufs⟩, ⟨Hi0, Hi1, Ho0, Ho1, Hg, Hsems⟩, HO⟩
  ihave Hmw := (show levAts (K (F := F)).L (K (F := F)).lev ⊢ Transfers.MayWaits (thr d i) (default : HIx 1) O from
    (K (F := F)).mayWaits_none (thr := thr d i) hO) $$ Hlv
  icases Hmw with #Hmw
  ihave Hb := (b_split d i fb) $$ Hb
  icases Hb with ⟨Hb0, Hb1⟩
  ihave Hr := (r_split d i fr) $$ Hr
  icases Hr with ⟨Hr0, Hr1⟩
  ihave Hi := (Entails.of_eq (SparseCore.bigSep_erase' (s := Finset.range 4) (i := 0) (Φ := fun j => (idxPts I d (base i + j) : sProp (MM F))) (by decide))) $$ Hi
  icases Hi with ⟨Hiz, Hi⟩
  iapply (wp_fetch I d i (par 0) (base i + 0) off1_eq (off2_eq i) off3_eq) $$ [Hb0 Hi0 Hiz]
  · isplitl [Hb0 Hi0]
    · unfold bFree
      isplitl [Hb0]; · iexact Hb0
      iexact Hi0
    iexact Hiz
  iintro Hf
  imodintro
  iapply (Scf.wp_for frame (wpE (defs₀ (F := F)) 𝒱₀ (thr d i) none) Set.univ k0_t1_loop.lb k0_t1_loop.ub k0_t1_loop.st k0_t1_ok _ _
    (LoopI X I d i g q O W) (trip_loop X I d i hI g q O W))
  isplitl [Hx Hi Ho Hb1 Hr0 Hr1 Hi1 Ho0 Ho1 Hg HO Hf]
  · unfold LoopI Inv
    isplitl
    swap; · iexact Hmw
    isplitr
    · ipureintro; decide +kernel
    isplitl [Hx]; · iexact Hx
    isplitl [Hg]; · iexact Hg
    isplitl [Hf]; · unfold inAhead; rw [if_pos (by decide)]; iexact Hf
    isplitl [Hb1 Hi1]
    · unfold bFree
      isplitl [Hb1]; · iexact Hb1
      iexact Hi1
    isplitl [Hi]; · unfold idxRest; iexact Hi
    isplitl [Hr1 Ho1]
    · unfold outBehind rFree
      rw [if_pos rfl]
      isplitl [Hr1]; · iexact Hr1
      iexact Ho1
    isplitl [Hr0 Ho0]
    · unfold rFree
      isplitl [Hr0]; · iexact Hr0
      iexact Ho0
    isplitr
    · unfold outDone
      iempintro
    isplitl [Ho]
    · unfold outTodo
      rw [← Finset.range_eq_Ico]; iexact Ho
    iexists W
    isplitr
    swap; · iexact HO
    ipureintro; exact fun p hp => .inl hp
  iintro %acc HL
  unfold LoopI
  icases HL with ⟨⟨%hacc, HI⟩, -⟩
  have e4 : Scf.trips k0_t1_loop.lb k0_t1_loop.ub k0_t1_loop.st = 4 := trips_eq
  rw [e4] at hacc
  subst hacc
  rw [e4]
  dsimp only
  iapply (wp_assume 𝒱₀ (thr d i) none Set.univ (chk5_ok i))
  rw [wp_ret]; imodintro
  iapply (wp_assume 𝒱₀ (thr d i) none Set.univ chk4_ok)
  rw [wp_ret]; imodintro
  imodintro
  unfold Inv inAhead outBehind owesUp idxRest
  rw [if_neg (by decide), if_neg (by decide)]
  icases HI with ⟨Hx, Hg, Hin, Hb, Hi, Hout, Hr, Hdone, -, %W', %hW', HO⟩
  iapply (wp_written X I d i (par 3) (base i + 3) off20_eq) $$ [Hout HO]
  · isplitl [Hout]; · iexact Hout
    isplitl [HO]; · iexact HO
    iexact Hmw
  iintro ⟨Hr', Ho, HO⟩
  imodintro
  unfold bFree rFree
  icases Hin with ⟨Hb0, Hi0⟩
  icases Hb with ⟨Hb1, Hi1⟩
  icases Hr with ⟨Hr0, Ho0⟩
  icases Hr' with ⟨Hr1, Ho1⟩
  isplitl [Hx Hi Ho Hdone]
  · isplitl [Hx]; · iexact Hx
    isplitl [Hi]; · iexact Hi
    rw [show Finset.range 4 = insert 3 (Finset.range 3) from by decide, SparseCore.bigSep_insert' (by decide)]
    isplitl [Ho]; · iexact Ho
    unfold outDone; iexact Hdone
  isplitl [Hb0 Hb1 Hr0 Hr1 Hbufs]
  · isplitl [Hb0 Hb1]
    · iapply (b_join d i)
      isplitl [Hb0]; · iexact Hb0
      iexact Hb1
    isplitl [Hr0 Hr1]
    · iapply (r_join d i)
      isplitl [Hr0]; · iexact Hr0
      iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iapply (owesUp_insert d i hW' _) $$ HO

end Cert.Proof.Rows

end
-- ==== Proof.Rows.Launch.lean ====
/-
  The whole program: the arrays cut among the 32 subcores and put together again, the launch, and the two host reshapes
  around it. From every launch memory whose row numbers are the table's, the run leaves the two arguments as they were,
  the result at the gathered rows, and every semaphore at zero.
-/
module

public import proofs.«01_k».proof.Proof.Rows.Tile

@[expose] public section

noncomputable section

namespace Cert.Proof.Rows

open Cert.KernelIdeal Cert.KernelIdeal.Gen

open Idealize.ShloMosaic
open Idealize.ShloMosaic.StableHlo (held wp_hlo_within)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)

variable {F : FTy → Type} [FloatOps F]
variable (m : (ℓ : Loc nD τ sig) → Buf (Elt F) ℓ) (ρ : Dev nD → PrngReg) (d : Dev nD)

/-! ## The arrays' values -/

abbrev aLoc (d : Dev nD) : Loc nD τ sig := (SparseCore.T d).loc main_arg0
abbrev nLoc (d : Dev nD) : Loc nD τ sig := (SparseCore.T d).loc main_arg1
abbrev yLoc (d : Dev nD) : Loc nD τ sig := (SparseCore.T d).loc main_v3

/-- The table as the launch reads it, the row numbers likewise, and the program's result. -/
def tbl : S73728x2x128.Idx → BitVec 32 := shapeCast S73728x2x128 (m (aLoc d) : S73728x256.Idx → BitVec 32) shapeCasts_S73728x256_S73728x2x128
def nums : S1x16384.Idx → BitVec 32 := shapeCast S1x16384 (m (nLoc d) : S16384.Idx → BitVec 32) shapeCasts_S16384_S1x16384
def result : S16384x256.Idx → BitVec 32 := shapeCast S16384x256 (gathered (tbl m d) (nums m d)) shapeCasts_S16384x2x128_S16384x256

/-- What the launch memory must satisfy: every row number is one of the table's. -/
def PreOK : Prop := ∀ (d : Dev nD) (j : S16384.Idx), ((m (nLoc d) : S16384.Idx → BitVec 32) j).toNat < 73728

theorem nums_inRange (h : PreOK m) : InRange (nums m d) := fun _ => h d _

/-! ## The arrays cut among the subcores -/

/-- The task's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- Subcore `(c, s)`'s share of the table. -/
def pairNo : Fin 2 × Fin 16 ≃ Fin (2 ^ 5) := (finProdFinEquiv : Fin 2 × Fin 16 ≃ Fin (2 * 16)).trans (finCongr (by norm_num))
def shr (c : Fin 2) (s : Fin 16) : PosShare TreeShare := leaf 5 fullShare (pairNo (c, s))

/-- What subcore `(c, s)` is lent, its blocks of the result at the contents `f`. -/
def lent (c : Fin 2) (s : Fin 16) (f : S16384x2x128.Idx → BitVec 32) : sProp (MM F) :=
  iprop(tblPts (tbl m d) d (shr c s) ∗ (bigSep (Finset.range 4) fun j => idxPts (nums m d) d (base (coordsV c s) + j))
    ∗ bigSep (Finset.range 4) fun j => outPts d (base (coordsV c s) + j) f)

instance lent_storable (c : Fin 2) (s : Fin 16) (f : S16384x2x128.Idx → BitVec 32) : BI.Storable (upEmb : UEmb _ (MM F)) (lent m d c s f) := by
  unfold lent tblPts idxPts outPts; infer_instance

/-- The blocks the subcores move: every block of the 128, each once. -/
def cut : Finset ((Fin 2 × Fin 16) × ℕ) := Finset.univ ×ˢ Finset.range 4
def blk (p : (Fin 2 × Fin 16) × ℕ) : ℕ := base (coordsV p.1.1 p.1.2) + p.2

theorem blk_val (p : (Fin 2 × Fin 16) × ℕ) : blk p = 4 * p.1.2.val + 64 * p.1.1.val + p.2 := rfl

theorem blk_inj : ∀ p ∈ cut, ∀ p' ∈ cut, p ≠ p' → blk p ≠ blk p' := by
  rintro ⟨⟨c, s⟩, j⟩ hp ⟨⟨c', s'⟩, j'⟩ hp' hne e
  rw [blk_val, blk_val] at e
  simp only [cut, Finset.mem_product, Finset.mem_univ, Finset.mem_range, true_and] at hp hp'
  dsimp only at e
  have h1 := s.isLt; have h2 := s'.isLt; have h3 := c.isLt; have h4 := c'.isLt
  exact hne (Prod.ext (Prod.ext (Fin.ext (by dsimp only; omega)) (Fin.ext (by dsimp only; omega))) (by dsimp only; omega))

theorem blk_cover (n : ℕ) (hn : n < 128) : ∃ p ∈ cut, blk p = n := by
  refine ⟨((⟨n / 64, by omega⟩, ⟨n % 64 / 4, by omega⟩), n % 4), ?_, ?_⟩
  · simp only [cut, Finset.mem_product, Finset.mem_univ, Finset.mem_range, true_and]; omega
  · rw [blk_val]; dsimp only; omega

theorem iSet_disj : ∀ p ∈ cut, ∀ p' ∈ cut, p ≠ p' → Disjoint (iSet (blk p)) (iSet (blk p')) := fun p hp p' hp' h =>
  Finset.disjoint_left.mpr fun x hx hx' => blk_inj p hp p' hp' h ((Finset.mem_filter.mp hx).2.symm.trans (Finset.mem_filter.mp hx').2)
theorem oSet_disj : ∀ p ∈ cut, ∀ p' ∈ cut, p ≠ p' → Disjoint (oSet (blk p)) (oSet (blk p')) := fun p hp p' hp' h =>
  Finset.disjoint_left.mpr fun x hx hx' => blk_inj p hp p' hp' h ((Finset.mem_filter.mp hx).2.symm.trans (Finset.mem_filter.mp hx').2)

theorem iSet_cover : cut.biUnion (fun p => iSet (blk p)) = Finset.univ := by
  ext x
  have h1 : (x 1).val < 16384 := (x 1).isLt
  obtain ⟨p, hp, e⟩ := blk_cover ((x 1).val / 128) (by omega)
  simp only [Finset.mem_biUnion, Finset.mem_univ, iff_true]
  exact ⟨p, hp, Finset.mem_filter.mpr ⟨Finset.mem_univ _, e.symm⟩⟩
theorem oSet_cover : cut.biUnion (fun p => oSet (blk p)) = Finset.univ := by
  ext x
  have h1 : (x 0).val < 16384 := (x 0).isLt
  obtain ⟨p, hp, e⟩ := blk_cover ((x 0).val / 128) (by omega)
  simp only [Finset.mem_biUnion, Finset.mem_univ, iff_true]
  exact ⟨p, hp, Finset.mem_filter.mpr ⟨Finset.mem_univ _, e.symm⟩⟩

theorem cut_eq (Φ : ℕ → sProp (MM F)) :
    bigSep cut (fun p => Φ (blk p)) = bigSep Finset.univ fun c : Fin 2 => bigSep Finset.univ fun s : Fin 16 => bigSep (Finset.range 4) fun j => Φ (base (coordsV c s) + j) := by
  unfold cut
  rw [SparseCore.bigSep_product, bigSep_univ_prod]
  rfl

theorem idx_cut : (iLoc d ↦{fullShare} (nums m d : Buf (Elt F) (iLoc d)) : sProp (MM F))
    = bigSep Finset.univ fun c : Fin 2 => bigSep Finset.univ fun s : Fin 16 => bigSep (Finset.range 4) fun j => idxPts (nums m d) d (base (coordsV c s) + j) := by
  rw [← cut_eq (F := F) (fun n => idxPts (nums m d) d n)]
  unfold idxPts
  rw [← pointsTo_biUnion cut (ℓ := iLoc d) (fun p => iSet (blk p)) iSet_disj, iSet_cover]
theorem out_cut (f : S16384x2x128.Idx → BitVec 32) : (oLoc d ↦{fullShare} (f : Buf (Elt F) (oLoc d)) : sProp (MM F))
    = bigSep Finset.univ fun c : Fin 2 => bigSep Finset.univ fun s : Fin 16 => bigSep (Finset.range 4) fun j => outPts d (base (coordsV c s) + j) f := by
  rw [← cut_eq (F := F) (fun n => outPts d n f)]
  unfold outPts
  rw [← pointsTo_biUnion cut (ℓ := oLoc d) (fun p => oSet (blk p)) oSet_disj, oSet_cover]
theorem tbl_cut : (xLoc d ↦{fullShare} (tbl m d : Buf (Elt F) (xLoc d)) : sProp (MM F))
    = bigSep Finset.univ fun c : Fin 2 => bigSep Finset.univ fun s : Fin 16 => tblPts (tbl m d) d (shr c s) := by
  rw [pointsTo_leaves Finset.univ _ 5 fullShare, bigSep_univ_equiv pairNo, bigSep_univ_prod]
  rfl

/-- What the subcores are lent, together: the three arrays whole. -/
theorem lent_all (f : S16384x2x128.Idx → BitVec 32) :
    (bigSep Finset.univ fun c : Fin 2 => bigSep Finset.univ fun s : Fin 16 => lent m d c s f)
      = (iprop((xLoc d ↦{fullShare} (tbl m d : Buf (Elt F) (xLoc d))) ∗ (iLoc d ↦{fullShare} (nums m d : Buf (Elt F) (iLoc d)))
          ∗ oLoc d ↦{fullShare} (f : Buf (Elt F) (oLoc d))) : sProp (MM F)) := by
  unfold lent
  simp only [bigSep_sep']
  rw [tbl_cut, idx_cut, out_cut]

/-! ## The launch's payloads -/

/-- The result's buffer at launch. -/
def out0 : S16384x2x128.Idx → BitVec 32 := m (oLoc d)

def P : (K (F := F)).Pay (nD := nD) (Val := Elt F) (Name := ℕ) (U := UU) where
  st := fun q d c => match q with | 0 => bigSep Finset.univ fun s : Fin 16 => lent m d c s (out0 m d)
  dn := fun q d c => match q with | 0 => bigSep Finset.univ fun s : Fin 16 => lent m d c s (gathered (tbl m d) (nums m d))
  go := fun q d c s => match q with | 0 => lent m d c s (out0 m d)
  td := fun q d c s => match q with | 0 => lent m d c s (gathered (tbl m d) (nums m d))
  x := fun _ _ => iprop(emp)

instance P_storable : (P (F := F) m).IsStorable where
  st q d c := match q with
    | 0 => (inferInstance : BI.Storable (upEmb : UEmb _ (MM F)) (bigSep Finset.univ fun s : Fin 16 => lent m d c s (out0 m d)))
  dn q d c := match q with
    | 0 => (inferInstance : BI.Storable (upEmb : UEmb _ (MM F)) (bigSep Finset.univ fun s : Fin 16 => lent m d c s (gathered (tbl m d) (nums m d))))
  go q d c s := match q with | 0 => lent_storable m d c s _
  td q d c s := match q with | 0 => lent_storable m d c s _

/-! ## The tasks -/

theorem defs₀_vector (c : Fin τ.nSC) (s : Fin τ.nSub) :
    defs₀ (F := F) (.scVector c s) 0 ()
      = SparseCore.onTile hcore0 hsub0 (fun c s => cc0_collect_rows (coordsV c s)
          xW (Memref.isWhole_whole _) iW (Memref.isWhole_whole _) oW (Memref.isWhole_whole _) bW (Memref.isWhole_whole _) cc0_scoped1
          rW (Memref.isWhole_whole _) cc0_scoped3 cc0_scoped4) ⟨⟩ c s := rfl

/-- Waits a task records on no launch cell are among those the launch allows. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each subcore's task takes what it is lent to its blocks of the result at the gathered rows. -/
theorem tileObl (hF : (K (F := F)).Facts) (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body (tbl m d) (nums m d) d (coordsV c i) hF (nums_inRange m d hpre) (out0 m d) (shr c i) O W hO).trans
    (wp_mono frame _ _ fun _ => obl_post)

/-- A core's part is its subcores' parts. -/
theorem vecSplit : (K (F := F)).VecSplit' (P m) 0 := by
  intro d c
  show iprop(bigSep Finset.univ fun s : Fin 16 => lent m d c s (out0 m d)) ⊢ |={Set.univ}=> iprop(
      (bigSep Finset.univ fun s : Fin 16 => lent m d c s (out0 m d))
      ∗ ((bigSep Finset.univ fun s : Fin 16 => lent m d c s (gathered (tbl m d) (nums m d)))
          -∗ bigSep Finset.univ fun s : Fin 16 => lent m d c s (gathered (tbl m d) (nums m d))))
  iintro H; imodintro
  isplitl [H]; · iexact H
  iintro H; iexact H

/-! ## The launch's ghost state -/

def u₀ : UU := (initOf (K (F := F)).hsCells (K (F := F)).hsToks, 1)

/-- Nothing, once per index, is nothing. -/
theorem bigSep_nothing {J : Type} (s : Finset J) : (bigSep s fun _ => iprop(emp)) = (iprop(emp) : sProp (MM F)) := bigSep_emp_const s

theorem hu₀ : (ownU (u₀ (F := F)) : sProp (MM F))
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The host's operations -/

abbrev a' : DevRef τ sig := Proc.devRef .tc (main_arg0 : Ref sig .tc)
abbrev n' : DevRef τ sig := Proc.devRef .tc (main_arg1 : Ref sig .tc)
abbrev x' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev y' : DevRef τ sig := Proc.devRef .tc (main_v3 : Ref sig .tc)
abbrev opX : HloOp τ sig (Elt F) := StableHlo.reshape main_arg0 main_v0 (rfl : (.i32 : EltTy) = .i32) shapeCasts_S73728x256_S73728x2x128
abbrev opI : HloOp τ sig (Elt F) := StableHlo.reshape main_arg1 main_v1 (rfl : (.i32 : EltTy) = .i32) shapeCasts_S16384_S1x16384
abbrev opY : HloOp τ sig (Elt F) := StableHlo.reshape main_v2 main_v3 (rfl : (.i32 : EltTy) = .i32) shapeCasts_S16384x2x128_S16384x256

/-- The six arrays of the program. -/
abbrev S6 : Finset (DevRef τ sig) := {a', n', x', i', o', y'}

theorem held_S6 (W : Valuation τ sig (Elt F)) :
    (held (T d) S6 W : sProp (MM F))
      = iprop((aLoc d ↦{fullShare} W a') ∗ (nLoc d ↦{fullShare} W n') ∗ (xLoc d ↦{fullShare} W x') ∗ (iLoc d ↦{fullShare} W i')
          ∗ (oLoc d ↦{fullShare} W o') ∗ yLoc d ↦{fullShare} W y') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (W : (b : Ref sig .tc) → Buf (Elt F) ((d.tc : Thread nD τ).loc b)) :
    (unscopedBufs d W : sProp (MM F))
      = iprop((aLoc d ↦{fullShare} W main_arg0) ∗ (nLoc d ↦{fullShare} W main_arg1) ∗ (xLoc d ↦{fullShare} W main_v0) ∗ (iLoc d ↦{fullShare} W main_v1)
          ∗ (oLoc d ↦{fullShare} W main_v2) ∗ yLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at launch, before the call, after it, and at the end. -/
def V0 : Valuation τ sig (Elt F) := fun b => m (d, b)
def V2 : Valuation τ sig (Elt F) := (opI (F := F)).result ((opX (F := F)).result (V0 m d))
def V3 : Valuation τ sig (Elt F) := Function.update (V2 m d) o' (gathered (tbl m d) (nums m d))
def V4 : Valuation τ sig (Elt F) := (opY (F := F)).result (V3 m d)

theorem unscoped_held : (unscopedBufs d (fun b => m ((SparseCore.T d).loc b)) : sProp (MM F)) = held (T d) S6 (V0 m d) := by
  rw [unscopedBufs_eq, held_S6]; rfl

theorem V2_other (b : DevRef τ sig) (h : b ∉ ({i'} : Finset (DevRef τ sig))) (h' : b ∉ ({x'} : Finset (DevRef τ sig))) : V2 m d b = m (d, b) := by
  unfold V2
  rw [(opI (F := F)).result_of_not_mem _ h, (opX (F := F)).result_of_not_mem _ h']
  rfl
theorem V2_x : V2 m d x' = tbl m d := by
  unfold V2
  rw [(opI (F := F)).result_of_not_mem _ (show x' ∉ ({i'} : Finset (DevRef τ sig)) by decide)]
  exact (StableHlo.reshape_result _ _ _ _ _ _ _).trans rfl
theorem V2_i : V2 m d i' = nums m d := by
  unfold V2
  refine (StableHlo.reshape_result _ _ _ _ _ _ _).trans ?_
  rw [(opX (F := F)).result_of_not_mem _ (show n' ∉ ({x'} : Finset (DevRef τ sig)) by decide)]
  rfl
theorem V3_o : V3 m d o' = gathered (tbl m d) (nums m d) := Function.update_self _ _ _
theorem V3_ne (b : DevRef τ sig) (h : b ≠ o') : V3 m d b = V2 m d b := Function.update_of_ne h _ _
theorem V4_y : V4 m d y' = result m d := by
  unfold V4
  refine (StableHlo.reshape_result _ _ _ _ _ _ _).trans ?_
  rw [V3_o]
  rfl
theorem V4_a : V4 m d a' = m (aLoc d) := by
  unfold V4
  rw [(opY (F := F)).result_of_not_mem _ (show a' ∉ ({y'} : Finset (DevRef τ sig)) by decide), V3_ne m d a' (by decide), V2_other m d a' (by decide) (by decide)]
theorem V4_n : V4 m d n' = m (nLoc d) := by
  unfold V4
  rw [(opY (F := F)).result_of_not_mem _ (show n' ∉ ({y'} : Finset (DevRef τ sig)) by decide), V3_ne m d n' (by decide), V2_other m d n' (by decide) (by decide)]

theorem held_V2 :
    (held (T d) S6 ((opI (F := F)).result ((opX (F := F)).result (V0 m d))) : sProp (MM F))
      = iprop((aLoc d ↦{fullShare} m (aLoc d)) ∗ (nLoc d ↦{fullShare} m (nLoc d)) ∗ (xLoc d ↦{fullShare} (tbl m d : Buf (Elt F) (xLoc d)))
          ∗ (iLoc d ↦{fullShare} (nums m d : Buf (Elt F) (iLoc d))) ∗ (oLoc d ↦{fullShare} (out0 m d : Buf (Elt F) (oLoc d))) ∗ yLoc d ↦{fullShare} m (yLoc d)) := by
  show held (T d) S6 (V2 m d) = _
  rw [held_S6, V2_x, V2_i, V2_other m d a' (by decide) (by decide), V2_other m d n' (by decide) (by decide), V2_other m d o' (by decide) (by decide),
    V2_other m d y' (by decide) (by decide)]
  rfl
theorem held_V3 :
    (held (T d) S6 (V3 m d) : sProp (MM F))
      = iprop((aLoc d ↦{fullShare} m (aLoc d)) ∗ (nLoc d ↦{fullShare} m (nLoc d)) ∗ (xLoc d ↦{fullShare} (tbl m d : Buf (Elt F) (xLoc d)))
          ∗ (iLoc d ↦{fullShare} (nums m d : Buf (Elt F) (iLoc d))) ∗ (oLoc d ↦{fullShare} (gathered (tbl m d) (nums m d) : Buf (Elt F) (oLoc d))) ∗ yLoc d ↦{fullShare} m (yLoc d)) := by
  rw [held_S6, V3_o, V3_ne m d a' (by decide), V3_ne m d n' (by decide), V3_ne m d x' (by decide), V3_ne m d i' (by decide), V3_ne m d y' (by decide),
    V2_x, V2_i, V2_other m d a' (by decide) (by decide), V2_other m d n' (by decide) (by decide), V2_other m d y' (by decide) (by decide)]
theorem held_V4 :
    (held (T d) S6 ((opY (F := F)).result (V3 m d)) : sProp (MM F))
      = iprop((aLoc d ↦{fullShare} m (aLoc d)) ∗ (nLoc d ↦{fullShare} m (nLoc d)) ∗ (xLoc d ↦{fullShare} V4 m d x')
          ∗ (iLoc d ↦{fullShare} V4 m d i') ∗ (oLoc d ↦{fullShare} V4 m d o') ∗ yLoc d ↦{fullShare} (result m d : Buf (Elt F) (yLoc d))) := by
  show held (T d) S6 (V4 m d) = _
  rw [held_S6, V4_y, V4_a, V4_n]

theorem hX : (opX (F := F)).bufs ⊆ S6 := show ({a', x'} : Finset (DevRef τ sig)) ⊆ S6 by decide
theorem hI : (opI (F := F)).bufs ⊆ S6 := show ({n', i'} : Finset (DevRef τ sig)) ⊆ S6 by decide
theorem hY : (opY (F := F)).bufs ⊆ S6 := show ({o', y'} : Finset (DevRef τ sig)) ⊆ S6 by decide

theorem st0_eq : (bigSep Finset.univ fun c : Fin ((K (F := F)).nCore 0) => (P m).st 0 d c)
    = iprop((xLoc d ↦{fullShare} (tbl m d : Buf (Elt F) (xLoc d))) ∗ (iLoc d ↦{fullShare} (nums m d : Buf (Elt F) (iLoc d)))
          ∗ oLoc d ↦{fullShare} (out0 m d : Buf (Elt F) (oLoc d))) := lent_all m d (out0 m d)
theorem dn0_eq : (bigSep Finset.univ fun c : Fin ((K (F := F)).nCore 0) => (P m).dn 0 d c)
    = iprop((xLoc d ↦{fullShare} (tbl m d : Buf (Elt F) (xLoc d))) ∗ (iLoc d ↦{fullShare} (nums m d : Buf (Elt F) (iLoc d)))
          ∗ oLoc d ↦{fullShare} (gathered (tbl m d) (nums m d) : Buf (Elt F) (oLoc d))) := lent_all m d _

/-- What the claims read: the arguments as they were, the result. -/
abbrev FIN : sProp (MM F) := iprop((aLoc d ↦{fullShare} m (aLoc d)) ∗ (nLoc d ↦{fullShare} m (nLoc d)) ∗ yLoc d ↦{fullShare} (result m d : Buf (Elt F) (yLoc d)))

/-- The host thread: two reshapes, the launch, a reshape. -/
theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := V0 m d)) $$ [Hb Hheld]
  · isplitl [Hb] <;> iassumption
  iintro ⟨Hb, Hheld⟩
  rw [wp_ret]; imodintro
  iapply (wp_hlo_within 𝒱 (SparseCore.T d) none Set.univ (op := opI) (S := S6) hI (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hn, Hx, Hi, Ho, Hy⟩
  iapply ((K (F := F)).wp_run (D (F := F)) 𝒱 (EH := EH) (P := P m) κ d 0) $$ [Hst Hb Ha Hn Hx Hi Ho Hy Hts]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  iapply (wp_hlo_within 𝒱 (SparseCore.T d) none Set.univ (op := opY) (S := S6) hY (V := V3 m d)) $$ [Hb Ha Hn Hx Hi Ho Hy]
  · isplitl [Hb]; · iexact Hb
    rw [held_V3]
    isplitl [Ha]; · iexact Ha
    isplitl [Hn]; · iexact Hn
    isplitl [Hx]; · iexact Hx
    isplitl [Hi]; · iexact Hi
    isplitl [Ho]; · iexact Ho
    iexact Hy
  iintro ⟨Hb, Hheld⟩
  ihave Hh := (Entails.of_eq (held_V4 (F := F) m d)) $$ Hheld
  icases Hh with ⟨Ha, Hn, -, -, -, Hy⟩
  rw [wp_ret]; imodintro; imodintro
  isplitl [Hst]; · iexact Hst
  isplitr [Hb Hts]
  · isplitl [Ha]; · iexact Ha
    isplitl [Hn]; · iexact Hn
    iexact Hy
  isplitl [Hb] <;> iassumption

/-! ## The run -/

/-- What is read of the final memory. -/
def fq (s' : Phys nD τ sig (Elt F)) : Prop := s'.mem.mem (yLoc d) = result m d ∧ s'.mem.mem (aLoc d) = m (aLoc d) ∧ s'.mem.mem (nLoc d) = m (nLoc d)

set_option maxRecDepth 16384 in
theorem hfin (s' : Phys nD τ sig (Elt F)) : iprop(FIN m d ∗ SI s') ⊢ (⌜fq m d s'⌝ : sProp (MM F)) := by
  iintro ⟨⟨Ha, Hn, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := yLoc d) (I := Finset.univ) (q := fullShare) (f := (result m d : Buf (Elt F) (yLoc d)))) $$ [HSI Hy]
  · isplitl [HSI] <;> iassumption
  icases H with %h3
  ipureintro
  exact ⟨funext fun i => h3 i (Finset.mem_univ i), funext fun i => h1 i (Finset.mem_univ i), funext fun i => h2 i (Finset.mem_univ i)⟩

/-- What a run leaves: the result at the gathered rows, the arguments as they were, every semaphore at zero. -/
def QC : PUnit × MemSt nD τ sig (Elt F) → Prop := fun r =>
  (∀ c : Dev nD, r.2.mem (yLoc c) = result m c ∧ r.2.mem (aLoc c) = m (aLoc c) ∧ r.2.mem (nLoc c) = m (nLoc c)) ∧ r.2.sem = fun _ => 0

/-- Every run of the program ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (fun κ d => hmain m ρ d κ) (fq m) (hfin m) (QC m) (fun _ h hz => ⟨h, hz⟩)

end Cert.Proof.Rows

end
-- ==== Proof.Rows.Ref.lean ====
/-
  The reference: its run, and its result read row by row — the same rows the kernel gathers.
-/
module

public import proofs.«01_k».proof.Proof.Rows.Launch
public import proofs.«01_k».proof.Proof.Gen.Reference
public import proofs.«01_k».proof.Proof.Gen.Pre_rows_in_range
public import Idealize.ShloMosaic.Lib.StableHlo.Run
public import Idealize.ShloMosaic.Lib.Routing.Ops

@[expose] public section

noncomputable section

namespace Cert.Proof.RowsRef

open Cert.Reference Cert.Reference.Gen
open Idealize.ShloMosaic Idealize.ShloMosaic.TcCoe Idealize.ShloMosaic.StableHlo Idealize.SL.Sem
open Idealize.ShloMosaic.ValueIdx

variable {F : FTy → Type} [FloatOps F]

/-! ## The run -/

/-- The reference's two operations: the row numbers as a column, and the gather. -/
abbrev ops : List (HloOp τ sig (Elt F)) :=
  [ TRef.unary (.of main_arg1 : TRef sig ⟨S16384, .i32⟩) main_call0.v0 (broadcastInDim S16384x1 ![0] bcast_S16384_S16384x1_0),
    TRef.binary (.of main_arg0 : TRef sig ⟨S73728x256, .i32⟩) main_call0.v0 main_call0.v1 (fun x i => Host.gather gather_S73728x256_S16384x1_S16384x256_1_0_n_n_0_1_1256 x i) ]

theorem main_eq (c : Dev nD) : main (F := F) c = seq ops := by
  simp only [main, fn_take.body, seq, bind_assoc, pure_bind]

/-- The gather of a table's rows at row numbers. -/
def rows (a : S73728x256.Idx → BitVec 32) (n : S16384.Idx → BitVec 32) : S16384x256.Idx → BitVec 32 :=
  Host.gather gather_S73728x256_S16384x1_S16384x256_1_0_n_n_0_1_1256 a (broadcastInDim S16384x1 ![0] bcast_S16384_S16384x1_0 n)

theorem out_eq (V : Valuation τ sig (Elt F)) :
    after ops V (main_v0 : DevRef τ sig) = rows (V (main_arg0 : DevRef τ sig)) (V (main_arg1 : DevRef τ sig)) := by
  simp only [after_cons, after_nil]
  rfl
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := ⟨unary_bufs_sub .., binary_bufs_sub ..⟩

variable (m : (ℓ : Loc nD τ sig) → Buf (Elt F) ℓ) (ρ : Dev nD → PrngReg)

/-- What a run leaves: the result at the gathered rows, the arguments as they were, every semaphore at zero. -/
def QC : PUnit × MemSt nD τ sig (Elt F) → Prop := fun r =>
  (∀ c : Dev nD, r.2.mem ((c.tc : Thread nD τ).loc main_v0) = rows (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- Every run of the reference ends so. -/
theorem run_main : θ_run (defs (F := F)) (onTc (τ := τ) (main (F := F))) ⟨m, fun _ => 0, ρ⟩ (QC m) :=
  (θ_run defs _ _).mono (fun r h =>
    ⟨fun c => ⟨(h c main_v0).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

/-! ## The value -/

theorem rows_apply (a : S73728x256.Idx → BitVec 32) (n : S16384.Idx → BitVec 32) (r : Fin 16384) (c : Fin 256)
    (h : (n (ix1 r)).toNat < 73728) : rows a n (ix2 r c) = a (ix2 (Rows.rowNo (n (ix1 r))) c) := by
  unfold rows
  refine Routing.gather_row _ rfl rfl rfl rfl rfl a _ r c (Rows.rowNo (n (ix1 r))) ?_ (by norm_num)
  rw [broadcastInDim_apply _ _ n (ix2 r (0 : Fin 1)) (ix1 r) (fun a => match a with | ⟨0, _⟩ => rfl)]
  have : (Rows.rowNo (n (ix1 r))).val = (n (ix1 r)).toNat := by unfold Rows.rowNo; dsimp only; omega
  rw [this, BitVec.ofNat_toNat, BitVec.setWidth_eq]

end Cert.Proof.RowsRef

namespace Cert.Proof.Rows

open Cert.KernelIdeal Cert.KernelIdeal.Gen
open Idealize.ShloMosaic Idealize.ShloMosaic.TcCoe Idealize.SL.Sem
open Idealize.ShloMosaic.ValueIdx

variable {F : FTy → Type} [FloatOps F]
variable (m : (ℓ : Loc nD τ sig) → Buf (Elt F) ℓ) (d : Dev nD)

/-- Rows of a table read as halves of 128, gathered, and put together: the table's rows. -/
theorem halves_apply (a : S73728x256.Idx → BitVec 32) (I : S1x16384.Idx → BitVec 32) (r : Fin 16384) (c : Fin 256) :
    shapeCast S16384x256 (gathered (shapeCast S73728x2x128 a shapeCasts_S73728x256_S73728x2x128) I) shapeCasts_S16384x2x128_S16384x256 (ix2 r c)
      = a (ix2 (rowNo (I (ix2 (0 : Fin 1) r))) c) := by
  have hc := c.isLt
  rw [shapeCast_apply _ _ (ix2 r c) (ix3 r (⟨c.val / 128, by omega⟩ : Fin 2) (⟨c.val % 128, by omega⟩ : Fin 128)) (by
    rw [Shape.rowMajor_val_three, Shape.rowMajor_val_two]
    show (r.val * 2 + c.val / 128) * 128 + c.val % 128 = r.val * 256 + c.val
    omega)]
  exact shapeCast_apply a shapeCasts_S73728x256_S73728x2x128
    (ix3 (rowNo (I (ix2 (0 : Fin 1) r))) (⟨c.val / 128, by omega⟩ : Fin 2) (⟨c.val % 128, by omega⟩ : Fin 128)) (ix2 (rowNo (I (ix2 (0 : Fin 1) r))) c) (by
    rw [Shape.rowMajor_val_three, Shape.rowMajor_val_two]
    show (rowNo _).val * 256 + c.val = ((rowNo _).val * 2 + c.val / 128) * 128 + c.val % 128
    omega)

/-- The kernel's result, element by element: row `r` is the table's row that the `r`-th row number names. -/
theorem result_apply (r : Fin 16384) (c : Fin 256) :
    result m d (ix2 r c) = (m (aLoc d) : S73728x256.Idx → BitVec 32) (ix2 (rowNo ((m (nLoc d) : S16384.Idx → BitVec 32) (ix1 r))) c) := by
  have e : nums m d (ix2 (0 : Fin 1) r) = (m (nLoc d) : S16384.Idx → BitVec 32) (ix1 r) := shapeCast_a_1a_apply _ _ _ _
  exact (halves_apply (m (aLoc d)) (nums m d) r c).trans (by rw [e])

/-- From the same arguments, the row numbers in range, kernel and reference compute the same array. -/
theorem result_eq (h : PreOK m) :
    result m d = RowsRef.rows (m (aLoc d) : S73728x256.Idx → BitVec 32) (m (nLoc d) : S16384.Idx → BitVec 32) := by
  funext y
  obtain ⟨r, c, rfl⟩ : ∃ (r : Fin 16384) (c : Fin 256), y = ix2 r c := ⟨y 0, y 1, (eq_ix2 y)⟩
  rw [result_apply]
  exact (RowsRef.rows_apply (m (aLoc d) : S73728x256.Idx → BitVec 32) (m (nLoc d) : S16384.Idx → BitVec 32) r c (h d (ix1 r))).symm

/-! ## The precondition -/

/-- A word at least zero and below 73728 as a signed number is below 73728 as a natural number. -/
theorem toNat_lt_of_inRange (v : BitVec 32) (e : IntOp.andi (IntOp.cmpi .sge v 0#32) (IntOp.cmpi .slt v 73728#32) = 1#1) : v.toNat < 73728 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- The claims' precondition says that every row number is one of the table's. -/
theorem preOK (h : ∀ c : Dev nD, Cert.Pre_rows_in_range.fn (F := F) (m (aLoc c)) (m (nLoc c)) = fun _ => 1#1) : PreOK m := by
  intro d j
  have e := congrFun (h d) j
  simp only [Pre_rows_in_range.fn, andi, cmpi, broadcastInDim, constantI] at e
  exact toNat_lt_of_inRange _ e

end Cert.Proof.Rows

end
-- ==== Proof.Proj.Value.lean ====
/-
  The input projection's wide half: the array the kernel's sixty-four blocks make is the reference's product.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Proj

open Cert.Kernel2Ideal Cert.Kernel2Ideal.Gen

variable (m : (ℓ : Loc nD τ sig) → Buf (Elt Ideal) ℓ)

/-- The reference's result as a term of its two arguments: all tokens times the first layer's matrix, the wide half's columns of it,
    one row per token, rounded. -/
abbrev product (x : FVec Ideal S8x4096x1024 .f32) (w : FVec Ideal S4x1024x12296 .f32) : FVec Ideal S32768x6144 .bf16 :=
  truncf .bf16 (shapeCast Cert.Reference2Ideal.S32768x6144 (extractStridedSlice Cert.Reference2Ideal.S8x4096x6144 ![0, 0, 6152]
    (Host.dotGeneral Cert.Reference2Ideal.dot_S8x4096x1024_S1024x12296_S8x4096x12296_2_0_01_1_n_n none x
      (shapeCast Cert.Reference2Ideal.S1024x12296 (extractStridedSlice Cert.Reference2Ideal.S1x1024x12296 ![0, 0, 0] w
        Cert.Reference2Ideal.Gen.slices_S4x1024x12296_S1x1024x12296_0_0_0) Cert.Reference2Ideal.Gen.shapeCasts_S1x1024x12296_S1024x12296))
    Cert.Reference2Ideal.Gen.slices_S8x4096x12296_S8x4096x6144_0_0_6152) Cert.Reference2Ideal.Gen.shapeCasts_S8x4096x6144_S32768x6144)
    Cert.Reference2Ideal.Gen.bitsLt_bf16_f32

/-- Where each window's block stands at grid point `t`. -/
theorem idx : ∀ t : Fin cfg0.N, win0_0.index t = ![t.val / 4, 0] ∧ win0_1.index t = ![0, 0, t.val % 4] ∧ win0_2.index t = ![t.val / 4, t.val % 4]
    ∧ t.val / 4 < 16 :=
  (by decide +kernel : ∀ t : Fin grid0.N, _)

/-- The host's product at an index. -/
theorem dot_apply (x : FVec Ideal Cert.Reference2Ideal.S8x4096x1024 .f32) (w : FVec Ideal Cert.Reference2Ideal.S1024x12296 .f32) (b : Fin 8) (s : Fin 4096) (c : Fin 12296) :
    (Host.dotGeneral Cert.Reference2Ideal.dot_S8x4096x1024_S1024x12296_S8x4096x12296_2_0_01_1_n_n none x w : FVec Ideal Cert.Reference2Ideal.S8x4096x12296 .f32) (ix3 b s c)
      = ∑ k : Fin 1024, x (ix3 b s k) * w (ix2 k c) := by
  pointwise

/-- The first layer's matrix at an index. -/
theorem layer_apply (w : FVec Ideal S4x1024x12296 .f32) (k : Fin 1024) (c : Fin 12296) :
    shapeCast Cert.Reference2Ideal.S1024x12296 (extractStridedSlice Cert.Reference2Ideal.S1x1024x12296 ![0, 0, 0] w
        Cert.Reference2Ideal.Gen.slices_S4x1024x12296_S1x1024x12296_0_0_0) Cert.Reference2Ideal.Gen.shapeCasts_S1x1024x12296_S1024x12296 (ix2 k c)
      = w (ix3 (0 : Fin 4) k c) := by
  refine (shapeCast_apply _ _ (ix2 k c) (ix3 (0 : Fin 1) k c) (by
    rw [Shape.rowMajor_val_three, Shape.rowMajor_val_two]
    show (0 * 1024 + k.val) * 12296 + c.val = k.val * 12296 + c.val
    omega)).trans ?_
  refine extractStridedSlice_apply _ w _ (ix3 (0 : Fin 1) k c) (ix3 (0 : Fin 4) k c) fun a => ?_
  match a with
  | ⟨0, _⟩ => rfl
  | ⟨1, _⟩ => exact (Nat.zero_add _).symm
  | ⟨2, _⟩ => exact (Nat.zero_add _).symm

/-- The wide half's columns, one row per token, at an index. -/
theorem cut_apply (p : FVec Ideal Cert.Reference2Ideal.S8x4096x12296 .f32) (r : Fin 32768) (c : Fin 6144) :
    shapeCast Cert.Reference2Ideal.S32768x6144 (extractStridedSlice Cert.Reference2Ideal.S8x4096x6144 ![0, 0, 6152] p
      Cert.Reference2Ideal.Gen.slices_S8x4096x12296_S8x4096x6144_0_0_6152) Cert.Reference2Ideal.Gen.shapeCasts_S8x4096x6144_S32768x6144 (ix2 r c)
      = p (ix3 (⟨r.val / 4096, by omega⟩ : Fin 8) (⟨r.val % 4096, by omega⟩ : Fin 4096) (⟨6152 + c.val, by omega⟩ : Fin 12296)) := by
  refine (shapeCast_apply _ _ (ix2 r c) (ix3 (⟨r.val / 4096, by omega⟩ : Fin 8) (⟨r.val % 4096, by omega⟩ : Fin 4096) c) (by
    rw [Shape.rowMajor_val_three, Shape.rowMajor_val_two]
    show (r.val / 4096 * 4096 + r.val % 4096) * 6144 + c.val = r.val * 6144 + c.val
    omega)).trans ?_
  refine extractStridedSlice_apply _ p _ _ _ fun a => ?_
  match a with
  | ⟨0, _⟩ => exact (Nat.zero_add _).symm
  | ⟨1, _⟩ => exact (Nat.zero_add _).symm
  | ⟨2, _⟩ => rfl

/-- The reference's product at an index: the token's row times the column. -/
theorem product_apply (x : FVec Ideal S8x4096x1024 .f32) (w : FVec Ideal S4x1024x12296 .f32) (r : Fin 32768) (c : Fin 6144) :
    product x w (ix2 r c) = ∑ k : Fin 1024, x (ix3 (⟨r.val / 4096, by omega⟩ : Fin 8) (⟨r.val % 4096, by omega⟩ : Fin 4096) k)
      * w (ix3 (0 : Fin 4) k (⟨6152 + c.val, by omega⟩ : Fin 12296)) :=
  ((cut_apply _ r c).trans (dot_apply x _ _ _ _)).trans (Finset.sum_congr rfl fun k _ => congrArg (x _ * ·) (layer_apply w k _))

/-- What the body stores at an index of its block. -/
theorem pay_apply (v : Vec Ideal S2048x1024 .bf16) (w : Vec Ideal S1x1024x1536 .bf16) (p : Fin 2048) (q : Fin 1536) :
    k0_pay1 v w (ix2 p q) = ∑ k : Fin 1024, (v (ix2 p k) : EReal) * w (ix3 (0 : Fin 1) k q) := by
  pointwise [k0_pay1]

/-- The tokens' block at grid point `t`: row `p` is token `t / 4 * 2048 + p`. -/
theorem xb_apply (c : Dev nD) (t : Fin cfg0.N) (p : Fin 2048) (k : Fin 1024) (h : t.val / 4 < 16) :
    iblk m c 0 t (ix2 p k) = (m ((c : Thread nD τ).loc main_arg0) : FVec Ideal S8x4096x1024 .f32)
      (ix3 (⟨(t.val / 4 * 2048 + p.val) / 4096, by omega⟩ : Fin 8) (⟨(t.val / 4 * 2048 + p.val) % 4096, by omega⟩ : Fin 4096) k) := by
  blk_simp [iblk, idx t]
  entry_read
  pointwise
  blk_ext [idx t]

/-- The matrix's block at grid point `t`: column `q` is column `t % 4 * 1536 + q` of the wide half. -/
theorem wb_apply (c : Dev nD) (t : Fin cfg0.N) (k : Fin 1024) (q : Fin 1536) :
    iblk m c 1 t (ix3 (0 : Fin 1) k q) = (m ((c : Thread nD τ).loc main_arg1) : FVec Ideal S4x1024x12296 .f32)
      (ix3 (0 : Fin 4) k (⟨6152 + (t.val % 4 * 1536 + q.val), by omega⟩ : Fin 12296)) := by
  blk_simp [iblk, idx t]
  entry_read
  pointwise
  blk_ext [idx t]

/-- What the body stores at an index of its block is the reference's product where that index stands in the array. -/
theorem point (c : Dev nD) (t : Fin cfg0.N) (y : S2048x1536.Idx) : k0_pay1 (iblk m c 0 t) (iblk m c 1 t) y
    = product (m ((c : Thread nD τ).loc main_arg0)) (m ((c : Thread nD τ).loc main_arg1)) (((cfg0.win 2).blk t).view.emb y) := by
  obtain ⟨p, q, rfl⟩ : ∃ (p : Fin 2048) (q : Fin 1536), y = ix2 p q := ⟨y 0, y 1, (ValueIdx.eq_ix2 y)⟩
  have h := (idx t).2.2.2
  have e : ((cfg0.win 2).blk t).view.emb (ix2 p q)
      = ix2 (⟨t.val / 4 * 2048 + p.val, by omega⟩ : Fin 32768) (⟨t.val % 4 * 1536 + q.val, by omega⟩ : Fin 6144) := by
    blk_ext [idx t]
  refine (pay_apply _ _ p q).trans ?_
  refine Eq.trans ?_ ((congrArg (product _ _) e).trans (product_apply _ _ _ _)).symm
  exact Finset.sum_congr rfl fun k _ => congrArg₂ (· * ·) (xb_apply m c t p k h) (wb_apply m c t k q)

/-- The result array after the run is the reference's product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Proj

end
-- ==== Proof.Experts.Run.lean ====
/-
  The expert call's body at one grid point, over any float values, on whole staging buffers. Four cases: the point casts its
  expert's weights into the scratches or keeps them, and its tile is in use or not. In each the inputs and the tables come back
  as they were, the scratches hold the cast weights, and the two outputs hold the tile's halves, or zeros.
-/
module

public import proofs.«01_k».proof.Proof.Gen.Kernel3Ideal.Skeleton
public import proofs.«01_k».proof.Proof.Gen.Kernel3Ideal.Launch
public import Idealize.ShloMosaic.Lib.VecWindow
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The logic's carrier at the values `F`. -/
abbrev MM (F : FTy → Type) : Type := MT nD τ sig Unit (Elt F) ℕ (UR sig nD τ) ℕ

/-- The tables and scratches the kernel is handed, whole. -/
abbrev tbl0 : Memref sig .tc .smem S144 .i32 := Memref.whole main_arg5
abbrev tbl1 : Memref sig .tc .smem S1 .i32 := Memref.whole main_arg6
abbrev scr0 : Memref sig .tc .vmem S1024x512 .bf16 := Memref.whole cc0_scratch0
abbrev scr1 : Memref sig .tc .vmem S1024x512 .bf16 := Memref.whole cc0_scratch1
abbrev scr2 : Memref sig .tc .vmem S512x1024 .bf16 := Memref.whole cc0_scratch2

/-- The table's word at point `i`, and at the point before it (the first point's at the first). -/
abbrev word (T0 : S144.Idx → Elt F .i32) (i : grid0.Coords) : Elt F .i32 :=
  View.readAt (Elt F) tbl0.view (Rect.unit (s := S144) (k0_off1 i) S1.size (k0_off1_inb i)).toLoadRect T0 (Shape.Idx.first (numel1_S1.symm ▸ Nat.one_pos))
abbrev wordBefore (T0 : S144.Idx → Elt F .i32) (i : grid0.Coords) : Elt F .i32 :=
  View.readAt (Elt F) tbl0.view (Rect.unit (s := S144) (k0_off2 i) S1.size (k0_off2_inb i)).toLoadRect T0 (Shape.Idx.first (numel1_S1.symm ▸ Nat.one_pos))
/-- The number of tiles in use. -/
abbrev count (T1 : S1.Idx → Elt F .i32) : Elt F .i32 :=
  View.readAt (Elt F) tbl1.view (Rect.unit (s := S1) ![0] S1.size inb_S1_S1_0).toLoadRect T1 (Shape.Idx.first (numel1_S1.symm ▸ Nat.one_pos))

/-- The first point, or a point of another expert than the point before: the weights are cast anew. -/
abbrev Reload (T0 : S144.Idx → Elt F .i32) (i : grid0.Coords) : Prop :=
  Scalar.cmpi .ne (Scalar.extui (Scalar.ori (Scalar.cmpi .eq (BitVec.ofNat 32 (i 0).val) 0#32) (Scalar.cmpi .ne (word T0 i) (wordBefore T0 i)))) 0#32 = 1#1

/-- The five inputs' staging buffers at their blocks, and the body's halves of the two tables. -/
abbrev inputs (c : Dev nD) (arg3 arg4 : Memref sig .tc .vmem S512x512 .bf16) (arg5 arg6 : Memref sig .tc .vmem S1x1x1024x512 .f32)
    (arg7 : Memref sig .tc .vmem S1x1x512x1024 .f32) (T0 : S144.Idx → Elt F .i32) (T1 : S1.Idx → Elt F .i32)
    (x0 x1 : S512x512.Idx → Elt F .bf16) (x2 x3 : S1x1x1024x512.Idx → Elt F .f32) (x4 : S1x1x512x1024.Idx → Elt F .f32) : sProp (MM F) :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tbl0.view.loc (c : Thread nD τ) ↦{fullShare.right} T0)
    ∗ (tbl1.view.loc (c : Thread nD τ) ↦{fullShare.right} T1))

set_option backward.proofsInPublic true in
set_option maxHeartbeats 8000000 in
/-- A tile in use whose point casts its expert's weights. -/
theorem run_reload_live (c : Dev nD) (i : grid0.Coords) (arg3 : Memref sig .tc .vmem S512x512 .bf16) (harg3 : arg3.IsWhole) (arg4 : Memref sig .tc .vmem S512x512 .bf16) (harg4 : arg4.IsWhole)
    (arg5 : Memref sig .tc .vmem S1x1x1024x512 .f32) (harg5 : arg5.IsWhole) (arg6 : Memref sig .tc .vmem S1x1x1024x512 .f32) (harg6 : arg6.IsWhole)
    (arg7 : Memref sig .tc .vmem S1x1x512x1024 .f32) (harg7 : arg7.IsWhole) (arg8 : Memref sig .tc .vmem S512x512 .bf16) (harg8 : arg8.IsWhole)
    (arg9 : Memref sig .tc .vmem S512x512 .bf16) (harg9 : arg9.IsWhole)
    (T0 : S144.Idx → Elt F .i32) (T1 : S1.Idx → Elt F .i32)
    (x0 x1 : S512x512.Idx → Elt F .bf16) (x2 x3 : S1x1x1024x512.Idx → Elt F .f32) (x4 : S1x1x512x1024.Idx → Elt F .f32)
    (hc0 : Reload T0 i) (k0_h2 : k0_cond2 i (count T1) = 1#1) (k0_h3 : ¬(k0_cond3 i (count T1) = 1#1)) (K : PUnit → sProp (MM F)) :
    iprop(inputs c arg3 arg4 arg5 arg6 arg7 T0 T1 x0 x1 x2 x3 x4
        ∗ (∃ d, owns (c : Thread nD τ) arg8 fullShare d) ∗ (∃ d, owns (c : Thread nD τ) arg9 fullShare d)
        ∗ (∃ d, owns (c : Thread nD τ) scr0 fullShare d) ∗ (∃ d, owns (c : Thread nD τ) scr1 fullShare d) ∗ (∃ d, owns (c : Thread nD τ) scr2 fullShare d)
        ∗ (iprop(inputs c arg3 arg4 arg5 arg6 arg7 T0 T1 x0 x1 x2 x3 x4
            ∗ owns (c : Thread nD τ) arg8 fullShare (k0_pay5 x0 x1 (k0_pay1 x2) (k0_pay2 x3) (k0_pay3 x4))
            ∗ owns (c : Thread nD τ) arg9 fullShare (k0_pay6 x0 x1 (k0_pay1 x2) (k0_pay2 x3) (k0_pay3 x4))
            ∗ owns (c : Thread nD τ) scr0 fullShare (k0_pay1 x2)
            ∗ owns (c : Thread nD τ) scr1 fullShare (k0_pay2 x3)
            ∗ owns (c : Thread nD τ) scr2 fullShare (k0_pay3 x4)) -∗ K ⟨⟩))
      ⊢ wp frame (wpE (defs₀ (F := F)) Variants.none c none) Set.univ (cc0_experts i tbl0 (Memref.isWhole_whole _) tbl1 (Memref.isWhole_whole _) arg3 harg3 arg4 harg4 arg5 harg5 arg6 harg6 arg7 harg7 arg8 harg8 arg9 harg9 scr0 (Memref.isWhole_whole _) scr1 (Memref.isWhole_whole _) scr2 (Memref.isWhole_whole _)) K := by
  unfold owns
  rw [cc0_experts_eq_skeleton]; unfold cc0_experts_skel
  iintro ⟨⟨H0, H1, H2, H3, H4, HT0, HT1⟩, ⟨%d5, %f5, -, HO5⟩, ⟨%d6, %f6, -, HO6⟩, ⟨%e0, %g0, -, HS0⟩, ⟨%e1, %g1, -, HS1⟩, ⟨%e2, %g2, -, HS2⟩, Hk⟩
  have hS0 : scr0.IsWhole := Memref.isWhole_whole _
  have hS1 : scr1.IsWhole := Memref.isWhole_whole _
  have hS2 : scr2.IsWhole := Memref.isWhole_whole _
  have hT0 : tbl0.IsWhole := Memref.isWhole_whole _
  have hT1 : tbl1.IsWhole := Memref.isWhole_whole _
  sl_exec! (disch := first | exact hc0 | exact k0_h2 | exact k0_h3)
  sl_step; iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; delta run_reload_live.sl.HO5_1; delta run_reload_live.sl.v30; delta run_reload_live.sl.v34; delta run_reload_live.sl.v38; delta run_reload_live.sl.HS0_1; delta run_reload_live.sl.HS1_1; delta run_reload_live.sl.HS2_1; rw [View.read_writes_full, View.readAt_rep_full, View.readAt_rep_full, View.readCov_full, View.readCov_full, View.readCov_full, View.readAt_rep_full, View.readAt_rep_full, View.readAt_rep_full]
  isplitl [HO6]
  · iexists _; isplitr; swap
    · iexact HO6
    · ipureintro; delta run_reload_live.sl.HO6_1; delta run_reload_live.sl.v30; delta run_reload_live.sl.v34; delta run_reload_live.sl.v38; delta run_reload_live.sl.HS0_1; delta run_reload_live.sl.HS1_1; delta run_reload_live.sl.HS2_1; rw [View.read_writes_full, View.readAt_rep_full, View.readAt_rep_full, View.readCov_full, View.readCov_full, View.readCov_full, View.readAt_rep_full, View.readAt_rep_full, View.readAt_rep_full]
  isplitl [HS0]
  · iexists _; isplitr; swap
    · iexact HS0
    · ipureintro; delta run_reload_live.sl.HS0_1; rw [View.read_writes_full, View.readAt_rep_full]
  isplitl [HS1]
  · iexists _; isplitr; swap
    · iexact HS1
    · ipureintro; delta run_reload_live.sl.HS1_1; rw [View.read_writes_full, View.readAt_rep_full]
  iexists _; isplitr; swap
  · iexact HS2
  · ipureintro; delta run_reload_live.sl.HS2_1; rw [View.read_writes_full, View.readAt_rep_full]

set_option backward.proofsInPublic true in
set_option maxHeartbeats 8000000 in
/-- A tile in use whose point finds its expert's weights cast. -/
theorem run_keep_live (c : Dev nD) (i : grid0.Coords) (arg3 : Memref sig .tc .vmem S512x512 .bf16) (harg3 : arg3.IsWhole) (arg4 : Memref sig .tc .vmem S512x512 .bf16) (harg4 : arg4.IsWhole)
    (arg5 : Memref sig .tc .vmem S1x1x1024x512 .f32) (harg5 : arg5.IsWhole) (arg6 : Memref sig .tc .vmem S1x1x1024x512 .f32) (harg6 : arg6.IsWhole)
    (arg7 : Memref sig .tc .vmem S1x1x512x1024 .f32) (harg7 : arg7.IsWhole) (arg8 : Memref sig .tc .vmem S512x512 .bf16) (harg8 : arg8.IsWhole)
    (arg9 : Memref sig .tc .vmem S512x512 .bf16) (harg9 : arg9.IsWhole)
    (T0 : S144.Idx → Elt F .i32) (T1 : S1.Idx → Elt F .i32)
    (x0 x1 : S512x512.Idx → Elt F .bf16) (x2 x3 : S1x1x1024x512.Idx → Elt F .f32) (x4 : S1x1x512x1024.Idx → Elt F .f32) (w0 w1 : S1024x512.Idx → Elt F .bf16) (w2 : S512x1024.Idx → Elt F .bf16)
    (hc0 : ¬Reload T0 i) (k0_h2 : k0_cond2 i (count T1) = 1#1) (k0_h3 : ¬(k0_cond3 i (count T1) = 1#1)) (K : PUnit → sProp (MM F)) :
    iprop(inputs c arg3 arg4 arg5 arg6 arg7 T0 T1 x0 x1 x2 x3 x4
        ∗ (∃ d, owns (c : Thread nD τ) arg8 fullShare d) ∗ (∃ d, owns (c : Thread nD τ) arg9 fullShare d)
        ∗ (scr0.view.loc (c : Thread nD τ) ↦[scr0.view.set]{fullShare} scr0.view.rep w0)
        ∗ (scr1.view.loc (c : Thread nD τ) ↦[scr1.view.set]{fullShare} scr1.view.rep w1)
        ∗ (scr2.view.loc (c : Thread nD τ) ↦[scr2.view.set]{fullShare} scr2.view.rep w2)
        ∗ (iprop(inputs c arg3 arg4 arg5 arg6 arg7 T0 T1 x0 x1 x2 x3 x4
            ∗ owns (c : Thread nD τ) arg8 fullShare (k0_pay5 x0 x1 w0 w1 w2)
            ∗ owns (c : Thread nD τ) arg9 fullShare (k0_pay6 x0 x1 w0 w1 w2)
            ∗ (scr0.view.loc (c : Thread nD τ) ↦[scr0.view.set]{fullShare} scr0.view.rep w0)
            ∗ (scr1.view.loc (c : Thread nD τ) ↦[scr1.view.set]{fullShare} scr1.view.rep w1)
            ∗ (scr2.view.loc (c : Thread nD τ) ↦[scr2.view.set]{fullShare} scr2.view.rep w2)) -∗ K ⟨⟩))
      ⊢ wp frame (wpE (defs₀ (F := F)) Variants.none c none) Set.univ (cc0_experts i tbl0 (Memref.isWhole_whole _) tbl1 (Memref.isWhole_whole _) arg3 harg3 arg4 harg4 arg5 harg5 arg6 harg6 arg7 harg7 arg8 harg8 arg9 harg9 scr0 (Memref.isWhole_whole _) scr1 (Memref.isWhole_whole _) scr2 (Memref.isWhole_whole _)) K := by
  unfold owns
  rw [cc0_experts_eq_skeleton]; unfold cc0_experts_skel
  iintro ⟨⟨H0, H1, H2, H3, H4, HT0, HT1⟩, ⟨%d5, %f5, -, HO5⟩, ⟨%d6, %f6, -, HO6⟩, HS0, HS1, HS2, Hk⟩
  have hS0 : scr0.IsWhole := Memref.isWhole_whole _
  have hS1 : scr1.IsWhole := Memref.isWhole_whole _
  have hS2 : scr2.IsWhole := Memref.isWhole_whole _
  have hT0 : tbl0.IsWhole := Memref.isWhole_whole _
  have hT1 : tbl1.IsWhole := Memref.isWhole_whole _
  sl_exec! (disch := first | exact hc0 | exact k0_h2 | exact k0_h3)
  sl_step; iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; delta run_keep_live.sl.HO5_1; rw [View.read_writes_full, View.readAt_rep_full, View.readAt_rep_full, View.readAt_rep_full, View.readAt_rep_full, View.readAt_rep_full]
  isplitl [HO6]
  · iexists _; isplitr; swap
    · iexact HO6
    · ipureintro; delta run_keep_live.sl.HO6_1; rw [View.read_writes_full, View.readAt_rep_full, View.readAt_rep_full, View.readAt_rep_full, View.readAt_rep_full, View.readAt_rep_full]
  isplitl [HS0]; · iexact HS0
  isplitl [HS1]; · iexact HS1
  iexact HS2

set_option backward.proofsInPublic true in
set_option maxHeartbeats 8000000 in
/-- A tile not in use whose point keeps the scratches. -/
theorem run_keep_dead (c : Dev nD) (i : grid0.Coords) (arg3 : Memref sig .tc .vmem S512x512 .bf16) (harg3 : arg3.IsWhole) (arg4 : Memref sig .tc .vmem S512x512 .bf16) (harg4 : arg4.IsWhole)
    (arg5 : Memref sig .tc .vmem S1x1x1024x512 .f32) (harg5 : arg5.IsWhole) (arg6 : Memref sig .tc .vmem S1x1x1024x512 .f32) (harg6 : arg6.IsWhole)
    (arg7 : Memref sig .tc .vmem S1x1x512x1024 .f32) (harg7 : arg7.IsWhole) (arg8 : Memref sig .tc .vmem S512x512 .bf16) (harg8 : arg8.IsWhole)
    (arg9 : Memref sig .tc .vmem S512x512 .bf16) (harg9 : arg9.IsWhole)
    (T0 : S144.Idx → Elt F .i32) (T1 : S1.Idx → Elt F .i32)
    (x0 x1 : S512x512.Idx → Elt F .bf16) (x2 x3 : S1x1x1024x512.Idx → Elt F .f32) (x4 : S1x1x512x1024.Idx → Elt F .f32) (w0 w1 : S1024x512.Idx → Elt F .bf16) (w2 : S512x1024.Idx → Elt F .bf16)
    (hc0 : ¬Reload T0 i) (k0_h2 : ¬(k0_cond2 i (count T1) = 1#1)) (k0_h3 : k0_cond3 i (count T1) = 1#1) (K : PUnit → sProp (MM F)) :
    iprop(inputs c arg3 arg4 arg5 arg6 arg7 T0 T1 x0 x1 x2 x3 x4
        ∗ (∃ d, owns (c : Thread nD τ) arg8 fullShare d) ∗ (∃ d, owns (c : Thread nD τ) arg9 fullShare d)
        ∗ (scr0.view.loc (c : Thread nD τ) ↦[scr0.view.set]{fullShare} scr0.view.rep w0)
        ∗ (scr1.view.loc (c : Thread nD τ) ↦[scr1.view.set]{fullShare} scr1.view.rep w1)
        ∗ (scr2.view.loc (c : Thread nD τ) ↦[scr2.view.set]{fullShare} scr2.view.rep w2)
        ∗ (iprop(inputs c arg3 arg4 arg5 arg6 arg7 T0 T1 x0 x1 x2 x3 x4
            ∗ owns (c : Thread nD τ) arg8 fullShare (k0_pay7 (F := F))
            ∗ owns (c : Thread nD τ) arg9 fullShare (k0_pay8 (F := F))
            ∗ (scr0.view.loc (c : Thread nD τ) ↦[scr0.view.set]{fullShare} scr0.view.rep w0)
            ∗ (scr1.view.loc (c : Thread nD τ) ↦[scr1.view.set]{fullShare} scr1.view.rep w1)
            ∗ (scr2.view.loc (c : Thread nD τ) ↦[scr2.view.set]{fullShare} scr2.view.rep w2)) -∗ K ⟨⟩))
      ⊢ wp frame (wpE (defs₀ (F := F)) Variants.none c none) Set.univ (cc0_experts i tbl0 (Memref.isWhole_whole _) tbl1 (Memref.isWhole_whole _) arg3 harg3 arg4 harg4 arg5 harg5 arg6 harg6 arg7 harg7 arg8 harg8 arg9 harg9 scr0 (Memref.isWhole_whole _) scr1 (Memref.isWhole_whole _) scr2 (Memref.isWhole_whole _)) K := by
  unfold owns
  rw [cc0_experts_eq_skeleton]; unfold cc0_experts_skel
  iintro ⟨⟨H0, H1, H2, H3, H4, HT0, HT1⟩, ⟨%d5, %f5, -, HO5⟩, ⟨%d6, %f6, -, HO6⟩, HS0, HS1, HS2, Hk⟩
  have hS0 : scr0.IsWhole := Memref.isWhole_whole _
  have hS1 : scr1.IsWhole := Memref.isWhole_whole _
  have hS2 : scr2.IsWhole := Memref.isWhole_whole _
  have hT0 : tbl0.IsWhole := Memref.isWhole_whole _
  have hT1 : tbl1.IsWhole := Memref.isWhole_whole _
  sl_exec! (disch := first | exact hc0 | exact k0_h2 | exact k0_h3)
  sl_step; iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; delta run_keep_dead.sl.HO5_1; rw [View.read_writes_full]
  isplitl [HO6]
  · iexists _; isplitr; swap
    · iexact HO6
    · ipureintro; delta run_keep_dead.sl.HO6_1; rw [View.read_writes_full]
  isplitl [HS0]; · iexact HS0
  isplitl [HS1]; · iexact HS1
  iexact HS2

set_option backward.proofsInPublic true in
set_option maxHeartbeats 8000000 in
/-- A tile not in use whose point casts its expert's weights. -/
theorem run_reload_dead (c : Dev nD) (i : grid0.Coords) (arg3 : Memref sig .tc .vmem S512x512 .bf16) (harg3 : arg3.IsWhole) (arg4 : Memref sig .tc .vmem S512x512 .bf16) (harg4 : arg4.IsWhole)
    (arg5 : Memref sig .tc .vmem S1x1x1024x512 .f32) (harg5 : arg5.IsWhole) (arg6 : Memref sig .tc .vmem S1x1x1024x512 .f32) (harg6 : arg6.IsWhole)
    (arg7 : Memref sig .tc .vmem S1x1x512x1024 .f32) (harg7 : arg7.IsWhole) (arg8 : Memref sig .tc .vmem S512x512 .bf16) (harg8 : arg8.IsWhole)
    (arg9 : Memref sig .tc .vmem S512x512 .bf16) (harg9 : arg9.IsWhole)
    (T0 : S144.Idx → Elt F .i32) (T1 : S1.Idx → Elt F .i32)
    (x0 x1 : S512x512.Idx → Elt F .bf16) (x2 x3 : S1x1x1024x512.Idx → Elt F .f32) (x4 : S1x1x512x1024.Idx → Elt F .f32)
    (hc0 : Reload T0 i) (k0_h2 : ¬(k0_cond2 i (count T1) = 1#1)) (k0_h3 : k0_cond3 i (count T1) = 1#1) (K : PUnit → sProp (MM F)) :
    iprop(inputs c arg3 arg4 arg5 arg6 arg7 T0 T1 x0 x1 x2 x3 x4
        ∗ (∃ d, owns (c : Thread nD τ) arg8 fullShare d) ∗ (∃ d, owns (c : Thread nD τ) arg9 fullShare d)
        ∗ (∃ d, owns (c : Thread nD τ) scr0 fullShare d) ∗ (∃ d, owns (c : Thread nD τ) scr1 fullShare d) ∗ (∃ d, owns (c : Thread nD τ) scr2 fullShare d)
        ∗ (iprop(inputs c arg3 arg4 arg5 arg6 arg7 T0 T1 x0 x1 x2 x3 x4
            ∗ owns (c : Thread nD τ) arg8 fullShare (k0_pay7 (F := F))
            ∗ owns (c : Thread nD τ) arg9 fullShare (k0_pay8 (F := F))
            ∗ owns (c : Thread nD τ) scr0 fullShare (k0_pay1 x2)
            ∗ owns (c : Thread nD τ) scr1 fullShare (k0_pay2 x3)
            ∗ owns (c : Thread nD τ) scr2 fullShare (k0_pay3 x4)) -∗ K ⟨⟩))
      ⊢ wp frame (wpE (defs₀ (F := F)) Variants.none c none) Set.univ (cc0_experts i tbl0 (Memref.isWhole_whole _) tbl1 (Memref.isWhole_whole _) arg3 harg3 arg4 harg4 arg5 harg5 arg6 harg6 arg7 harg7 arg8 harg8 arg9 harg9 scr0 (Memref.isWhole_whole _) scr1 (Memref.isWhole_whole _) scr2 (Memref.isWhole_whole _)) K := by
  unfold owns
  rw [cc0_experts_eq_skeleton]; unfold cc0_experts_skel
  iintro ⟨⟨H0, H1, H2, H3, H4, HT0, HT1⟩, ⟨%d5, %f5, -, HO5⟩, ⟨%d6, %f6, -, HO6⟩, ⟨%e0, %g0, -, HS0⟩, ⟨%e1, %g1, -, HS1⟩, ⟨%e2, %g2, -, HS2⟩, Hk⟩
  have hS0 : scr0.IsWhole := Memref.isWhole_whole _
  have hS1 : scr1.IsWhole := Memref.isWhole_whole _
  have hS2 : scr2.IsWhole := Memref.isWhole_whole _
  have hT0 : tbl0.IsWhole := Memref.isWhole_whole _
  have hT1 : tbl1.IsWhole := Memref.isWhole_whole _
  sl_exec! (disch := first | exact hc0 | exact k0_h2 | exact k0_h3)
  sl_step; iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; delta run_reload_dead.sl.HO5_1; rw [View.read_writes_full]
  isplitl [HO6]
  · iexists _; isplitr; swap
    · iexact HO6
    · ipureintro; delta run_reload_dead.sl.HO6_1; rw [View.read_writes_full]
  isplitl [HS0]
  · iexists _; isplitr; swap
    · iexact HS0
    · ipureintro; delta run_reload_dead.sl.HS0_1; rw [View.read_writes_full, View.readAt_rep_full]
  isplitl [HS1]
  · iexists _; isplitr; swap
    · iexact HS1
    · ipureintro; delta run_reload_dead.sl.HS1_1; rw [View.read_writes_full, View.readAt_rep_full]
  iexists _; isplitr; swap
  · iexact HS2
  · ipureintro; delta run_reload_dead.sl.HS2_1; rw [View.read_writes_full, View.readAt_rep_full]

end Cert.Kernel3Ideal.Experts

end

end
-- ==== Proof.Experts.Data.lean ====
/-
  The expert call's pipeline at arbitrary tables. After every point the three scratches hold the cast weights of the point's
  expert: a point that keeps them has its neighbour's expert, so its blocks are the neighbour's. So what a point leaves in its
  outputs is a function of its own blocks alone.
-/
module

public import proofs.«01_k».proof.Proof.Experts.Run

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (a : (pcfg0 (F := F)).Adm) (m : (ℓ : Loc nD τ sig) → Buf (Elt F) ℓ) (ρ : Dev nD → PrngReg)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- The two tables. -/
abbrev te : S144.Idx → Elt F .i32 := a.1 0
abbrev na : S1.Idx → Elt F .i32 := a.1 1

/-- Point `t`'s coordinates. -/
abbrev crd (t : Fin (cfgA a).N) : grid0.Coords := (cfgA a).grid.coords t

/-- Each window's current staging buffer at point `t`. -/
abbrev stg0 (t : Fin (cfgA a).N) : Memref sig .tc .vmem S512x512 .bf16 := spec0_0.stage ((cfgA a).slots t (0 : Fin 7))
abbrev whl0 (t : Fin (cfgA a).N) : (stg0 a t).IsWhole := hstage0_0 (((cfgA a).slots t (0 : Fin 7)).cast nbuf0_0)
abbrev stg1 (t : Fin (cfgA a).N) : Memref sig .tc .vmem S512x512 .bf16 := spec0_1.stage ((cfgA a).slots t (1 : Fin 7))
abbrev whl1 (t : Fin (cfgA a).N) : (stg1 a t).IsWhole := hstage0_1 (((cfgA a).slots t (1 : Fin 7)).cast nbuf0_1)
abbrev stg2 (t : Fin (cfgA a).N) : Memref sig .tc .vmem S1x1x1024x512 .f32 := spec0_2.stage ((cfgA a).slots t (2 : Fin 7))
abbrev whl2 (t : Fin (cfgA a).N) : (stg2 a t).IsWhole := hstage0_2 (((cfgA a).slots t (2 : Fin 7)).cast nbuf0_2)
abbrev stg3 (t : Fin (cfgA a).N) : Memref sig .tc .vmem S1x1x1024x512 .f32 := spec0_3.stage ((cfgA a).slots t (3 : Fin 7))
abbrev whl3 (t : Fin (cfgA a).N) : (stg3 a t).IsWhole := hstage0_3 (((cfgA a).slots t (3 : Fin 7)).cast nbuf0_3)
abbrev stg4 (t : Fin (cfgA a).N) : Memref sig .tc .vmem S1x1x512x1024 .f32 := spec0_4.stage ((cfgA a).slots t (4 : Fin 7))
abbrev whl4 (t : Fin (cfgA a).N) : (stg4 a t).IsWhole := hstage0_4 (((cfgA a).slots t (4 : Fin 7)).cast nbuf0_4)
abbrev stg5 (t : Fin (cfgA a).N) : Memref sig .tc .vmem S512x512 .bf16 := spec0_5.stage ((cfgA a).slots t (5 : Fin 7))
abbrev whl5 (t : Fin (cfgA a).N) : (stg5 a t).IsWhole := hstage0_5 (((cfgA a).slots t (5 : Fin 7)).cast nbuf0_5)
abbrev stg6 (t : Fin (cfgA a).N) : Memref sig .tc .vmem S512x512 .bf16 := spec0_6.stage ((cfgA a).slots t (6 : Fin 7))
abbrev whl6 (t : Fin (cfgA a).N) : (stg6 a t).IsWhole := hstage0_6 (((cfgA a).slots t (6 : Fin 7)).cast nbuf0_6)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- Point `t`'s expert. -/
abbrev expert (t : Fin (cfgA a).N) : Elt F .i32 := word (te a) (crd a t)

/-- The weight windows' block index at point `t` is the expert. -/
theorem ix2_eq (t : Fin (cfgA a).N) : cc0_transform_2 k0_off1_inb numel1_S1 a.1 (crd a t) = ![0, (expert a t : BitVec 32).toNat, 0, 0] := rfl
theorem ix3_eq (t : Fin (cfgA a).N) : cc0_transform_3 k0_off1_inb numel1_S1 a.1 (crd a t) = ![0, (expert a t : BitVec 32).toNat, 0, 0] := rfl
theorem ix4_eq (t : Fin (cfgA a).N) : cc0_transform_4 k0_off1_inb numel1_S1 a.1 (crd a t) = ![0, (expert a t : BitVec 32).toNat, 0, 0] := rfl

/-- Two points of one expert read the same weights. -/
theorem iblk2_congr (c : Dev nD) (t t' : Fin (cfgA a).N) (h : expert a t = expert a t') :
    (iblk a m c (2 : Fin 7) t : S1x1x1024x512.Idx → Elt F .f32) = iblk a m c (2 : Fin 7) t' := by
  funext y
  refine congrArg (m ((c : Thread nD τ).loc main_arg2)) (funext fun k => Fin.ext ?_)
  show cc0_transform_2 k0_off1_inb numel1_S1 a.1 (crd a t) k * S1x1x1024x512.size k + 1 * (y k).val = cc0_transform_2 k0_off1_inb numel1_S1 a.1 (crd a t') k * S1x1x1024x512.size k + 1 * (y k).val
  rw [ix2_eq, ix2_eq, h]
theorem iblk3_congr (c : Dev nD) (t t' : Fin (cfgA a).N) (h : expert a t = expert a t') :
    (iblk a m c (3 : Fin 7) t : S1x1x1024x512.Idx → Elt F .f32) = iblk a m c (3 : Fin 7) t' := by
  funext y
  refine congrArg (m ((c : Thread nD τ).loc main_arg3)) (funext fun k => Fin.ext ?_)
  show cc0_transform_3 k0_off1_inb numel1_S1 a.1 (crd a t) k * S1x1x1024x512.size k + 1 * (y k).val = cc0_transform_3 k0_off1_inb numel1_S1 a.1 (crd a t') k * S1x1x1024x512.size k + 1 * (y k).val
  rw [ix3_eq, ix3_eq, h]
theorem iblk4_congr (c : Dev nD) (t t' : Fin (cfgA a).N) (h : expert a t = expert a t') :
    (iblk a m c (4 : Fin 7) t : S1x1x512x1024.Idx → Elt F .f32) = iblk a m c (4 : Fin 7) t' := by
  funext y
  refine congrArg (m ((c : Thread nD τ).loc main_arg4)) (funext fun k => Fin.ext ?_)
  show cc0_transform_4 k0_off1_inb numel1_S1 a.1 (crd a t) k * S1x1x512x1024.size k + 1 * (y k).val = cc0_transform_4 k0_off1_inb numel1_S1 a.1 (crd a t') k * S1x1x512x1024.size k + 1 * (y k).val
  rw [ix4_eq, ix4_eq, h]

/-- The grid has one coordinate, the point itself. -/
theorem crd_val : ∀ t : Fin grid0.N, (grid0.coords t 0).val = t.val := by decide +kernel

/-- The word before a point that is not the first is the word of the point before. -/
theorem wordBefore_eq (T0 : S144.Idx → Elt F .i32) (t t' : Fin grid0.N) (ht : t.val = t'.val + 1) :
    wordBefore T0 (grid0.coords t) = word T0 (grid0.coords t') := by
  refine congrArg T0 (funext fun k => Fin.ext ?_)
  show k0_off2 (grid0.coords t) k + 1 * _ = k0_off1 (grid0.coords t') k + 1 * _
  have hk : k0_off2 (grid0.coords t) k = k0_off1 (grid0.coords t') k := by
    have h : ∀ t t' : Fin grid0.N, t.val = t'.val + 1 → ∀ k, k0_off2 (grid0.coords t) k = k0_off1 (grid0.coords t') k := by
      intro t t' e k
      have e1 := crd_val t
      have e2 := crd_val t'
      have hN : t.val < 144 := t.isLt
      unfold k0_off2 k0_off1
      simp only [e1, e2, e]
      have hx : Scalar.maxsi (Scalar.subi (BitVec.ofNat 32 (t'.val + 1)) 1#32) 0#32 = BitVec.ofNat 32 t'.val := by
        have : ∀ n : Fin 144, Scalar.maxsi (Scalar.subi (BitVec.ofNat 32 (n.val + 1)) 1#32) 0#32 = BitVec.ofNat 32 n.val := by decide +kernel
        exact this ⟨t'.val, by omega⟩
      rw [hx]
    exact h t t' ht k
  rw [hk]

theorem bits_of_keep : ∀ b b' : BitVec 1, ¬(Scalar.cmpi .ne (Scalar.extui (Scalar.ori b b')) 0#32 = 1#1) → b = 0#1 ∧ b' = 0#1 := by decide

theorem eq_of_ne_bit (x y : BitVec 32) (h : Scalar.cmpi .ne x y = 0#1) : x = y := by
  by_contra hne
  have h1 : Scalar.cmpi .ne x y = 1#1 := by
    show BitVec.ofBool (x != y) = 1#1
    rw [bne_iff_ne.mpr hne]; rfl
  rw [h1] at h; revert h; decide

/-- A point that keeps the scratches is not the first, and has the expert of the point before. -/
theorem keep_spec (t : Fin (cfgA a).N) (h : ¬Reload (te a) (crd a t)) :
    t.val ≠ 0 ∧ ∀ t' : Fin (cfgA a).N, t.val = t'.val + 1 → expert a t = expert a t' := by
  obtain ⟨h1, h2⟩ := bits_of_keep _ _ h
  constructor
  · intro h0
    rw [show (crd a t 0).val = 0 from (crd_val t).trans h0] at h1
    revert h1; decide
  · intro t' e
    have hw : (word (te a) (crd a t) : BitVec 32) = wordBefore (te a) (crd a t) := eq_of_ne_bit _ _ h2
    exact hw.trans (wordBefore_eq (te a) t t' e)

end Cert.Kernel3Ideal.Experts

end

end
-- ==== Proof.Experts.Launch.lean ====
/-
  The expert call's launch at arbitrary tables: what each window holds around the body, the body's obligation at every point
  by the four runs, and the whole call. From a memory whose two tables make every block lie inside its array, every weakly fair
  execution terminates with each array at the contents the pipeline computes and every counter at zero.
-/
module

public import proofs.«01_k».proof.Proof.Experts.Data
public import Idealize.ShloMosaic.Lib.Pipeline.Quiescent
public import Idealize.ShloMosaic.Lib.Claim

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (a : (pcfg0 (F := F)).Adm) (m : (ℓ : Loc nD τ sig) → Buf (Elt F) ℓ) (ρ : Dev nD → PrngReg)

/-- What a point leaves in its two outputs: its tile through its expert's weights, or zeros where the tile is not in use. -/
def out5 (c : Dev nD) (t : Fin (cfgA a).N) : S512x512.Idx → Elt F .bf16 :=
  if k0_cond2 (crd a t) (count (na a)) = 1#1 then
    k0_pay5 (iblk a m c (0 : Fin 7) t) (iblk a m c (1 : Fin 7) t) (k0_pay1 (iblk a m c (2 : Fin 7) t)) (k0_pay2 (iblk a m c (3 : Fin 7) t)) (k0_pay3 (iblk a m c (4 : Fin 7) t))
  else k0_pay7 (F := F)
def out6 (c : Dev nD) (t : Fin (cfgA a).N) : S512x512.Idx → Elt F .bf16 :=
  if k0_cond2 (crd a t) (count (na a)) = 1#1 then
    k0_pay6 (iblk a m c (0 : Fin 7) t) (iblk a m c (1 : Fin 7) t) (k0_pay1 (iblk a m c (2 : Fin 7) t)) (k0_pay2 (iblk a m c (3 : Fin 7) t)) (k0_pay3 (iblk a m c (4 : Fin 7) t))
  else k0_pay8 (F := F)

/-- The invariant before point `t` (after point `t - 1`): the scratches hold the weights of the point before, cast; the body's
    halves of the two tables. -/
def Phi (c : Dev nD) (t : Fin ((cfgA a).N + 1)) : sProp (MM F) :=
  iprop((∃ d, ⌜∀ t' : Fin (cfgA a).N, t.val = t'.val + 1 → d = k0_pay1 (iblk a m c (2 : Fin 7) t')⌝ ∗ owns (c : Thread nD τ) scr0 fullShare d)
    ∗ (∃ d, ⌜∀ t' : Fin (cfgA a).N, t.val = t'.val + 1 → d = k0_pay2 (iblk a m c (3 : Fin 7) t')⌝ ∗ owns (c : Thread nD τ) scr1 fullShare d)
    ∗ (∃ d, ⌜∀ t' : Fin (cfgA a).N, t.val = t'.val + 1 → d = k0_pay3 (iblk a m c (4 : Fin 7) t')⌝ ∗ owns (c : Thread nD τ) scr2 fullShare d)
    ∗ (tbl0.view.loc (c : Thread nD τ) ↦{fullShare.right} te a) ∗ (tbl1.view.loc (c : Thread nD τ) ↦{fullShare.right} na a))

/-- The start: any memory, zero counters. -/
abbrev s₀ : MemSt nD τ sig (Elt F) := ⟨m, fun _ => 0, ρ⟩

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m c (0 : Fin 7) t
    | ⟨1, _⟩ => iblk a m c (1 : Fin 7) t
    | ⟨2, _⟩ => iblk a m c (2 : Fin 7) t
    | ⟨3, _⟩ => iblk a m c (3 : Fin 7) t
    | ⟨4, _⟩ => iblk a m c (4 : Fin 7) t
    | ⟨5, _⟩ => out5 a m c t
    | ⟨6, _⟩ => out6 a m c t
  Φ t := Phi a m c t
  q _ := fullShare
  owed _ := 0

theorem after0_0 (c : Dev nD) (t : Fin (cfgA a).N) : (dats a m ρ 0 c).after (0 : Fin 7) t = iblk a m c (0 : Fin 7) t := rfl
theorem after0_1 (c : Dev nD) (t : Fin (cfgA a).N) : (dats a m ρ 0 c).after (1 : Fin 7) t = iblk a m c (1 : Fin 7) t := rfl
theorem after0_2 (c : Dev nD) (t : Fin (cfgA a).N) : (dats a m ρ 0 c).after (2 : Fin 7) t = iblk a m c (2 : Fin 7) t := rfl
theorem after0_3 (c : Dev nD) (t : Fin (cfgA a).N) : (dats a m ρ 0 c).after (3 : Fin 7) t = iblk a m c (3 : Fin 7) t := rfl
theorem after0_4 (c : Dev nD) (t : Fin (cfgA a).N) : (dats a m ρ 0 c).after (4 : Fin 7) t = iblk a m c (4 : Fin 7) t := rfl
theorem after0_5 (c : Dev nD) (t : Fin (cfgA a).N) : (dats a m ρ 0 c).after (5 : Fin 7) t = out5 a m c t := rfl
theorem after0_6 (c : Dev nD) (t : Fin (cfgA a).N) : (dats a m ρ 0 c).after (6 : Fin 7) t = out6 a m c t := rfl

/-- Each input window holds its block when the body runs, fetched there or not. -/
theorem before0_0 (c : Dev nD) (t : Fin (cfgA a).N) (d) : (dats a m ρ 0 c).before (0 : Fin 7) t d = iblk a m c (0 : Fin 7) t :=
  ((dats a m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 7) t d = iblk a m c (1 : Fin 7) t :=
  ((dats a m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 7) t d = iblk a m c (2 : Fin 7) t :=
  ((dats a m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 7) t d = iblk a m c (3 : Fin 7) t :=
  ((dats a m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA a).N) (d) : (dats a m ρ 0 c).before (4 : Fin 7) t d = iblk a m c (4 : Fin 7) t :=
  ((dats a m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Every point stores into the outputs, in use or not. -/
theorem stores (i : grid0.Coords) (w : Elt F .i32) : (!(k0_cond2 i w == 1#1) && !(k0_cond3 i w == 1#1)) = false := by
  have h : ∀ b : BitVec 1, (!(Scalar.cmpi .ne (Scalar.extui b : BitVec 32) 0#32 == 1#1) && !(Scalar.cmpi .ne (Scalar.extui (Scalar.xori b 1#1) : BitVec 32) 0#32 == 1#1)) = false := by decide
  exact h _
theorem idle0_5 (t : Fin (cfgA a).N) : (cfgA a).idle (5 : Fin 7) ((cfgA a).grid.coords t) = false := stores _ _
theorem idle0_6 (t : Fin (cfgA a).N) : (cfgA a).idle (6 : Fin 7) ((cfgA a).grid.coords t) = false := stores _ _

/-- A tile is in use, or its outputs are zeroed. -/
theorem cond3_of_live (i : grid0.Coords) (w : Elt F .i32) (h : k0_cond2 i w = 1#1) : ¬(k0_cond3 i w = 1#1) := by
  have h' : ∀ b : BitVec 1, Scalar.cmpi .ne (Scalar.extui b : BitVec 32) 0#32 = 1#1 → ¬(Scalar.cmpi .ne (Scalar.extui (Scalar.xori b 1#1) : BitVec 32) 0#32 = 1#1) := by decide
  exact h' _ h
theorem cond3_of_dead (i : grid0.Coords) (w : Elt F .i32) (h : ¬(k0_cond2 i w = 1#1)) : k0_cond3 i w = 1#1 := by
  have h' : ∀ b : BitVec 1, ¬(Scalar.cmpi .ne (Scalar.extui b : BitVec 32) 0#32 = 1#1) → Scalar.cmpi .ne (Scalar.extui (Scalar.xori b 1#1) : BitVec 32) 0#32 = 1#1 := by decide
  exact h' _ h

/-- The body at point `t` on its staging memrefs, as the pipeline calls it. -/
abbrev bodyAt (t : Fin (cfgA a).N) : Prog (TpuEff nD τ sig (Elt F) Λ₀ .tc) PUnit :=
  cc0_experts (crd a t) tbl0 (Memref.isWhole_whole _) tbl1 (Memref.isWhole_whole _) (stg0 a t) (whl0 a t) (stg1 a t) (whl1 a t) (stg2 a t) (whl2 a t) (stg3 a t) (whl3 a t) (stg4 a t) (whl4 a t) (stg5 a t) (whl5 a t) (stg6 a t) (whl6 a t) scr0 (Memref.isWhole_whole _) scr1 (Memref.isWhole_whole _) scr2 (Memref.isWhole_whole _)

set_option maxHeartbeats 4000000 in
/-- The body's obligation at point `t`: cast or keep, in use or not, each by its run. -/
theorem sound_body (c : Dev nD) (t : Fin (cfgA a).N) :
    iprop((dats a m ρ 0 c).Φ t.castSucc ∗ (dats a m ρ 0 c).owesAt () t.castSucc
        ∗ (∃ d, owns (c : Thread nD τ) (stg0 a t) fullShare ((dats a m ρ 0 c).before (0 : Fin 7) t d))
        ∗ (∃ d, owns (c : Thread nD τ) (stg1 a t) fullShare ((dats a m ρ 0 c).before (1 : Fin 7) t d))
        ∗ (∃ d, owns (c : Thread nD τ) (stg2 a t) fullShare ((dats a m ρ 0 c).before (2 : Fin 7) t d))
        ∗ (∃ d, owns (c : Thread nD τ) (stg3 a t) fullShare ((dats a m ρ 0 c).before (3 : Fin 7) t d))
        ∗ (∃ d, owns (c : Thread nD τ) (stg4 a t) fullShare ((dats a m ρ 0 c).before (4 : Fin 7) t d))
        ∗ (∃ d, owns (c : Thread nD τ) (stg5 a t) fullShare ((dats a m ρ 0 c).before (5 : Fin 7) t d))
        ∗ (∃ d, owns (c : Thread nD τ) (stg6 a t) fullShare ((dats a m ρ 0 c).before (6 : Fin 7) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i5 := idle0_5 a t
  rewrite [i5]
  simp only [before0_0, before0_1, before0_2, before0_3, before0_4, after0_0, after0_1, after0_2, after0_3, after0_4, after0_5, after0_6]
  rewrite [show (dats a m ρ 0 c).Φ t.succ = Phi a m c t.succ from rfl, show (dats a m ρ 0 c).Φ t.castSucc = Phi a m c t.castSucc from rfl,
    show (dats a m ρ 0 c).owesAt () t.succ = (dats a m ρ 0 c).owesAt () t.castSucc from rfl]
  have hs : ∀ t' : Fin (cfgA a).N, t.succ.val = t'.val + 1 → t' = t := fun t' h => Fin.ext (by rw [Fin.val_succ] at h; omega)
  unfold Phi
  by_cases hr : Reload (te a) (crd a t)
  · iintro ⟨⟨⟨%a0, -, HS0⟩, ⟨%a1, -, HS1⟩, ⟨%a2, -, HS2⟩, HT0, HT1⟩, Ho, ⟨%d0, H0⟩, ⟨%d1, H1⟩, ⟨%d2, H2⟩, ⟨%d3, H3⟩, ⟨%d4, H4⟩, ⟨%d5, H5⟩, ⟨%d6, H6⟩⟩
    by_cases hl : k0_cond2 (crd a t) (count (na a)) = 1#1
    · rewrite [show out5 a m c t = _ from if_pos hl, show out6 a m c t = _ from if_pos hl]
      iapply (run_reload_live c (crd a t) (stg0 a t) (whl0 a t) (stg1 a t) (whl1 a t) (stg2 a t) (whl2 a t) (stg3 a t) (whl3 a t) (stg4 a t) (whl4 a t) (stg5 a t) (whl5 a t) (stg6 a t) (whl6 a t) (te a) (na a) (iblk a m c (0 : Fin 7) t) (iblk a m c (1 : Fin 7) t) (iblk a m c (2 : Fin 7) t) (iblk a m c (3 : Fin 7) t) (iblk a m c (4 : Fin 7) t) hr hl (cond3_of_live _ _ hl) _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS0]; · iexists _; iexact HS0
      isplitl [HS1]; · iexists _; iexact HS1
      isplitl [HS2]; · iexists _; iexact HS2
      iintro ⟨⟨H0, H1, H2, H3, H4, HT0, HT1⟩, H5, H6, HS0, HS1, HS2⟩
      isplitl [HS0 HS1 HS2 HT0 HT1]
      · isplitl [HS0]
        · iexists (k0_pay1 (iblk a m c (2 : Fin 7) t)); isplitr; swap
          · iexact HS0
          · ipureintro; intro t' h; rw [hs t' h]
        isplitl [HS1]
        · iexists (k0_pay2 (iblk a m c (3 : Fin 7) t)); isplitr; swap
          · iexact HS1
          · ipureintro; intro t' h; rw [hs t' h]
        isplitl [HS2]
        · iexists (k0_pay3 (iblk a m c (4 : Fin 7) t)); isplitr; swap
          · iexact HS2
          · ipureintro; intro t' h; rw [hs t' h]
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iexact H5
      iexact H6
    · rewrite [show out5 a m c t = _ from if_neg hl, show out6 a m c t = _ from if_neg hl]
      iapply (run_reload_dead c (crd a t) (stg0 a t) (whl0 a t) (stg1 a t) (whl1 a t) (stg2 a t) (whl2 a t) (stg3 a t) (whl3 a t) (stg4 a t) (whl4 a t) (stg5 a t) (whl5 a t) (stg6 a t) (whl6 a t) (te a) (na a) (iblk a m c (0 : Fin 7) t) (iblk a m c (1 : Fin 7) t) (iblk a m c (2 : Fin 7) t) (iblk a m c (3 : Fin 7) t) (iblk a m c (4 : Fin 7) t) hr hl (cond3_of_dead _ _ hl) _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS0]; · iexists _; iexact HS0
      isplitl [HS1]; · iexists _; iexact HS1
      isplitl [HS2]; · iexists _; iexact HS2
      iintro ⟨⟨H0, H1, H2, H3, H4, HT0, HT1⟩, H5, H6, HS0, HS1, HS2⟩
      isplitl [HS0 HS1 HS2 HT0 HT1]
      · isplitl [HS0]
        · iexists (k0_pay1 (iblk a m c (2 : Fin 7) t)); isplitr; swap
          · iexact HS0
          · ipureintro; intro t' h; rw [hs t' h]
        isplitl [HS1]
        · iexists (k0_pay2 (iblk a m c (3 : Fin 7) t)); isplitr; swap
          · iexact HS1
          · ipureintro; intro t' h; rw [hs t' h]
        isplitl [HS2]
        · iexists (k0_pay3 (iblk a m c (4 : Fin 7) t)); isplitr; swap
          · iexact HS2
          · ipureintro; intro t' h; rw [hs t' h]
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iexact H5
      iexact H6
  · obtain ⟨h0, hx⟩ := keep_spec a t hr
    have hlt : t.val - 1 < (cfgA a).N := by have := t.isLt; omega
    have hp : t.val = (⟨t.val - 1, hlt⟩ : Fin (cfgA a).N).val + 1 := by show t.val = t.val - 1 + 1; omega
    have he := hx ⟨t.val - 1, hlt⟩ hp
    have e2 := iblk2_congr a m c t ⟨t.val - 1, hlt⟩ he
    have e3 := iblk3_congr a m c t ⟨t.val - 1, hlt⟩ he
    have e4 := iblk4_congr a m c t ⟨t.val - 1, hlt⟩ he
    iintro ⟨⟨⟨%a0, %q0, HS0⟩, ⟨%a1, %q1, HS1⟩, ⟨%a2, %q2, HS2⟩, HT0, HT1⟩, Ho, ⟨%d0, H0⟩, ⟨%d1, H1⟩, ⟨%d2, H2⟩, ⟨%d3, H3⟩, ⟨%d4, H4⟩, ⟨%d5, H5⟩, ⟨%d6, H6⟩⟩
    have r0 : a0 = k0_pay1 (iblk a m c (2 : Fin 7) t) := (q0 _ hp).trans (congrArg k0_pay1 e2.symm)
    have r1 : a1 = k0_pay2 (iblk a m c (3 : Fin 7) t) := (q1 _ hp).trans (congrArg k0_pay2 e3.symm)
    have r2 : a2 = k0_pay3 (iblk a m c (4 : Fin 7) t) := (q2 _ hp).trans (congrArg k0_pay3 e4.symm)
    subst r0; subst r1; subst r2
    by_cases hl : k0_cond2 (crd a t) (count (na a)) = 1#1
    · rewrite [show out5 a m c t = _ from if_pos hl, show out6 a m c t = _ from if_pos hl]
      iapply (run_keep_live c (crd a t) (stg0 a t) (whl0 a t) (stg1 a t) (whl1 a t) (stg2 a t) (whl2 a t) (stg3 a t) (whl3 a t) (stg4 a t) (whl4 a t) (stg5 a t) (whl5 a t) (stg6 a t) (whl6 a t) (te a) (na a) (iblk a m c (0 : Fin 7) t) (iblk a m c (1 : Fin 7) t) (iblk a m c (2 : Fin 7) t) (iblk a m c (3 : Fin 7) t) (iblk a m c (4 : Fin 7) t) (k0_pay1 (iblk a m c (2 : Fin 7) t)) (k0_pay2 (iblk a m c (3 : Fin 7) t)) (k0_pay3 (iblk a m c (4 : Fin 7) t)) hr hl (cond3_of_live _ _ hl) _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS0]; · iapply rep_of_owns; iexact HS0
      isplitl [HS1]; · iapply rep_of_owns; iexact HS1
      isplitl [HS2]; · iapply rep_of_owns; iexact HS2
      iintro ⟨⟨H0, H1, H2, H3, H4, HT0, HT1⟩, H5, H6, HS0, HS1, HS2⟩
      isplitl [HS0 HS1 HS2 HT0 HT1]
      · isplitl [HS0]
        · iexists (k0_pay1 (iblk a m c (2 : Fin 7) t)); isplitr; swap
          · iapply owns_of_rep; iexact HS0
          · ipureintro; intro t' h; rw [hs t' h]
        isplitl [HS1]
        · iexists (k0_pay2 (iblk a m c (3 : Fin 7) t)); isplitr; swap
          · iapply owns_of_rep; iexact HS1
          · ipureintro; intro t' h; rw [hs t' h]
        isplitl [HS2]
        · iexists (k0_pay3 (iblk a m c (4 : Fin 7) t)); isplitr; swap
          · iapply owns_of_rep; iexact HS2
          · ipureintro; intro t' h; rw [hs t' h]
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iexact H5
      iexact H6
    · rewrite [show out5 a m c t = _ from if_neg hl, show out6 a m c t = _ from if_neg hl]
      iapply (run_keep_dead c (crd a t) (stg0 a t) (whl0 a t) (stg1 a t) (whl1 a t) (stg2 a t) (whl2 a t) (stg3 a t) (whl3 a t) (stg4 a t) (whl4 a t) (stg5 a t) (whl5 a t) (stg6 a t) (whl6 a t) (te a) (na a) (iblk a m c (0 : Fin 7) t) (iblk a m c (1 : Fin 7) t) (iblk a m c (2 : Fin 7) t) (iblk a m c (3 : Fin 7) t) (iblk a m c (4 : Fin 7) t) (k0_pay1 (iblk a m c (2 : Fin 7) t)) (k0_pay2 (iblk a m c (3 : Fin 7) t)) (k0_pay3 (iblk a m c (4 : Fin 7) t)) hr hl (cond3_of_dead _ _ hl) _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [H6]; · iexists _; iexact H6
      isplitl [HS0]; · iapply rep_of_owns; iexact HS0
      isplitl [HS1]; · iapply rep_of_owns; iexact HS1
      isplitl [HS2]; · iapply rep_of_owns; iexact HS2
      iintro ⟨⟨H0, H1, H2, H3, H4, HT0, HT1⟩, H5, H6, HS0, HS1, HS2⟩
      isplitl [HS0 HS1 HS2 HT0 HT1]
      · isplitl [HS0]
        · iexists (k0_pay1 (iblk a m c (2 : Fin 7) t)); isplitr; swap
          · iapply owns_of_rep; iexact HS0
          · ipureintro; intro t' h; rw [hs t' h]
        isplitl [HS1]
        · iexists (k0_pay2 (iblk a m c (3 : Fin 7) t)); isplitr; swap
          · iapply owns_of_rep; iexact HS1
          · ipureintro; intro t' h; rw [hs t' h]
        isplitl [HS2]
        · iexists (k0_pay3 (iblk a m c (4 : Fin 7) t)); isplitr; swap
          · iapply owns_of_rep; iexact HS2
          · ipureintro; intro t' h; rw [hs t' h]
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iexact H5
      iexact H6

/-- The library's body obligation, at every point. -/
theorem body_obligation (c : Dev nD) : BodyObligation (dats a m ρ 0 c) (defs₀ (F := F)) Variants.none () Set.univ := fun t => by
  rw [bigSep_W0]
  exact sound_body a m ρ c t

/-! ## The launch -/

/-- The memory's two tables are `a`. -/
def Pinned : Prop := ∀ (c : Dev nD) (j : Fin 2), m ((c : Thread nD τ).loc (pre0.ref j)) = a.1 j

/-- The pipeline's staging cells are the whole of the proof's resource algebra. -/
abbrev EP : Emb (UR sig nD τ) (MM F) := emb₁

/-- The launch's resources. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg5) ↦{q 0} v 0) ∗ (((c : Thread nD τ).loc main_arg6) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers . -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m c 0 from rfl]
  unfold Phi
  simp only [owns_whole]
  iintro ⟨-, ⟨HT0, HT1⟩, ⟨%a0, HS0⟩, ⟨%a1, HS1⟩, ⟨%a2, HS2⟩⟩
  isplitl [HS0]
  · iexists a0; isplitr; swap
    · iexact HS0
    · ipureintro; intro t' h; exact absurd h.symm (Nat.succ_ne_zero _)
  isplitl [HS1]
  · iexists a1; isplitr; swap
    · iexact HS1
    · ipureintro; intro t' h; exact absurd h.symm (Nat.succ_ne_zero _)
  isplitl [HS2]
  · iexists a2; isplitr; swap
    · iexact HS2
    · ipureintro; intro t' h; exact absurd h.symm (Nat.succ_ne_zero _)
  isplitl [HT0]
  · iexact HT0
  iexact HT1

/-- The invariant at the last point gives the scratch buffers back. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m c (Fin.last _) from rfl]
  unfold Phi
  simp only [owns_whole]
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- Every weakly fair execution from any memory with zero counters and the tables `a` terminates with each array at the computed
    contents and every counter of the machine at zero. -/
theorem run_main_quiescent (hp : Pinned a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (EP (F := F)) defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned a m) : θ_run (defs (F := F)) (onTc (τ := τ) (main (F := F))) (s₀ m ρ) (QC a m ρ) :=
  (θ_run defs _ _).mono (fun _ h => h.1) (run_main_quiescent a m ρ hp)

/-- `frame` without the counters: the argument arrays end unchanged. -/
theorem unchanged (hp : Pinned a m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 7)).trans ((dats a m ρ 0 c).arrAt_in (0 : Fin 7) rfl _), ((h c).1 (1 : Fin 7)).trans ((dats a m ρ 0 c).arrAt_in (1 : Fin 7) rfl _), ((h c).1 (2 : Fin 7)).trans ((dats a m ρ 0 c).arrAt_in (2 : Fin 7) rfl _), ((h c).1 (3 : Fin 7)).trans ((dats a m ρ 0 c).arrAt_in (3 : Fin 7) rfl _), ((h c).1 (4 : Fin 7)).trans ((dats a m ρ 0 c).arrAt_in (4 : Fin 7) rfl _), ((h c).2 0).trans (hp c 0).symm, ((h c).2 1).trans (hp c 1).symm⟩) (run_main a m ρ hp)

/-- The frame: every weakly fair execution terminates, nothing faults, the arguments end unchanged, every counter reads zero. -/
theorem frame (hp : Pinned a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.Kernel3Ideal.Experts

end

end
-- ==== Proof.Experts.Tables.lean ====
/-
  The claims' precondition keeps every block of the expert call inside its array: each tile's expert is one of the sixteen.
-/
module

public import proofs.«01_k».proof.Proof.Experts.Launch
public import proofs.«01_k».proof.Proof.Gen.Pre_expert_in_range

@[expose] public section

set_option maxRecDepth 16384

noncomputable section

namespace Cert.Kernel3Ideal.Experts

open Cert.Kernel3Ideal Cert.Kernel3Ideal.Gen
open Idealize.ShloMosaic Idealize.ShloMosaic.TcCoe Idealize.SL.Sem

variable {F : FTy → Type} [FloatOps F]

/-- A word signed at least zero and below sixteen is one of the first sixteen. -/
theorem toNat_lt_of_inRange (w : BitVec 32) (h : IntOp.andi (IntOp.cmpi .sge w 0#32) (IntOp.cmpi .slt w 16#32) = 1#1) : w.toNat < 16 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at h
  omega

/-- With every expert one of the sixteen the tables' contents put every block inside its array. -/
theorem ok_of_range (pf : pre0.Contents (Elt F)) (h : ∀ j : S144.Idx, (pf 0 j : BitVec 32).toNat < 16) : ok0 pf := by
  have hw : ∀ i : grid0.Coords, (word (pf 0) i : BitVec 32).toNat < 16 := fun i => h _
  refine ⟨fun i => ⟨fun k => ?_, .inl rfl⟩, fun i => ⟨fun k => ?_, .inl rfl⟩, fun i => ⟨fun k => ?_, .inl rfl⟩⟩
  · show (![0, (word (pf 0) i : BitVec 32).toNat, 0, 0] k + 1) * S1x1x1024x512.size k ≤ S4x16x1024x512.size k
    have := hw i
    fin_cases k <;> simp <;> omega
  · show (![0, (word (pf 0) i : BitVec 32).toNat, 0, 0] k + 1) * S1x1x1024x512.size k ≤ S4x16x1024x512.size k
    have := hw i
    fin_cases k <;> simp <;> omega
  · show (![0, (word (pf 0) i : BitVec 32).toNat, 0, 0] k + 1) * S1x1x512x1024.size k ≤ S4x16x512x1024.size k
    have := hw i
    fin_cases k <;> simp <;> omega

variable (m : (ℓ : Loc nD τ sig) → Buf (Elt F) ℓ)

/-- Every tile's expert is one of the sixteen. -/
def InRange : Prop := ∀ (c : Dev nD) (j : S144.Idx), (m ((c : Thread nD τ).loc main_arg5) j : BitVec 32).toNat < 16

/-- The claims' precondition says so. -/
theorem inRange (h : ∀ c : Dev nD, Cert.Pre_expert_in_range.fn (F := F) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) = fun _ => 1#1) : InRange m := by
  intro d j
  have e := congrFun (h d) j
  simp only [Cert.Pre_expert_in_range.fn, andi, cmpi, broadcastInDim, constantI] at e
  exact toNat_lt_of_inRange _ e

/-- The memory's tables as the pipeline's. -/
def tables (h : InRange m) : (pcfg0 (F := F)).Adm := ⟨fun j => m (((0 : Dev nD) : Thread nD τ).loc (pre0.ref j)), ok_of_range _ (h 0)⟩

theorem pinned (h : InRange m) : Pinned (tables m h) m := fun c j => by
  obtain rfl : c = 0 := Subsingleton.elim _ _
  rfl

end Cert.Kernel3Ideal.Experts

end

end
-- ==== Proof.Experts.Body.lean ====
/-
  The expert call's body at an index: a row through one expert, as sums over the extended reals.
-/
module

public import proofs.«01_k».proof.Proof.Gen.Kernel3Ideal.Skeleton
public import Idealize.ShloMosaic.Lib.Pipeline.ValueKit

@[expose] public section

set_option maxRecDepth 16384

noncomputable section

namespace Cert.Proof.ExpertValue

open Cert.Kernel3Ideal Cert.Kernel3Ideal.Gen
open Idealize.ShloMosaic

/-- Row `r` of two halves put side by side. -/
def glue {n : Nat} (x y : (⟨2, ![n, 512]⟩ : Shape).Idx → EReal) (r : Fin n) (k : Fin 1024) : EReal :=
  if h : k.val < 512 then x (ix2 r ⟨k.val, h⟩) else y (ix2 r ⟨k.val - 512, by omega⟩)

/-- A row through one expert: up and gate, the gate's sigmoid, and down. -/
def expertRow (x : Fin 1024 → EReal) (g u : Fin 1024 → Fin 512 → EReal) (d : Fin 512 → Fin 1024 → EReal) (j : Fin 1024) : EReal :=
  ∑ f : Fin 512, ((∑ k : Fin 1024, x k * g k f) * Ideal.logistic (∑ k : Fin 1024, x k * g k f) * (∑ k : Fin 1024, x k * u k f)) * d f j

theorem pay1_apply (v : Vec Ideal S1x1x1024x512 .f32) (k : Fin 1024) (f : Fin 512) : k0_pay1 v (ix2 k f) = v (ix4 (0 : Fin 1) (0 : Fin 1) k f) := by
  pointwise [k0_pay1]
theorem pay2_apply (v : Vec Ideal S1x1x1024x512 .f32) (k : Fin 1024) (f : Fin 512) : k0_pay2 v (ix2 k f) = v (ix4 (0 : Fin 1) (0 : Fin 1) k f) := by
  pointwise [k0_pay2]
theorem pay3_apply (v : Vec Ideal S1x1x512x1024 .f32) (k : Fin 512) (f : Fin 1024) : k0_pay3 v (ix2 k f) = v (ix4 (0 : Fin 1) (0 : Fin 1) k f) := by
  pointwise [k0_pay3]

/-- The tile's rows, put together from quarters. -/
abbrev quarters (x y : Vec Ideal S512x512 .bf16) : FVec Ideal S512x1024 .bf16 :=
  truncf .bf16 (concatenate S512x1024 1 [⟨S512x256, extf .f32 (extractStridedSlice S512x256 ![0, 0] x slices_S512x512_o0_0_S512x256) bitsLt_bf16_f32⟩,
    ⟨S512x256, extf .f32 (extractStridedSlice S512x256 ![0, 256] x slices_S512x512_o0_256_S512x256) bitsLt_bf16_f32⟩,
    ⟨S512x256, extf .f32 (extractStridedSlice S512x256 ![0, 0] y slices_S512x512_o0_0_S512x256) bitsLt_bf16_f32⟩,
    ⟨S512x256, extf .f32 (extractStridedSlice S512x256 ![0, 256] y slices_S512x512_o0_256_S512x256) bitsLt_bf16_f32⟩]
    concatenates_S512x256_S512x256_S512x256_S512x256_S512x1024_d1) bitsLt_bf16_f32

theorem quarters_apply (x y : Vec Ideal S512x512 .bf16) (p : Fin 512) (k : Fin 1024) : quarters x y (ix2 p k) = glue x y p k := by
  unfold quarters glue
  pointwise
  by_cases h : k.val < 512
  · refine Eq.trans ?_ (dif_pos h).symm
    split_ifs <;> first | omega | (refine congrArg _ (congrArg (ix2 p) (Fin.ext ?_)); first | rfl | (dsimp only; omega))
  · refine Eq.trans ?_ (dif_neg h).symm
    split_ifs <;> first | omega | (refine congrArg _ (congrArg (ix2 p) (Fin.ext ?_)); first | rfl | (dsimp only; omega))

theorem up_apply (x : FVec Ideal S512x1024 .bf16) (w : FVec Ideal S1024x512 .bf16) (p f : Fin 512) :
    matmul dot_S512x1024_S1024x512_S512x512_1_0_0_1_n_n none x w (constant S512x512 .f32 0x00000000#32) (ix2 p f) = ∑ k : Fin 1024, (x (ix2 p k) : EReal) * w (ix2 k f) := by
  pointwise

theorem down_apply (x : FVec Ideal S512x512 .bf16) (w : FVec Ideal S512x1024 .bf16) (p : Fin 512) (j : Fin 1024) :
    matmul dot_S512x512_S512x1024_S512x1024_1_0_0_1_n_n none x w (constant S512x1024 .f32 0x00000000#32) (ix2 p j) = ∑ k : Fin 512, (x (ix2 p k) : EReal) * w (ix2 k j) := by
  pointwise

/-- The body's tile at an index. -/
theorem pay4_apply (x y : Vec Ideal S512x512 .bf16) (g u : Vec Ideal S1024x512 .bf16) (d : Vec Ideal S512x1024 .bf16) (p : Fin 512) (j : Fin 1024) :
    k0_pay4 x y g u d (ix2 p j) = expertRow (glue x y p) (fun k f => g (ix2 k f)) (fun k f => u (ix2 k f)) (fun f j => d (ix2 f j)) j := by
  refine (down_apply _ _ p j).trans (Finset.sum_congr rfl fun f _ => congrArg (· * (d (ix2 f j) : EReal)) ?_)
  have hg := (up_apply (quarters x y) g p f).trans (Finset.sum_congr rfl fun k _ => congrArg (· * (g (ix2 k f) : EReal)) (quarters_apply x y p k))
  have hu := (up_apply (quarters x y) u p f).trans (Finset.sum_congr rfl fun k _ => congrArg (· * (u (ix2 k f) : EReal)) (quarters_apply x y p k))
  exact congrArg₂ (fun a b : EReal => a * Ideal.logistic a * b) hg hu

/-- The two stored halves are the tile's columns. -/
theorem pay5_apply (x y : Vec Ideal S512x512 .bf16) (g u : Vec Ideal S1024x512 .bf16) (d : Vec Ideal S512x1024 .bf16) (p q : Fin 512) :
    k0_pay5 x y g u d (ix2 p q) = k0_pay4 x y g u d (ix2 p (⟨q.val, by omega⟩ : Fin 1024)) := by
  unfold k0_pay5
  generalize k0_pay4 x y g u d = z
  pointwise
  split_ifs <;> first | omega | (refine congrArg _ (congrArg (ix2 p) (Fin.ext ?_)); first | rfl | (dsimp only; omega))
theorem pay6_apply (x y : Vec Ideal S512x512 .bf16) (g u : Vec Ideal S1024x512 .bf16) (d : Vec Ideal S512x1024 .bf16) (p q : Fin 512) :
    k0_pay6 x y g u d (ix2 p q) = k0_pay4 x y g u d (ix2 p (⟨512 + q.val, by omega⟩ : Fin 1024)) := by
  unfold k0_pay6
  generalize k0_pay4 x y g u d = z
  pointwise
  split_ifs <;> first | omega | (refine congrArg _ (congrArg (ix2 p) (Fin.ext ?_)); first | rfl | (dsimp only; omega))
theorem pay7_apply (p q : Fin 512) : k0_pay7 (F := Ideal) (ix2 p q) = 0 := by
  pointwise [k0_pay7]
theorem pay8_apply (p q : Fin 512) : k0_pay8 (F := Ideal) (ix2 p q) = 0 := by
  pointwise [k0_pay8]

end Cert.Proof.ExpertValue

end

end
-- ==== Proof.Experts.Ref.lean ====
/-
  The expert call's reference at an index: all rows through all sixteen experts, each row's own expert kept where its tile is
  in use.
-/
module

public import proofs.«01_k».proof.Proof.Gen.Reference3Ideal.Run
public import proofs.«01_k».proof.Proof.Experts.Body

@[expose] public section

set_option maxRecDepth 16384

noncomputable section

namespace Cert.Proof.ExpertValue

open Cert.Reference3Ideal Cert.Reference3Ideal.Gen
open Idealize.ShloMosaic Idealize.ShloMosaic.TcCoe Idealize.SL.Sem

/-- The rows, their halves side by side. -/
abbrev rows (x y : FVec Ideal S73728x512 .bf16) : FVec Ideal S73728x1024 .f32 :=
  extf .f32 (concatenate S73728x1024 1 [⟨S73728x512, x⟩, ⟨S73728x512, y⟩] concatenates_S73728x512_S73728x512_S73728x1024_d1) bitsLt_bf16_f32

/-- The first layer's weights. -/
abbrev layerUp (w : FVec Ideal S4x16x1024x512 .f32) : FVec Ideal S16x1024x512 .f32 :=
  shapeCast _ (extractStridedSlice S1x16x1024x512 ![0, 0, 0, 0] w slices_S4x16x1024x512_S1x16x1024x512_0_0_0_0) shapeCasts_S1x16x1024x512_S16x1024x512
abbrev layerDown (w : FVec Ideal S4x16x512x1024 .f32) : FVec Ideal S16x512x1024 .f32 :=
  shapeCast _ (extractStridedSlice S1x16x512x1024 ![0, 0, 0, 0] w slices_S4x16x512x1024_S1x16x512x1024_0_0_0_0) shapeCasts_S1x16x512x1024_S16x512x1024

abbrev up (x : FVec Ideal S73728x1024 .f32) (w : FVec Ideal S16x1024x512 .f32) : FVec Ideal S73728x16x512 .f32 :=
  Host.dotGeneral dot_S73728x1024_S16x1024x512_S73728x16x512_1_1_0_02_n_n none x w
abbrev down (h : FVec Ideal S73728x16x512 .f32) (w : FVec Ideal S16x512x1024 .f32) : FVec Ideal S16x73728x1024 .f32 :=
  Host.dotGeneral dot_S73728x16x512_S16x512x1024_S16x73728x1024_2_1_0_2_1_0 none h w

/-- The gate's value times its sigmoid, times up. -/
abbrev gated (g u : FVec Ideal S73728x16x512 .f32) : FVec Ideal S73728x16x512 .f32 :=
  mulf (mulf g (Host.divf (broadcastInDim S73728x16x512 ![] bcast_S_S73728x16x512 (constant S_ .f32 0x3F800000#32))
    (addf (broadcastInDim S73728x16x512 ![] bcast_S_S73728x16x512 (constant S_ .f32 0x3F800000#32)) (Host.exp (Host.negf g))))) u

/-- Which expert's row counts: the row's own, where its tile is in use. -/
abbrev mine (te : IVec S144 32) (na : IVec S1 32) : IVec S16x73728 1 :=
  andi (cmpi .eq (broadcastInDim S16x73728 ![0, 1] bcast_S1x73728_S16x73728_0_1 (broadcastInDim S1x73728 ![1] bcast_S73728_S1x73728_1
      (shapeCast _ (broadcastInDim S144x512 ![0] bcast_S144_S144x512_0 te) shapeCasts_S144x512_S73728)))
    (broadcastInDim S16x73728 ![0, 1] bcast_S16x1_S16x73728_0_1 (broadcastInDim S16x1 ![0] bcast_S16_S16x1_0 (iotaInDim S16 32 0))))
  (broadcastInDim S16x73728 ![0, 1] bcast_S1x73728_S16x73728_0_1 (broadcastInDim S1x73728 ![1] bcast_S73728_S1x73728_1
    (shapeCast _ (broadcastInDim S144x512 ![0] bcast_S144_S144x512_0 (cmpi .slt (iotaInDim S144 32 0) (broadcastInDim S144 ![0] bcast_S1_S144_0 na)))
      shapeCasts_S144x512_S73728)))

/-- The experts' rows where they count, summed. -/
abbrev summed (b : IVec S16x73728 1) (y : FVec Ideal S16x73728x1024 .f32) : FVec Ideal S73728x1024 .f32 :=
  Host.reduceAdd (select (broadcastInDim S16x73728x1024 ![0, 1, 2] bcast_S16x73728x1_S16x73728x1024_0_1_2
      (broadcastInDim S16x73728x1 ![0, 1] bcast_S16x73728_S16x73728x1_0_1 b)) y
    (broadcastInDim S16x73728x1024 ![] bcast_S_S16x73728x1024 (id (constant S_ .f32 0x00000000#32))))
    (constant S_ .f32 0x00000000#32) reducesTo_S16x73728x1024_S73728x1024_d0 h_S_

/-- The reference's sum as a term of its arguments. -/
abbrev total (x y : FVec Ideal S73728x512 .bf16) (g u : FVec Ideal S4x16x1024x512 .f32) (d : FVec Ideal S4x16x512x1024 .f32) (te : IVec S144 32) (na : IVec S1 32) :
    FVec Ideal S73728x1024 .f32 :=
  summed (mine te na) (down (gated (up (rows x y) (layerUp g)) (up (rows x y) (layerUp u))) (layerDown d))

/-- Its two results. -/
abbrev left (z : FVec Ideal S73728x1024 .f32) : FVec Ideal S73728x512 .bf16 :=
  truncf .bf16 (extractStridedSlice S73728x512 ![0, 0] z slices_S73728x1024_S73728x512_0_0) bitsLt_bf16_f32
abbrev right (z : FVec Ideal S73728x1024 .f32) : FVec Ideal S73728x512 .bf16 :=
  truncf .bf16 (extractStridedSlice S73728x512 ![0, 512] z slices_S73728x1024_S73728x512_0_512) bitsLt_bf16_f32

theorem left_apply (z : FVec Ideal S73728x1024 .f32) (r : Fin 73728) (q : Fin 512) : left z (ix2 r q) = z (ix2 r (⟨q.val, by omega⟩ : Fin 1024)) := by
  pointwise
theorem right_apply (z : FVec Ideal S73728x1024 .f32) (r : Fin 73728) (q : Fin 512) : right z (ix2 r q) = z (ix2 r (⟨512 + q.val, by omega⟩ : Fin 1024)) := by
  pointwise

theorem rows_apply (x y : FVec Ideal S73728x512 .bf16) (r : Fin 73728) (k : Fin 1024) : rows x y (ix2 r k) = glue x y r k := by
  unfold glue
  pointwise

theorem layerUp_apply (w : FVec Ideal S4x16x1024x512 .f32) (e : Fin 16) (k : Fin 1024) (f : Fin 512) : layerUp w (ix3 e k f) = w (ix4 (0 : Fin 4) e k f) := by
  pointwise
theorem layerDown_apply (w : FVec Ideal S4x16x512x1024 .f32) (e : Fin 16) (f : Fin 512) (j : Fin 1024) : layerDown w (ix3 e f j) = w (ix4 (0 : Fin 4) e f j) := by
  pointwise

theorem upAll_apply (x : FVec Ideal S73728x1024 .f32) (w : FVec Ideal S16x1024x512 .f32) (r : Fin 73728) (e : Fin 16) (f : Fin 512) :
    up x w (ix3 r e f) = ∑ k : Fin 1024, x (ix2 r k) * w (ix3 e k f) := by
  pointwise
theorem downAll_apply (h : FVec Ideal S73728x16x512 .f32) (w : FVec Ideal S16x512x1024 .f32) (e : Fin 16) (r : Fin 73728) (j : Fin 1024) :
    down h w (ix3 e r j) = ∑ f : Fin 512, h (ix3 r e f) * w (ix3 e f j) := by
  pointwise

theorem gated_apply (g u : FVec Ideal S73728x16x512 .f32) (r : Fin 73728) (e : Fin 16) (f : Fin 512) :
    gated g u (ix3 r e f) = g (ix3 r e f) * Ideal.logistic (g (ix3 r e f)) * u (ix3 r e f) := by
  pointwise
  rfl

theorem mine_apply (te : IVec S144 32) (na : IVec S1 32) (e : Fin 16) (r : Fin 73728) :
    mine te na (ix2 e r) = IntOp.andi (IntOp.cmpi .eq (te (ix1 (⟨r.val / 512, by omega⟩ : Fin 144))) (BitVec.ofNat 32 e.val))
      (IntOp.cmpi .slt (BitVec.ofNat 32 (r.val / 512)) (na (ix1 (0 : Fin 1)))) := by
  pointwise

theorem summed_apply (b : IVec S16x73728 1) (y : FVec Ideal S16x73728x1024 .f32) (r : Fin 73728) (j : Fin 1024) :
    summed b y (ix2 r j) = ∑ e : Fin 16, if b (ix2 e r) = 1#1 then y (ix3 e r j) else 0 := by
  pointwise
  refine Finset.sum_congr rfl fun e _ => ?_
  have h0 : (constant S_ FTy.f32 0x00000000#32 : FVec Ideal S_ .f32) ix0 = 0 := by pointwise
  have hb : ∀ p : BitVec 1, p = 1#1 ∨ p = 0#1 := by decide
  rcases hb (b (ix2 e r)) with h | h
  · rw [h, if_pos rfl]; rfl
  · rw [h, if_neg (by decide)]; exact h0

theorem and_iff : ∀ p q : BitVec 1, IntOp.andi p q = 1#1 ↔ p = 1#1 ∧ q = 1#1 := by decide
theorem eq_iff (x y : BitVec 32) : IntOp.cmpi .eq x y = 1#1 ↔ x = y := by
  show BitVec.ofBool (x == y) = 1#1 ↔ x = y
  rcases Decidable.em (x = y) with h | h
  · simp [h]
  · have hb : (x == y) = false := beq_eq_false_iff_ne.mpr h
    rw [hb]
    exact ⟨fun e => absurd e (by decide), fun e => absurd e h⟩

/-- A row through one expert of the reference. -/
theorem expertAll_apply (x y : FVec Ideal S73728x512 .bf16) (g u : FVec Ideal S4x16x1024x512 .f32) (d : FVec Ideal S4x16x512x1024 .f32)
    (e : Fin 16) (r : Fin 73728) (j : Fin 1024) :
    down (gated (up (rows x y) (layerUp g)) (up (rows x y) (layerUp u))) (layerDown d) (ix3 e r j)
      = expertRow (glue x y r) (fun k f => g (ix4 (0 : Fin 4) e k f)) (fun k f => u (ix4 (0 : Fin 4) e k f)) (fun f j => d (ix4 (0 : Fin 4) e f j)) j := by
  have hup (w : FVec Ideal S4x16x1024x512 .f32) (f : Fin 512) : up (rows x y) (layerUp w) (ix3 r e f) = ∑ k : Fin 1024, glue x y r k * w (ix4 (0 : Fin 4) e k f) :=
    (upAll_apply _ _ r e f).trans (Finset.sum_congr rfl fun k _ => congrArg₂ (· * ·) (rows_apply x y r k) (layerUp_apply w e k f))
  refine (downAll_apply _ _ e r j).trans (Finset.sum_congr rfl fun f _ => congrArg₂ (fun a b : EReal => a * b) ?_ (layerDown_apply d e f j))
  refine (gated_apply _ _ r e f).trans ?_
  rw [hup g f, hup u f]

/-- The reference's sum at a row of tile `t`: the row through its tile's expert if the tile is in use, zero if not. -/
theorem total_apply (x y : FVec Ideal S73728x512 .bf16) (g u : FVec Ideal S4x16x1024x512 .f32) (d : FVec Ideal S4x16x512x1024 .f32) (te : IVec S144 32) (na : IVec S1 32)
    (t : Fin 144) (r : Fin 73728) (hr : r.val / 512 = t.val) (h : (te (ix1 t)).toNat < 16) (j : Fin 1024) :
    total x y g u d te na (ix2 r j) = if IntOp.cmpi .slt (BitVec.ofNat 32 t.val) (na (ix1 (0 : Fin 1))) = 1#1 then
      expertRow (glue x y r) (fun k f => g (ix4 (0 : Fin 4) (⟨(te (ix1 t)).toNat, h⟩ : Fin 16) k f)) (fun k f => u (ix4 (0 : Fin 4) (⟨(te (ix1 t)).toNat, h⟩ : Fin 16) k f))
        (fun f j => d (ix4 (0 : Fin 4) (⟨(te (ix1 t)).toNat, h⟩ : Fin 16) f j)) j else 0 := by
  have hm (e : Fin 16) : mine te na (ix2 e r) = 1#1 ↔ te (ix1 t) = BitVec.ofNat 32 e.val ∧ IntOp.cmpi .slt (BitVec.ofNat 32 t.val) (na (ix1 (0 : Fin 1))) = 1#1 := by
    have ht : (⟨r.val / 512, by omega⟩ : Fin 144) = t := Fin.ext hr
    rw [mine_apply, and_iff, eq_iff, ht, hr]
  refine (summed_apply _ _ r j).trans ?_
  by_cases hl : IntOp.cmpi .slt (BitVec.ofNat 32 t.val) (na (ix1 (0 : Fin 1))) = 1#1
  · rw [if_pos hl]
    refine (Finset.sum_eq_single (⟨(te (ix1 t)).toNat, h⟩ : Fin 16) (fun e _ he => if_neg fun hb => he (Fin.ext ?_)) (fun hn => absurd (Finset.mem_univ _) hn)).trans ?_
    · have e1 := congrArg BitVec.toNat ((hm e).mp hb).1
      rw [BitVec.toNat_ofNat, Nat.mod_eq_of_lt (by omega)] at e1
      exact e1.symm
    · rw [if_pos ((hm _).mpr ⟨BitVec.eq_of_toNat_eq (by rw [BitVec.toNat_ofNat, Nat.mod_eq_of_lt (by dsimp only; omega)]), hl⟩)]
      exact expertAll_apply x y g u d _ r j
  · rw [if_neg hl]
    exact Finset.sum_eq_zero fun e _ => if_neg fun hb => hl ((hm e).mp hb).2

end Cert.Proof.ExpertValue

end

end
-- ==== Proof.Experts.Value.lean ====
/-
  The expert call's values: the two arrays its blocks make are the two halves of the reference's sum.
-/
module

public import proofs.«01_k».proof.Proof.Experts.Tables
public import proofs.«01_k».proof.Proof.Experts.Ref

@[expose] public section

set_option maxRecDepth 16384

noncomputable section

namespace Cert.Proof.ExpertValue

open Cert.Kernel3Ideal Cert.Kernel3Ideal.Gen Cert.Kernel3Ideal.Experts
open Idealize.ShloMosaic Idealize.ShloMosaic.TcCoe Idealize.SL.Sem
open Idealize.ShloMosaic.Pipeline (Dat)

variable (a : (pcfg0 (F := Ideal)).Adm) (m : (ℓ : Loc nD τ sig) → Buf (Elt Ideal) ℓ) (ρ : Dev nD → PrngReg)

/-- A grid point as a tile. -/
abbrev tile (t : Fin (cfgA a).N) : Fin 144 := ⟨t.val, t.isLt⟩

theorem coord_toNat (t : Fin (cfgA a).N) : (BitVec.ofNat 32 (crd a t 0).val).toNat = t.val := by
  have h1 : (crd a t 0).val = t.val := crd_val t
  have h2 : t.val < 144 := t.isLt
  rw [h1, BitVec.toNat_ofNat, Nat.mod_eq_of_lt (by omega)]

/-- The tile's expert is the table's word at the tile. -/
theorem expert_eq (t : Fin (cfgA a).N) : (expert a t : BitVec 32) = te a (ix1 (tile a t)) := by
  refine congrArg (te a) (funext fun k => Fin.ext ?_)
  obtain rfl : k = (0 : Fin 1) := Subsingleton.elim (α := Fin 1) _ _
  show (BitVec.ofNat 32 (crd a t 0).val).toNat + 1 * 0 = t.val
  rw [coord_toNat]; rfl

theorem count_eq : (count (na a) : BitVec 32) = na a (ix1 (0 : Fin 1)) := by
  refine congrArg (na a) (funext fun k => ?_)
  obtain rfl : k = (0 : Fin 1) := Subsingleton.elim (α := Fin 1) _ _
  exact Subsingleton.elim (α := Fin 1) _ _

/-- A tile is in use when its number is below the table's count. -/
theorem live_iff (t : Fin (cfgA a).N) : k0_cond2 (crd a t) (count (na a)) = 1#1
    ↔ IntOp.cmpi .slt (BitVec.ofNat 32 (tile a t).val) (na a (ix1 (0 : Fin 1)) : BitVec 32) = 1#1 := by
  have hb : ∀ b : BitVec 1, Scalar.cmpi .ne (Scalar.extui b : BitVec 32) 0#32 = 1#1 ↔ b = 1#1 := by decide
  have h1 : (crd a t 0).val = t.val := crd_val t
  rw [← count_eq a]
  show _ ↔ Scalar.cmpi .slt (BitVec.ofNat 32 t.val) (count (na a)) = 1#1
  rw [← h1]
  exact hb _

/-! ## The blocks -/

theorem x_apply (c : Dev nD) (t : Fin (cfgA a).N) (p k : Fin 512) (r : Fin 73728) (hr : r.val = t.val * 512 + p.val) :
    (iblk a m c (0 : Fin 7) t : S512x512.Idx → EReal) (ix2 p k) = (m ((c : Thread nD τ).loc main_arg0) : S73728x512.Idx → EReal) (ix2 r k) := by
  refine congrArg (m ((c : Thread nD τ).loc main_arg0)) (funext fun b => Fin.ext ?_)
  match b with
  | ⟨0, _⟩ =>
    show (BitVec.ofNat 32 (crd a t 0).val).toNat * 512 + 1 * p.val = r.val
    rw [coord_toNat]; omega
  | ⟨1, _⟩ => show 0 * 512 + 1 * k.val = k.val; omega
theorem y_apply (c : Dev nD) (t : Fin (cfgA a).N) (p k : Fin 512) (r : Fin 73728) (hr : r.val = t.val * 512 + p.val) :
    (iblk a m c (1 : Fin 7) t : S512x512.Idx → EReal) (ix2 p k) = (m ((c : Thread nD τ).loc main_arg1) : S73728x512.Idx → EReal) (ix2 r k) := by
  refine congrArg (m ((c : Thread nD τ).loc main_arg1)) (funext fun b => Fin.ext ?_)
  match b with
  | ⟨0, _⟩ =>
    show (BitVec.ofNat 32 (crd a t 0).val).toNat * 512 + 1 * p.val = r.val
    rw [coord_toNat]; omega
  | ⟨1, _⟩ => show 0 * 512 + 1 * k.val = k.val; omega

variable (h : ∀ j : S144.Idx, (te a j : BitVec 32).toNat < 16)

/-- The tile's expert as one of the sixteen. -/
abbrev ex (t : Fin (cfgA a).N) : Fin 16 := ⟨(te a (ix1 (tile a t)) : BitVec 32).toNat, h _⟩

theorem g_apply (c : Dev nD) (t : Fin (cfgA a).N) (k : Fin 1024) (f : Fin 512) :
    (iblk a m c (2 : Fin 7) t : S1x1x1024x512.Idx → EReal) (ix4 (0 : Fin 1) (0 : Fin 1) k f)
      = (m ((c : Thread nD τ).loc main_arg2) : S4x16x1024x512.Idx → EReal) (ix4 (0 : Fin 4) (ex a h t) k f) := by
  refine congrArg (m ((c : Thread nD τ).loc main_arg2)) (funext fun b => Fin.ext ?_)
  match b with
  | ⟨0, _⟩ => rfl
  | ⟨1, _⟩ =>
    show (expert a t : BitVec 32).toNat * 1 + 1 * 0 = (te a (ix1 (tile a t)) : BitVec 32).toNat
    rw [expert_eq]; omega
  | ⟨2, _⟩ => show 0 * 1024 + 1 * k.val = k.val; omega
  | ⟨3, _⟩ => show 0 * 512 + 1 * f.val = f.val; omega
theorem u_apply (c : Dev nD) (t : Fin (cfgA a).N) (k : Fin 1024) (f : Fin 512) :
    (iblk a m c (3 : Fin 7) t : S1x1x1024x512.Idx → EReal) (ix4 (0 : Fin 1) (0 : Fin 1) k f)
      = (m ((c : Thread nD τ).loc main_arg3) : S4x16x1024x512.Idx → EReal) (ix4 (0 : Fin 4) (ex a h t) k f) := by
  refine congrArg (m ((c : Thread nD τ).loc main_arg3)) (funext fun b => Fin.ext ?_)
  match b with
  | ⟨0, _⟩ => rfl
  | ⟨1, _⟩ =>
    show (expert a t : BitVec 32).toNat * 1 + 1 * 0 = (te a (ix1 (tile a t)) : BitVec 32).toNat
    rw [expert_eq]; omega
  | ⟨2, _⟩ => show 0 * 1024 + 1 * k.val = k.val; omega
  | ⟨3, _⟩ => show 0 * 512 + 1 * f.val = f.val; omega
theorem d_apply (c : Dev nD) (t : Fin (cfgA a).N) (f : Fin 512) (j : Fin 1024) :
    (iblk a m c (4 : Fin 7) t : S1x1x512x1024.Idx → EReal) (ix4 (0 : Fin 1) (0 : Fin 1) f j)
      = (m ((c : Thread nD τ).loc main_arg4) : S4x16x512x1024.Idx → EReal) (ix4 (0 : Fin 4) (ex a h t) f j) := by
  refine congrArg (m ((c : Thread nD τ).loc main_arg4)) (funext fun b => Fin.ext ?_)
  match b with
  | ⟨0, _⟩ => rfl
  | ⟨1, _⟩ =>
    show (expert a t : BitVec 32).toNat * 1 + 1 * 0 = (te a (ix1 (tile a t)) : BitVec 32).toNat
    rw [expert_eq]; omega
  | ⟨2, _⟩ => show 0 * 512 + 1 * f.val = f.val; omega
  | ⟨3, _⟩ => show 0 * 1024 + 1 * j.val = j.val; omega

/-- The reference's sum on the kernel's arguments. -/
abbrev sumAt (c : Dev nD) : FVec Ideal Cert.Reference3Ideal.S73728x1024 .f32 :=
  total (m ((c : Thread nD τ).loc main_arg0)) (m ((c : Thread nD τ).loc main_arg1)) (m ((c : Thread nD τ).loc main_arg2)) (m ((c : Thread nD τ).loc main_arg3))
    (m ((c : Thread nD τ).loc main_arg4)) (te a) (na a)

/-- A row of a tile in use: the body's is its expert's. -/
theorem tile_apply (c : Dev nD) (t : Fin (cfgA a).N) (p : Fin 512) (r : Fin 73728) (hr : r.val = t.val * 512 + p.val) (j : Fin 1024) :
    k0_pay4 (iblk a m c (0 : Fin 7) t) (iblk a m c (1 : Fin 7) t) (k0_pay1 (iblk a m c (2 : Fin 7) t)) (k0_pay2 (iblk a m c (3 : Fin 7) t)) (k0_pay3 (iblk a m c (4 : Fin 7) t)) (ix2 p j)
      = expertRow (glue (m ((c : Thread nD τ).loc main_arg0)) (m ((c : Thread nD τ).loc main_arg1)) r)
        (fun k f => m ((c : Thread nD τ).loc main_arg2) (ix4 (0 : Fin 4) (ex a h t) k f)) (fun k f => m ((c : Thread nD τ).loc main_arg3) (ix4 (0 : Fin 4) (ex a h t) k f))
        (fun f j => m ((c : Thread nD τ).loc main_arg4) (ix4 (0 : Fin 4) (ex a h t) f j)) j := by
  refine (pay4_apply _ _ _ _ _ p j).trans ?_
  have hx : glue (iblk a m c (0 : Fin 7) t : S512x512.Idx → EReal) (iblk a m c (1 : Fin 7) t : S512x512.Idx → EReal) p
      = glue (m ((c : Thread nD τ).loc main_arg0)) (m ((c : Thread nD τ).loc main_arg1)) r := by
    funext k
    unfold glue
    split
    · exact x_apply a m c t p _ r hr
    · exact y_apply a m c t p _ r hr
  have hg : (fun (k : Fin 1024) (f : Fin 512) => (k0_pay1 (iblk a m c (2 : Fin 7) t) (ix2 k f) : EReal)) = fun k f => m ((c : Thread nD τ).loc main_arg2) (ix4 (0 : Fin 4) (ex a h t) k f) :=
    funext fun k => funext fun f => (pay1_apply _ k f).trans (g_apply a m h c t k f)
  have hu : (fun (k : Fin 1024) (f : Fin 512) => (k0_pay2 (iblk a m c (3 : Fin 7) t) (ix2 k f) : EReal)) = fun k f => m ((c : Thread nD τ).loc main_arg3) (ix4 (0 : Fin 4) (ex a h t) k f) :=
    funext fun k => funext fun f => (pay2_apply _ k f).trans (u_apply a m h c t k f)
  have hd : (fun (f : Fin 512) (j : Fin 1024) => (k0_pay3 (iblk a m c (4 : Fin 7) t) (ix2 f j) : EReal)) = fun f j => m ((c : Thread nD τ).loc main_arg4) (ix4 (0 : Fin 4) (ex a h t) f j) :=
    funext fun f => funext fun j => (pay3_apply _ f j).trans (d_apply a m h c t f j)
  rw [hx, hg, hu, hd]

include h in
/-- What a point leaves in the two outputs is the reference's halves at its rows. -/
theorem out5_apply (c : Dev nD) (t : Fin (cfgA a).N) (p q : Fin 512) (r : Fin 73728) (hr : r.val = t.val * 512 + p.val) :
    out5 a m c t (ix2 p q) = left (sumAt a m c) (ix2 r q) := by
  refine Eq.trans ?_ ((left_apply _ r q).trans (total_apply _ _ _ _ _ _ _ (tile a t) r (by dsimp only; omega) (h _) _)).symm
  unfold out5
  by_cases hl : k0_cond2 (crd a t) (count (na a)) = 1#1
  · rw [if_pos hl, if_pos ((live_iff a t).mp hl)]
    exact (pay5_apply _ _ _ _ _ p q).trans (tile_apply a m h c t p r hr _)
  · rw [if_neg hl, if_neg fun e => hl ((live_iff a t).mpr e)]
    exact pay7_apply p q
include h in
theorem out6_apply (c : Dev nD) (t : Fin (cfgA a).N) (p q : Fin 512) (r : Fin 73728) (hr : r.val = t.val * 512 + p.val) :
    out6 a m c t (ix2 p q) = right (sumAt a m c) (ix2 r q) := by
  refine Eq.trans ?_ ((right_apply _ r q).trans (total_apply _ _ _ _ _ _ _ (tile a t) r (by dsimp only; omega) (h _) _)).symm
  unfold out6
  by_cases hl : k0_cond2 (crd a t) (count (na a)) = 1#1
  · rw [if_pos hl, if_pos ((live_iff a t).mp hl)]
    exact (pay6_apply _ _ _ _ _ p q).trans (tile_apply a m h c t p r hr _)
  · rw [if_neg hl, if_neg fun e => hl ((live_iff a t).mpr e)]
    exact pay8_apply p q

/-! ## The arrays -/

/-- Some tables: all words zero. The outputs' blocks stand where they stand whatever the tables say. -/
def zeros : (pcfg0 (F := Ideal)).Adm := ⟨fun j => match j with | 0 => fun _ => 0#32 | 1 => fun _ => 0#32, ok_of_range _ fun _ => (by decide : (0#32).toNat < 16)⟩

theorem covers5 : ((cfgA zeros).win (5 : Fin 7)).Covers := by decide +kernel
theorem covers6 : ((cfgA zeros).win (6 : Fin 7)).Covers := by decide +kernel

theorem emb5 (t : Fin (cfgA a).N) (p q : Fin 512) (r : Fin 73728) (hr : r.val = t.val * 512 + p.val) :
    ((((cfgA a).win (5 : Fin 7)).blk t).view.emb (ix2 p q) : S73728x512.Idx) = ix2 r q := by
  refine funext fun b => Fin.ext ?_
  match b with
  | ⟨0, _⟩ =>
    show (BitVec.ofNat 32 (crd a t 0).val).toNat * 512 + 1 * p.val = r.val
    rw [coord_toNat]; omega
  | ⟨1, _⟩ => show 0 * 512 + 1 * q.val = q.val; omega
theorem emb6 (t : Fin (cfgA a).N) (p q : Fin 512) (r : Fin 73728) (hr : r.val = t.val * 512 + p.val) :
    ((((cfgA a).win (6 : Fin 7)).blk t).view.emb (ix2 p q) : S73728x512.Idx) = ix2 r q := by
  refine funext fun b => Fin.ext ?_
  match b with
  | ⟨0, _⟩ =>
    show (BitVec.ofNat 32 (crd a t 0).val).toNat * 512 + 1 * p.val = r.val
    rw [coord_toNat]; omega
  | ⟨1, _⟩ => show 0 * 512 + 1 * q.val = q.val; omega

include h in
/-- The first result is the sum's first half. -/
theorem final5 (c : Dev nD) : (dats a m ρ 0 c).arrAt (5 : Fin 7) (cfgA a).N = left (sumAt a m c) := by
  refine (dats a m ρ 0 c).arrAt_eq_of_covers (5 : Fin 7) _ covers5 fun t _ y => ?_
  show out5 a m c t y = left (sumAt a m c) ((((cfgA a).win (5 : Fin 7)).blk t).view.emb y)
  obtain ⟨p, q, rfl⟩ : ∃ p q : Fin 512, y = ix2 p q := ⟨y 0, y 1, ValueIdx.eq_ix2 y⟩
  have ht : t.val < 144 := t.isLt
  exact (out5_apply a m h c t p q ⟨t.val * 512 + p.val, by omega⟩ rfl).trans (congrArg (left (sumAt a m c)) (emb5 a t p q _ rfl).symm)
include h in
/-- The second is its second half. -/
theorem final6 (c : Dev nD) : (dats a m ρ 0 c).arrAt (6 : Fin 7) (cfgA a).N = right (sumAt a m c) := by
  refine (dats a m ρ 0 c).arrAt_eq_of_covers (6 : Fin 7) _ covers6 fun t _ y => ?_
  show out6 a m c t y = right (sumAt a m c) ((((cfgA a).win (6 : Fin 7)).blk t).view.emb y)
  obtain ⟨p, q, rfl⟩ : ∃ p q : Fin 512, y = ix2 p q := ⟨y 0, y 1, ValueIdx.eq_ix2 y⟩
  have ht : t.val < 144 := t.isLt
  exact (out6_apply a m h c t p q ⟨t.val * 512 + p.val, by omega⟩ rfl).trans (congrArg (right (sumAt a m c)) (emb6 a t p q _ rfl).symm)

end Cert.Proof.ExpertValue

end

end
-- ==== Proof.Merge.Ref.lean ====
/-
  The merge's reference at an index: the three branches through their weights, gated and summed, through the output weights, the
  layer norm of the sum with the residual.
-/
module

public import proofs.«01_k».proof.Proof.Gen.Reference4Ideal.Run
public import Idealize.ShloMosaic.Lib.Pipeline.ValueKit

@[expose] public section

set_option maxRecDepth 16384

noncomputable section

namespace Cert.Proof.Merge

open Cert.Reference4Ideal Cert.Reference4Ideal.Gen
open Idealize.ShloMosaic Idealize.ShloMosaic.TcCoe Idealize.SL.Sem

/-- The branches, stacked. -/
abbrev branches (y0 y1 y2 : FVec Ideal S8x4096x1024 .bf16) : FVec Ideal S8x4096x3x1024 .f32 :=
  extf .f32 (concatenate S8x4096x3x1024 2 [⟨S8x4096x1x1024, broadcastInDim S8x4096x1x1024 ![0, 1, 3] bcast_S8x4096x1024_S8x4096x1x1024_0_1_3 y0⟩,
    ⟨S8x4096x1x1024, broadcastInDim S8x4096x1x1024 ![0, 1, 3] bcast_S8x4096x1024_S8x4096x1x1024_0_1_3 y1⟩,
    ⟨S8x4096x1x1024, broadcastInDim S8x4096x1x1024 ![0, 1, 3] bcast_S8x4096x1024_S8x4096x1x1024_0_1_3 y2⟩]
    concatenates_S8x4096x1x1024_S8x4096x1x1024_S8x4096x1x1024_S8x4096x3x1024_d2) bitsLt_bf16_f32

/-- The first layer's weights of the branches, and of the output. -/
abbrev branchW (w : FVec Ideal S4x3x1024x1024 .f32) : FVec Ideal S3x1024x1024 .f32 :=
  shapeCast _ (extractStridedSlice S1x3x1024x1024 ![0, 0, 0, 0] w slices_S4x3x1024x1024_S1x3x1024x1024_0_0_0_0) shapeCasts_S1x3x1024x1024_S3x1024x1024
abbrev outW (w : FVec Ideal S4x1024x1024 .f32) : FVec Ideal S1024x1024 .f32 :=
  shapeCast _ (extractStridedSlice S1x1024x1024 ![0, 0, 0] w slices_S4x1024x1024_S1x1024x1024_0_0_0) shapeCasts_S1x1024x1024_S1024x1024

abbrev projected (w : FVec Ideal S3x1024x1024 .f32) (y : FVec Ideal S8x4096x3x1024 .f32) : FVec Ideal S8x4096x3x1024 .f32 :=
  transpose S8x4096x3x1024 [2, 3, 0, 1] (Host.dotGeneral dot_S3x1024x1024_S8x4096x3x1024_S3x1024x8x4096_1_3_2_01_0_2 none w y)
    transposes_S3x1024x8x4096_S8x4096x3x1024_2_3_0_1

/-- The gates: the sigmoid of the gate columns and the bias. -/
abbrev gateSum (p : FVec Ideal S32768x6144 .bf16) (mb : FVec Ideal S4x3072 .f32) : FVec Ideal S8x4096x3072 .f32 :=
  addf (shapeCast _ (extf .f32 (extractStridedSlice S32768x3072 ![0, 3072] p slices_S32768x6144_S32768x3072_0_3072) bitsLt_bf16_f32) shapeCasts_S32768x3072_S8x4096x3072)
    (broadcastInDim S8x4096x3072 ![0, 1, 2] bcast_S1x1x3072_S8x4096x3072_0_1_2 (broadcastInDim S1x1x3072 ![2] bcast_S3072_S1x1x3072_2
      (shapeCast _ (extractStridedSlice S1x3072 ![0, 0] mb slices_S4x3072_S1x3072_0_0) shapeCasts_S1x3072_S3072)))
abbrev gates (g : FVec Ideal S8x4096x3072 .f32) : FVec Ideal S8x4096x3x1024 .f32 :=
  shapeCast _ (Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf g)))) shapeCasts_S8x4096x3072_S8x4096x3x1024

abbrev merged (g p : FVec Ideal S8x4096x3x1024 .f32) : FVec Ideal S8x4096x1024 .f32 :=
  Host.reduceAdd (mulf g p) (constant S_ .f32 0x00000000#32) reducesTo_S8x4096x3x1024_S8x4096x1024_d2 h_S_

/-- The merged branches through the output weights, and the residual. -/
abbrev residual (x h : FVec Ideal S8x4096x1024 .f32) (w : FVec Ideal S1024x1024 .f32) : FVec Ideal S8x4096x1024 .f32 :=
  addf (mulf (broadcastInDim S8x4096x1024 ![] bcast_S_S8x4096x1024 (constant S_ .f32 0x3FD744FD#32)) x)
    (Host.dotGeneral dot_S8x4096x1024_S1024x1024_S8x4096x1024_2_0_01_1_n_n none h w)

/-- A row's mean, and the row less its mean. -/
abbrev mean (z : FVec Ideal S8x4096x1024 .f32) : FVec Ideal S8x4096x1 .f32 :=
  Host.divf (broadcastInDim S8x4096x1 ![0, 1] bcast_S8x4096_S8x4096x1_0_1 (Host.reduceAdd z (constant S_ .f32 0x00000000#32) reducesTo_S8x4096x1024_S8x4096_d2 h_S_))
    (broadcastInDim S8x4096x1 ![] bcast_S_S8x4096x1 (constant S_ .f32 0x44800000#32))
abbrev centred (z : FVec Ideal S8x4096x1024 .f32) : FVec Ideal S8x4096x1024 .f32 :=
  subf z (broadcastInDim S8x4096x1024 ![0, 1, 2] bcast_S8x4096x1_S8x4096x1024_0_1_2 (mean z))

theorem branches_apply0 (y0 y1 y2 : FVec Ideal S8x4096x1024 .bf16) (b : Fin 8) (s : Fin 4096) (k : Fin 1024) :
    branches y0 y1 y2 (ix4 b s (0 : Fin 3) k) = y0 (ix3 b s k) := by pointwise
theorem branches_apply1 (y0 y1 y2 : FVec Ideal S8x4096x1024 .bf16) (b : Fin 8) (s : Fin 4096) (k : Fin 1024) :
    branches y0 y1 y2 (ix4 b s (1 : Fin 3) k) = y1 (ix3 b s k) := by pointwise
theorem branches_apply2 (y0 y1 y2 : FVec Ideal S8x4096x1024 .bf16) (b : Fin 8) (s : Fin 4096) (k : Fin 1024) :
    branches y0 y1 y2 (ix4 b s (2 : Fin 3) k) = y2 (ix3 b s k) := by pointwise

theorem branchW_apply (w : FVec Ideal S4x3x1024x1024 .f32) (n : Fin 3) (k : Fin 1024) (j : Fin 1024) : branchW w (ix3 n k j) = w (ix4 (0 : Fin 4) n k j) := by
  pointwise
theorem outW_apply (w : FVec Ideal S4x1024x1024 .f32) (k : Fin 1024) (j : Fin 1024) : outW w (ix2 k j) = w (ix3 (0 : Fin 4) k j) := by
  pointwise

theorem projected_apply (w : FVec Ideal S3x1024x1024 .f32) (y : FVec Ideal S8x4096x3x1024 .f32) (b : Fin 8) (s : Fin 4096) (n : Fin 3) (j : Fin 1024) :
    projected w y (ix4 b s n j) = ∑ k : Fin 1024, w (ix3 n k j) * y (ix4 b s n k) := by
  pointwise

theorem gateSum_apply (p : FVec Ideal S32768x6144 .bf16) (mb : FVec Ideal S4x3072 .f32) (b : Fin 8) (s : Fin 4096) (j : Fin 3072) :
    gateSum p mb (ix3 b s j) = p (ix2 (⟨b.val * 4096 + s.val, by omega⟩ : Fin 32768) (⟨3072 + j.val, by omega⟩ : Fin 6144)) + mb (ix2 (0 : Fin 4) j) := by
  pointwise

theorem gates_apply (g : FVec Ideal S8x4096x3072 .f32) (b : Fin 8) (s : Fin 4096) (n : Fin 3) (j : Fin 1024) :
    gates g (ix4 b s n j) = Ideal.logistic (g (ix3 b s (⟨n.val * 1024 + j.val, by omega⟩ : Fin 3072))) := by
  pointwise
  rfl

theorem merged_apply (g p : FVec Ideal S8x4096x3x1024 .f32) (b : Fin 8) (s : Fin 4096) (j : Fin 1024) :
    merged g p (ix3 b s j) = ∑ n : Fin 3, g (ix4 b s n j) * p (ix4 b s n j) := by
  pointwise

theorem residual_apply (x h : FVec Ideal S8x4096x1024 .f32) (w : FVec Ideal S1024x1024 .f32) (b : Fin 8) (s : Fin 4096) (j : Fin 1024) :
    residual x h w (ix3 b s j) = Scalar.ofBits (F := Ideal) .f32 0x3FD744FD#32 * x (ix3 b s j) + ∑ k : Fin 1024, h (ix3 b s k) * w (ix2 k j) := by
  pointwise

theorem mean_apply (z : FVec Ideal S8x4096x1024 .f32) (b : Fin 8) (s : Fin 4096) :
    mean z (ix3 b s (0 : Fin 1)) = Ideal.div (∑ k : Fin 1024, z (ix3 b s k)) (Scalar.ofBits (F := Ideal) .f32 0x44800000#32) := by
  pointwise

theorem centred_apply (z : FVec Ideal S8x4096x1024 .f32) (b : Fin 8) (s : Fin 4096) (j : Fin 1024) :
    centred z (ix3 b s j) = z (ix3 b s j) - mean z (ix3 b s (0 : Fin 1)) := by
  pointwise

/-- The norm: the row less its mean, over the root of its variance, scaled and shifted. -/
abbrev scale (g : FVec Ideal S4x1024 .f32) : FVec Ideal S8x4096x1024 .f32 :=
  broadcastInDim S8x4096x1024 ![0, 1, 2] bcast_S1x1x1024_S8x4096x1024_0_1_2 (broadcastInDim S1x1x1024 ![2] bcast_S1024_S1x1x1024_2
    (shapeCast _ (extractStridedSlice S1x1024 ![0, 0] g slices_S4x1024_S1x1024_0_0) shapeCasts_S1x1024_S1024))
abbrev spread (z : FVec Ideal S8x4096x1024 .f32) : FVec Ideal S8x4096x1024 .f32 :=
  broadcastInDim S8x4096x1024 ![0, 1, 2] bcast_S8x4096x1_S8x4096x1024_0_1_2 (Host.rsqrt (addf (mean (mulf (centred z) (centred z)))
    (broadcastInDim S8x4096x1 ![] bcast_S_S8x4096x1 (constant S_ .f32 0x3727C5AC#32))))
abbrev normed (z : FVec Ideal S8x4096x1024 .f32) (g b : FVec Ideal S4x1024 .f32) : FVec Ideal S8x4096x1024 .f32 :=
  addf (mulf (mulf (centred z) (spread z)) (scale g)) (scale b)

/-- The reference's result as a term of its arguments, one row per token, and its two halves. -/
abbrev flat (z : FVec Ideal S8x4096x1024 .f32) : FVec Ideal S32768x1024 .f32 := shapeCast _ z shapeCasts_S8x4096x1024_S32768x1024
abbrev total (y0 y1 y2 : FVec Ideal S8x4096x1024 .bf16) (p : FVec Ideal S32768x6144 .bf16) (mb : FVec Ideal S4x3072 .f32) (wb : FVec Ideal S4x3x1024x1024 .f32)
    (wo : FVec Ideal S4x1024x1024 .f32) (x : FVec Ideal S8x4096x1024 .f32) (g b : FVec Ideal S4x1024 .f32) : FVec Ideal S32768x1024 .f32 :=
  flat (normed (residual x (merged (gates (gateSum p mb)) (projected (branchW wb) (branches y0 y1 y2))) (outW wo)) g b)
abbrev left (z : FVec Ideal S32768x1024 .f32) : FVec Ideal S32768x512 .bf16 :=
  truncf .bf16 (extractStridedSlice S32768x512 ![0, 0] z slices_S32768x1024_S32768x512_0_0) bitsLt_bf16_f32
abbrev right (z : FVec Ideal S32768x1024 .f32) : FVec Ideal S32768x512 .bf16 :=
  truncf .bf16 (extractStridedSlice S32768x512 ![0, 512] z slices_S32768x1024_S32768x512_0_512) bitsLt_bf16_f32

theorem scale_apply (g : FVec Ideal S4x1024 .f32) (b : Fin 8) (s : Fin 4096) (j : Fin 1024) : scale g (ix3 b s j) = g (ix2 (0 : Fin 4) j) := by
  pointwise
theorem spread_apply (z : FVec Ideal S8x4096x1024 .f32) (b : Fin 8) (s : Fin 4096) (j : Fin 1024) :
    spread z (ix3 b s j) = Ideal.rsqrt (Ideal.div (∑ k : Fin 1024, centred z (ix3 b s k) * centred z (ix3 b s k)) (Scalar.ofBits (F := Ideal) .f32 0x44800000#32)
      + Scalar.ofBits (F := Ideal) .f32 0x3727C5AC#32) := by
  pointwise

theorem flat_apply (z : FVec Ideal S8x4096x1024 .f32) (r : Fin 32768) (j : Fin 1024) :
    flat z (ix2 r j) = z (ix3 (⟨r.val / 4096, by omega⟩ : Fin 8) (⟨r.val % 4096, by omega⟩ : Fin 4096) j) := by
  pointwise
theorem left_apply (z : FVec Ideal S32768x1024 .f32) (r : Fin 32768) (q : Fin 512) : left z (ix2 r q) = z (ix2 r (⟨q.val, by omega⟩ : Fin 1024)) := by
  pointwise
theorem right_apply (z : FVec Ideal S32768x1024 .f32) (r : Fin 32768) (q : Fin 512) : right z (ix2 r q) = z (ix2 r (⟨512 + q.val, by omega⟩ : Fin 1024)) := by
  pointwise

/-! ## One row of it, as sums -/

/-- The gated branches of one row, summed. -/
def mergeRow (p b y : Fin 3 → Fin 1024 → EReal) (w : Fin 3 → Fin 1024 → Fin 1024 → EReal) (j : Fin 1024) : EReal :=
  ∑ n : Fin 3, Ideal.logistic (p n j + b n j) * ∑ k : Fin 1024, y n k * w n k j
/-- They through the output weights, and the residual. -/
def resRow (x h : Fin 1024 → EReal) (w : Fin 1024 → Fin 1024 → EReal) (j : Fin 1024) : EReal :=
  Scalar.ofBits (F := Ideal) .f32 0x3FD744FD#32 * x j + ∑ k : Fin 1024, h k * w k j
def meanRow (z : Fin 1024 → EReal) : EReal := Ideal.div (∑ k : Fin 1024, z k) (Scalar.ofBits (F := Ideal) .f32 0x44800000#32)
/-- The norm of one row. -/
def normRow (z g b : Fin 1024 → EReal) (j : Fin 1024) : EReal :=
  (z j - meanRow z) * Ideal.rsqrt (meanRow (fun k => (z k - meanRow z) * (z k - meanRow z)) + Scalar.ofBits (F := Ideal) .f32 0x3727C5AC#32) * g j + b j

theorem normed_apply (z : FVec Ideal S8x4096x1024 .f32) (g b : FVec Ideal S4x1024 .f32) (i : Fin 8) (s : Fin 4096) (j : Fin 1024) :
    normed z g b (ix3 i s j) = normRow (fun k => z (ix3 i s k)) (fun k => g (ix2 (0 : Fin 4) k)) (fun k => b (ix2 (0 : Fin 4) k)) j := by
  have hc (k : Fin 1024) : centred z (ix3 i s k) = z (ix3 i s k) - meanRow fun k => z (ix3 i s k) := (centred_apply z i s k).trans (congrArg _ (mean_apply z i s))
  have hs := spread_apply z i s j
  simp only [hc] at hs
  show centred z (ix3 i s j) * spread z (ix3 i s j) * scale g (ix3 i s j) + scale b (ix3 i s j) = _
  rw [hc, hs, scale_apply, scale_apply]
  rfl

theorem stack_apply (y0 y1 y2 : FVec Ideal S8x4096x1024 .bf16) (b : Fin 8) (s : Fin 4096) (k : Fin 1024) (n : Fin 3) :
    branches y0 y1 y2 (ix4 b s n k) = (![y0 (ix3 b s k), y1 (ix3 b s k), y2 (ix3 b s k)] : Fin 3 → EReal) n :=
  match n with
  | 0 => branches_apply0 y0 y1 y2 b s k
  | 1 => branches_apply1 y0 y1 y2 b s k
  | 2 => branches_apply2 y0 y1 y2 b s k

/-- The batch and the position of a token. -/
abbrev batchOf (r : Fin 32768) : Fin 8 := ⟨r.val / 4096, by omega⟩
abbrev posOf (r : Fin 32768) : Fin 4096 := ⟨r.val % 4096, by omega⟩

/-- The reference's result at a token's row. -/
theorem total_apply (y0 y1 y2 : FVec Ideal S8x4096x1024 .bf16) (p : FVec Ideal S32768x6144 .bf16) (mb : FVec Ideal S4x3072 .f32) (wb : FVec Ideal S4x3x1024x1024 .f32)
    (wo : FVec Ideal S4x1024x1024 .f32) (x : FVec Ideal S8x4096x1024 .f32) (g b : FVec Ideal S4x1024 .f32) (r : Fin 32768) (i : Fin 8) (s : Fin 4096)
    (hi : i.val = r.val / 4096) (hs : s.val = r.val % 4096) (j : Fin 1024) :
    total y0 y1 y2 p mb wb wo x g b (ix2 r j) = normRow
      (resRow (fun k => x (ix3 i s k))
        (mergeRow (fun n k => p (ix2 r (⟨3072 + (n.val * 1024 + k.val), by omega⟩ : Fin 6144))) (fun n k => mb (ix2 (0 : Fin 4) (⟨n.val * 1024 + k.val, by omega⟩ : Fin 3072)))
          (fun n k => (![y0 (ix3 i s k), y1 (ix3 i s k), y2 (ix3 i s k)] : Fin 3 → EReal) n) (fun n k j => wb (ix4 (0 : Fin 4) n k j)))
        (fun k j => wo (ix3 (0 : Fin 4) k j)))
      (fun k => g (ix2 (0 : Fin 4) k)) (fun k => b (ix2 (0 : Fin 4) k)) j := by
  obtain rfl : i = batchOf r := Fin.ext hi
  obtain rfl : s = posOf r := Fin.ext hs
  refine (flat_apply _ r j).trans ((normed_apply _ g b _ _ j).trans (congrArg (fun z => normRow z _ _ j) (funext fun q => ?_)))
  refine (residual_apply _ _ _ _ _ q).trans (congrArg (_ + ·) (Finset.sum_congr rfl fun k _ => congrArg₂ (fun a b : EReal => a * b) ?_ (outW_apply wo k q)))
  refine (merged_apply _ _ _ _ k).trans (Finset.sum_congr rfl fun n _ => congrArg₂ (fun a b : EReal => a * b) ?_ ?_)
  · refine (gates_apply _ _ _ n k).trans (congrArg Ideal.logistic ((gateSum_apply p mb _ _ _).trans (congrArg (· + _) (congrArg p ?_))))
    exact congrArg (fun r => ix2 r _) (Fin.ext (by dsimp only; omega))
  · refine (projected_apply _ _ _ _ n k).trans (Finset.sum_congr rfl fun l _ => (mul_comm _ _).trans ?_)
    exact congrArg₂ (fun a b : EReal => a * b) (stack_apply y0 y1 y2 _ _ l n) (branchW_apply wb n l k)

end Cert.Proof.Merge

end
-- ==== Proof.Merge.Body.lean ====
/-
  The merge's body at an index of its blocks: what it stores is the reference's row of its operands.
-/
module

public import proofs.«01_k».proof.Proof.Gen.Kernel4Ideal.Skeleton
public import proofs.«01_k».proof.Proof.Merge.Ref

@[expose] public section

set_option maxRecDepth 16384

noncomputable section

namespace Cert.Proof.Merge

open Cert.Kernel4Ideal Cert.Kernel4Ideal.Gen
open Idealize.ShloMosaic

/-- Two of the gated branches, summed. -/
theorem pay4_apply (v0 : Vec Ideal S512x1024 .bf16) (v2 : Vec Ideal S1x1024 .f32) (v7 : Vec Ideal S512x1024 .bf16) (v9 : Vec Ideal S1x1x1024x1024 .bf16)
    (v13 : Vec Ideal S512x1024 .bf16) (v15 : Vec Ideal S1x1024 .f32) (v20 : Vec Ideal S512x1024 .bf16) (v22 : Vec Ideal S1x1x1024x1024 .bf16) (p : Fin 512) (q : Fin 1024) :
    k0_pay4 v0 v2 v7 v9 v13 v15 v20 v22 (ix2 p q)
      = Ideal.logistic ((v0 (ix2 p q) : EReal) + v2 (ix2 (0 : Fin 1) q)) * (∑ k : Fin 1024, (v7 (ix2 p k) : EReal) * v9 (ix4 (0 : Fin 1) (0 : Fin 1) k q))
        + Ideal.logistic ((v13 (ix2 p q) : EReal) + v15 (ix2 (0 : Fin 1) q)) * (∑ k : Fin 1024, (v20 (ix2 p k) : EReal) * v22 (ix4 (0 : Fin 1) (0 : Fin 1) k q)) := by
  pointwise [k0_pay4]

/-- The third's gate, before its sigmoid. -/
theorem pay5_apply (v27 : Vec Ideal S512x1024 .bf16) (v29 : Vec Ideal S1x1024 .f32) (p : Fin 512) (q : Fin 1024) :
    k0_pay5 v27 v29 (ix2 p q) = (v27 (ix2 p q) : EReal) + v29 (ix2 (0 : Fin 1) q) := by
  pointwise [k0_pay5]

/-- All three. -/
abbrev three (v26 v32 : FVec Ideal S512x1024 .f32) (v34 : Vec Ideal S512x1024 .bf16) (v36 : Vec Ideal S1x1x1024x1024 .bf16) : FVec Ideal S512x1024 .f32 :=
  addf v26 (mulf (logistic v32) (matmul dot_S512x1024_S1024x1024_S512x1024_1_0_0_1_n_n none (shapeCast S512x1024 v34 shapeCasts_S512x1024_S512x1024 : FVec Ideal S512x1024 .bf16)
    (shapeCast S1024x1024 v36 shapeCasts_S1x1x1024x1024_S1024x1024 : FVec Ideal S1024x1024 .bf16) (constant S512x1024 .f32 0x00000000#32)))
/-- Through the output weights, with the residual. -/
abbrev resBlock (v40 : FVec Ideal S512x1024 .f32) (v42 : Vec Ideal S1x1024x1024 .bf16) (v45 : Vec Ideal S512x1024 .f32) : FVec Ideal S512x1024 .f32 :=
  addf (mulf (broadcast S512x1024 (Scalar.ofBits .f32 0x3FD744FD#32)) (shapeCast S512x1024 v45 shapeCasts_S512x1024_S512x1024))
    (matmul dot_S512x1024_S1024x1024_S512x1024_1_0_0_1_n_n none (truncf .bf16 v40 bitsLt_bf16_f32) (shapeCast S1024x1024 v42 shapeCasts_S1x1024x1024_S1024x1024 : FVec Ideal S1024x1024 .bf16)
      (constant S512x1024 .f32 0x00000000#32))
abbrev meanBlock (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))
abbrev centredBlock (z : FVec Ideal S512x1024 .f32) : FVec Ideal S512x1024 .f32 := subf z (broadcastTo S512x1024 (meanBlock z) broadcasts_S512x1_S512x1024)
abbrev spreadBlock (z : FVec Ideal S512x1024 .f32) : FVec Ideal S512x1024 .f32 :=
  broadcastTo S512x1024 (rsqrt (addf (meanBlock (mulf (centredBlock z) (centredBlock z))) (broadcast S512x1 (Scalar.ofBits .f32 0x3727C5AC#32)))) broadcasts_S512x1_S512x1024

theorem pay8_eq (v26 v32 : FVec Ideal S512x1024 .f32) (v34 : Vec Ideal S512x1024 .bf16) (v36 : Vec Ideal S1x1x1024x1024 .bf16) (v42 : Vec Ideal S1x1024x1024 .bf16)
    (v45 : Vec Ideal S512x1024 .f32) : k0_pay8 v26 v32 v34 v36 v42 v45
      = mulf (centredBlock (resBlock (three v26 v32 v34 v36) v42 v45)) (spreadBlock (resBlock (three v26 v32 v34 v36) v42 v45)) := rfl

theorem three_apply (v26 v32 : FVec Ideal S512x1024 .f32) (v34 : Vec Ideal S512x1024 .bf16) (v36 : Vec Ideal S1x1x1024x1024 .bf16) (p : Fin 512) (q : Fin 1024) :
    three v26 v32 v34 v36 (ix2 p q) = v26 (ix2 p q) + Ideal.logistic (v32 (ix2 p q)) * ∑ k : Fin 1024, (v34 (ix2 p k) : EReal) * v36 (ix4 (0 : Fin 1) (0 : Fin 1) k q) := by
  pointwise
theorem resBlock_apply (v40 : FVec Ideal S512x1024 .f32) (v42 : Vec Ideal S1x1024x1024 .bf16) (v45 : Vec Ideal S512x1024 .f32) (p : Fin 512) (q : Fin 1024) :
    resBlock v40 v42 v45 (ix2 p q) = resRow (fun k => v45 (ix2 p k)) (fun k => v40 (ix2 p k)) (fun k j => v42 (ix3 (0 : Fin 1) k j)) q := by
  unfold resRow
  pointwise
theorem meanBlock_apply (z : FVec Ideal S512x1024 .f32) (p : Fin 512) : meanBlock z (ix2 p (0 : Fin 1)) = meanRow fun k => z (ix2 p k) := by
  unfold meanRow
  pointwise
theorem centredBlock_apply (z : FVec Ideal S512x1024 .f32) (p : Fin 512) (q : Fin 1024) : centredBlock z (ix2 p q) = z (ix2 p q) - meanBlock z (ix2 p (0 : Fin 1)) := by
  pointwise
theorem spreadBlock_apply (z : FVec Ideal S512x1024 .f32) (p : Fin 512) (q : Fin 1024) :
    spreadBlock z (ix2 p q) = Ideal.rsqrt (meanRow (fun k => centredBlock z (ix2 p k) * centredBlock z (ix2 p k)) + Scalar.ofBits (F := Ideal) .f32 0x3727C5AC#32) := by
  unfold meanRow
  pointwise

theorem pay1_apply (v51 v53 : FVec Ideal S1x1024 .f32) (v69 : FVec Ideal S512x1024 .f32) (p : Fin 512) (q : Fin 1024) :
    k0_pay1 v51 v53 v69 (ix2 p q) = v69 (ix2 p q) * v51 (ix2 (0 : Fin 1) q) + v53 (ix2 (0 : Fin 1) q) := by
  pointwise [k0_pay1]

/-- The two stored halves are the block's columns. -/
theorem pay2_apply (v51 v53 : FVec Ideal S1x1024 .f32) (v69 : FVec Ideal S512x1024 .f32) (p q : Fin 512) :
    k0_pay2 v51 v53 v69 (ix2 p q) = k0_pay1 v51 v53 v69 (ix2 p (⟨q.val, by omega⟩ : Fin 1024)) := by
  unfold k0_pay2
  generalize k0_pay1 v51 v53 v69 = z
  pointwise
  split_ifs <;> first | omega | (refine congrArg _ (congrArg (ix2 p) (Fin.ext ?_)); first | rfl | (dsimp only; omega))
theorem pay3_apply (v51 v53 : FVec Ideal S1x1024 .f32) (v69 : FVec Ideal S512x1024 .f32) (p q : Fin 512) :
    k0_pay3 v51 v53 v69 (ix2 p q) = k0_pay1 v51 v53 v69 (ix2 p (⟨512 + q.val, by omega⟩ : Fin 1024)) := by
  unfold k0_pay3
  generalize k0_pay1 v51 v53 v69 = z
  pointwise
  split_ifs <;> first | omega | (refine congrArg _ (congrArg (ix2 p) (Fin.ext ?_)); first | rfl | (dsimp only; omega))

/-- The norm of the body's block, row by row. -/
theorem norm_apply (z : FVec Ideal S512x1024 .f32) (g b : FVec Ideal S1x1024 .f32) (p : Fin 512) (q : Fin 1024) :
    k0_pay1 g b (mulf (centredBlock z) (spreadBlock z)) (ix2 p q)
      = normRow (fun k => z (ix2 p k)) (fun k => g (ix2 (0 : Fin 1) k)) (fun k => b (ix2 (0 : Fin 1) k)) q := by
  have hc (k : Fin 1024) : centredBlock z (ix2 p k) = z (ix2 p k) - meanRow fun k => z (ix2 p k) := (centredBlock_apply z p k).trans (congrArg _ (meanBlock_apply z p))
  have hs := spreadBlock_apply z p q
  simp only [hc] at hs
  refine (pay1_apply g b _ p q).trans ?_
  show centredBlock z (ix2 p q) * spreadBlock z (ix2 p q) * g (ix2 (0 : Fin 1) q) + b (ix2 (0 : Fin 1) q) = _
  rw [hc, hs]
  rfl

/-- What the body stores, row by row, from the operands' rows. -/
theorem pay_apply (v0 v13 v27 v7 v20 v34 : Vec Ideal S512x1024 .bf16) (v2 v15 v29 : Vec Ideal S1x1024 .f32) (v9 v22 v36 : Vec Ideal S1x1x1024x1024 .bf16)
    (v42 : Vec Ideal S1x1024x1024 .bf16) (v45 : Vec Ideal S512x1024 .f32) (v50 v52 : Vec Ideal S1x1024 .f32) (p : Fin 512) (q : Fin 1024) :
    k0_pay1 (k0_pay6 v50) (k0_pay7 v52) (k0_pay8 (k0_pay4 v0 v2 v7 v9 v13 v15 v20 v22) (k0_pay5 v27 v29) v34 v36 v42 v45) (ix2 p q)
      = normRow (resRow (fun k => v45 (ix2 p k))
          (mergeRow (fun n k => (![v0 (ix2 p k), v13 (ix2 p k), v27 (ix2 p k)] : Fin 3 → EReal) n)
            (fun n k => (![v2 (ix2 (0 : Fin 1) k), v15 (ix2 (0 : Fin 1) k), v29 (ix2 (0 : Fin 1) k)] : Fin 3 → EReal) n)
            (fun n k => (![v7 (ix2 p k), v20 (ix2 p k), v34 (ix2 p k)] : Fin 3 → EReal) n)
            (fun n k j => (![v9 (ix4 (0 : Fin 1) (0 : Fin 1) k j), v22 (ix4 (0 : Fin 1) (0 : Fin 1) k j), v36 (ix4 (0 : Fin 1) (0 : Fin 1) k j)] : Fin 3 → EReal) n))
          (fun k j => v42 (ix3 (0 : Fin 1) k j)))
        (fun k => v50 (ix2 (0 : Fin 1) k)) (fun k => v52 (ix2 (0 : Fin 1) k)) q := by
  have h6 (k : Fin 1024) : k0_pay6 v50 (ix2 (0 : Fin 1) k) = v50 (ix2 (0 : Fin 1) k) := by pointwise [k0_pay6]
  have h7 (k : Fin 1024) : k0_pay7 v52 (ix2 (0 : Fin 1) k) = v52 (ix2 (0 : Fin 1) k) := by pointwise [k0_pay7]
  have hm (k : Fin 1024) : three (k0_pay4 v0 v2 v7 v9 v13 v15 v20 v22) (k0_pay5 v27 v29) v34 v36 (ix2 p k)
      = mergeRow (fun n k => (![v0 (ix2 p k), v13 (ix2 p k), v27 (ix2 p k)] : Fin 3 → EReal) n)
            (fun n k => (![v2 (ix2 (0 : Fin 1) k), v15 (ix2 (0 : Fin 1) k), v29 (ix2 (0 : Fin 1) k)] : Fin 3 → EReal) n)
            (fun n k => (![v7 (ix2 p k), v20 (ix2 p k), v34 (ix2 p k)] : Fin 3 → EReal) n)
            (fun n k j => (![v9 (ix4 (0 : Fin 1) (0 : Fin 1) k j), v22 (ix4 (0 : Fin 1) (0 : Fin 1) k j), v36 (ix4 (0 : Fin 1) (0 : Fin 1) k j)] : Fin 3 → EReal) n) k := by
    refine (three_apply _ _ _ _ p k).trans ?_
    rw [pay4_apply, pay5_apply]
    unfold mergeRow
    rw [Fin.sum_univ_three]
    rfl
  rw [pay8_eq, norm_apply]
  simp only [h6, h7, resBlock_apply, hm]

end Cert.Proof.Merge

end
-- ==== Proof.Merge.Value.lean ====
/-
  The merge's arrays: the blocks the kernel's sixty-four points leave are the reference's rows.
-/
module

public import proofs.«01_k».proof.Proof.Gen.Kernel4Ideal.Value
public import proofs.«01_k».proof.Proof.Merge.Body

@[expose] public section

set_option maxRecDepth 16384

noncomputable section

namespace Cert.Proof.Merge

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- Where each window's block stands at grid point `t`. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![t.val, 5] ∧ win0_6.index t = ![0, 0] ∧ win0_7.index t = ![0, 0, 0, 0]
    ∧ win0_8.index t = ![0, 0, 0] ∧ win0_9.index t = ![t.val, 0] ∧ win0_10.index t = ![0, 0] ∧ win0_11.index t = ![0, 0]
    ∧ win0_12.index t = ![t.val, 0] ∧ win0_13.index t = ![t.val, 0] ∧ win0_14.index t = ![t.val, 0] ∧ t.val < 64 :=
  (by decide +kernel : ∀ t : Fin grid0.N, _)

/-! ## The host's arrays at an index -/

theorem flat16_apply (x : FVec Ideal S8x4096x1024 .bf16) (r : Fin 32768) (k : Fin 1024) :
    shapeCast S32768x1024 x shapeCasts_S8x4096x1024_S32768x1024 (ix2 r k) = x (ix3 (batchOf r) (posOf r) k) := by
  pointwise
theorem flat32_apply (x : FVec Ideal S8x4096x1024 .f32) (r : Fin 32768) (k : Fin 1024) :
    shapeCast S32768x1024 x shapeCasts_S8x4096x1024_S32768x1024 (ix2 r k) = x (ix3 (batchOf r) (posOf r) k) := by
  pointwise
theorem bias_apply (b : FVec Ideal S4x3072 .f32) (j : Fin 3072) : (broadcastInDim S1x3072 ![1] bcast_S3072_S1x3072_1
    (shapeCast S3072 (extractStridedSlice S1x3072 ![0, 0] b slices_S4x3072_S1x3072_0_0) shapeCasts_S1x3072_S3072) : FVec Ideal S1x3072 .f32) (ix2 (0 : Fin 1) j) = b (ix2 (0 : Fin 4) j) := by
  pointwise
theorem gain_apply (b : FVec Ideal S4x1024 .f32) (j : Fin 1024) : (broadcastInDim S1x1024 ![1] bcast_S1024_S1x1024_1
    (shapeCast S1024 (extractStridedSlice S1x1024 ![0, 0] b slices_S4x1024_S1x1024_0_0) shapeCasts_S1x1024_S1024) : FVec Ideal S1x1024 .f32) (ix2 (0 : Fin 1) j) = b (ix2 (0 : Fin 4) j) := by
  pointwise

/-! ## The loads' places -/

theorem at0_0 (p : Fin 512) (k : Fin 1024) : r0_0.idx (ix2 p k) = ix2 p k :=
  funext fun a => Fin.ext (match a with | ⟨0, _⟩ => (by show 0 + 1 * p.val = p.val; omega) | ⟨1, _⟩ => (by show 0 + 1 * k.val = k.val; omega))
theorem at0_1 (k : Fin 1024) : r0_1.idx (ix2 (0 : Fin 1) k) = ix2 (0 : Fin 1) (⟨0 * 1024 + k.val, by omega⟩ : Fin 3072) :=
  funext fun a => Fin.ext (match a with | ⟨0, _⟩ => rfl | ⟨1, _⟩ => (by show 0 + 1 * k.val = 0 * 1024 + k.val; omega))
theorem at0_3 (k : Fin 1024) : r0_3.idx (ix2 (0 : Fin 1) k) = ix2 (0 : Fin 1) (⟨1 * 1024 + k.val, by omega⟩ : Fin 3072) :=
  funext fun a => Fin.ext (match a with | ⟨0, _⟩ => rfl | ⟨1, _⟩ => (by show 1024 + 1 * k.val = 1 * 1024 + k.val; omega))
theorem at0_5 (k : Fin 1024) : r0_5.idx (ix2 (0 : Fin 1) k) = ix2 (0 : Fin 1) (⟨2 * 1024 + k.val, by omega⟩ : Fin 3072) :=
  funext fun a => Fin.ext (match a with | ⟨0, _⟩ => rfl | ⟨1, _⟩ => (by show 2048 + 1 * k.val = 2 * 1024 + k.val; omega))
theorem at0_8 (k : Fin 1024) : r0_8.idx (ix2 (0 : Fin 1) k) = ix2 (0 : Fin 1) k :=
  funext fun a => Fin.ext (match a with | ⟨0, _⟩ => rfl | ⟨1, _⟩ => (by show 0 + 1 * k.val = k.val; omega))

variable (c : Dev nD) (t : Fin cfg0.N) (p : Fin 512) (r : Fin 32768) (hr : r.val = t.val * 512 + p.val)

/-! ## The blocks at grid point `t`: row `p` is token `r = t * 512 + p` -/

include hr in
theorem y0_apply (k : Fin 1024) : View.ld (iblk m c 0 t) r0_0 (ix2 p k) = (m ((c : Thread nD τ).loc main_arg0) : FVec Ideal S8x4096x1024 .bf16) (ix3 (batchOf r) (posOf r) k) := by
  have e : ((cfg0.win 0).blk t).view.emb (r0_0.idx (ix2 p k)) = ix2 r k := by rw [at0_0]; blk_ext [idx t]
  blk_simp [iblk, idx t]
  entry_read
  exact (congrArg (shapeCast S32768x1024 (m ((c : Thread nD τ).loc main_arg0) : FVec Ideal S8x4096x1024 .bf16) shapeCasts_S8x4096x1024_S32768x1024) e).trans (flat16_apply _ r k)
include hr in
theorem y1_apply (k : Fin 1024) : View.ld (iblk m c 1 t) r0_0 (ix2 p k) = (m ((c : Thread nD τ).loc main_arg1) : FVec Ideal S8x4096x1024 .bf16) (ix3 (batchOf r) (posOf r) k) := by
  have e : ((cfg0.win 1).blk t).view.emb (r0_0.idx (ix2 p k)) = ix2 r k := by rw [at0_0]; blk_ext [idx t]
  blk_simp [iblk, idx t]
  entry_read
  exact (congrArg (shapeCast S32768x1024 (m ((c : Thread nD τ).loc main_arg1) : FVec Ideal S8x4096x1024 .bf16) shapeCasts_S8x4096x1024_S32768x1024) e).trans (flat16_apply _ r k)
include hr in
theorem y2_apply (k : Fin 1024) : View.ld (iblk m c 2 t) r0_0 (ix2 p k) = (m ((c : Thread nD τ).loc main_arg2) : FVec Ideal S8x4096x1024 .bf16) (ix3 (batchOf r) (posOf r) k) := by
  have e : ((cfg0.win 2).blk t).view.emb (r0_0.idx (ix2 p k)) = ix2 r k := by rw [at0_0]; blk_ext [idx t]
  blk_simp [iblk, idx t]
  entry_read
  exact (congrArg (shapeCast S32768x1024 (m ((c : Thread nD τ).loc main_arg2) : FVec Ideal S8x4096x1024 .bf16) shapeCasts_S8x4096x1024_S32768x1024) e).trans (flat16_apply _ r k)
include hr in
theorem x_apply (k : Fin 1024) : View.ld (iblk m c 9 t) r0_0 (ix2 p k) = (m ((c : Thread nD τ).loc main_arg7) : FVec Ideal S8x4096x1024 .f32) (ix3 (batchOf r) (posOf r) k) := by
  have e : ((cfg0.win 9).blk t).view.emb (r0_0.idx (ix2 p k)) = ix2 r k := by rw [at0_0]; blk_ext [idx t]
  blk_simp [iblk, idx t]
  entry_read
  exact (congrArg (shapeCast S32768x1024 (m ((c : Thread nD τ).loc main_arg7) : FVec Ideal S8x4096x1024 .f32) shapeCasts_S8x4096x1024_S32768x1024) e).trans (flat32_apply _ r k)
include hr in
theorem p0_apply (k : Fin 1024) : View.ld (iblk m c 3 t) r0_0 (ix2 p k)
    = (m ((c : Thread nD τ).loc main_arg3) : FVec Ideal S32768x6144 .bf16) (ix2 r (⟨3072 + (0 * 1024 + k.val), by omega⟩ : Fin 6144)) := by
  blk_simp [iblk, idx t]
  entry_read
  pointwise
  blk_ext [idx t]
include hr in
theorem p1_apply (k : Fin 1024) : View.ld (iblk m c 4 t) r0_0 (ix2 p k)
    = (m ((c : Thread nD τ).loc main_arg3) : FVec Ideal S32768x6144 .bf16) (ix2 r (⟨3072 + (1 * 1024 + k.val), by omega⟩ : Fin 6144)) := by
  blk_simp [iblk, idx t]
  entry_read
  pointwise
  blk_ext [idx t]
include hr in
theorem p2_apply (k : Fin 1024) : View.ld (iblk m c 5 t) r0_0 (ix2 p k)
    = (m ((c : Thread nD τ).loc main_arg3) : FVec Ideal S32768x6144 .bf16) (ix2 r (⟨3072 + (2 * 1024 + k.val), by omega⟩ : Fin 6144)) := by
  blk_simp [iblk, idx t]
  entry_read
  pointwise
  blk_ext [idx t]
theorem b0_apply (k : Fin 1024) : View.ld (iblk m c 6 t) r0_1 (ix2 (0 : Fin 1) k)
    = (m ((c : Thread nD τ).loc main_arg4) : FVec Ideal S4x3072 .f32) (ix2 (0 : Fin 4) (⟨0 * 1024 + k.val, by omega⟩ : Fin 3072)) := by
  have e : ((cfg0.win 6).blk t).view.emb (r0_1.idx (ix2 (0 : Fin 1) k)) = ix2 (0 : Fin 1) (⟨0 * 1024 + k.val, by omega⟩ : Fin 3072) := by rw [at0_1]; blk_ext [idx t]
  suffices h : ∀ z, z = (m ((c : Thread nD τ).loc main_arg4) : FVec Ideal S4x3072 .f32) (ix2 (0 : Fin 4) (⟨0 * 1024 + k.val, by omega⟩ : Fin 3072)) →
      View.ld (iblk m c 6 t) r0_1 (ix2 (0 : Fin 1) k) = z from h _ rfl
  intro z hz
  blk_simp [iblk, idx t]
  entry_read
  exact (congrArg (broadcastInDim S1x3072 ![1] bcast_S3072_S1x3072_1 (shapeCast S3072 (extractStridedSlice S1x3072 ![0, 0]
    (m ((c : Thread nD τ).loc main_arg4) : FVec Ideal S4x3072 .f32) slices_S4x3072_S1x3072_0_0) shapeCasts_S1x3072_S3072)) e).trans ((bias_apply _ _).trans hz.symm)
theorem b1_apply (k : Fin 1024) : View.ld (iblk m c 6 t) r0_3 (ix2 (0 : Fin 1) k)
    = (m ((c : Thread nD τ).loc main_arg4) : FVec Ideal S4x3072 .f32) (ix2 (0 : Fin 4) (⟨1 * 1024 + k.val, by omega⟩ : Fin 3072)) := by
  have e : ((cfg0.win 6).blk t).view.emb (r0_3.idx (ix2 (0 : Fin 1) k)) = ix2 (0 : Fin 1) (⟨1 * 1024 + k.val, by omega⟩ : Fin 3072) := by rw [at0_3]; blk_ext [idx t]
  suffices h : ∀ z, z = (m ((c : Thread nD τ).loc main_arg4) : FVec Ideal S4x3072 .f32) (ix2 (0 : Fin 4) (⟨1 * 1024 + k.val, by omega⟩ : Fin 3072)) →
      View.ld (iblk m c 6 t) r0_3 (ix2 (0 : Fin 1) k) = z from h _ rfl
  intro z hz
  blk_simp [iblk, idx t]
  entry_read
  exact (congrArg (broadcastInDim S1x3072 ![1] bcast_S3072_S1x3072_1 (shapeCast S3072 (extractStridedSlice S1x3072 ![0, 0]
    (m ((c : Thread nD τ).loc main_arg4) : FVec Ideal S4x3072 .f32) slices_S4x3072_S1x3072_0_0) shapeCasts_S1x3072_S3072)) e).trans ((bias_apply _ _).trans hz.symm)
theorem b2_apply (k : Fin 1024) : View.ld (iblk m c 6 t) r0_5 (ix2 (0 : Fin 1) k)
    = (m ((c : Thread nD τ).loc main_arg4) : FVec Ideal S4x3072 .f32) (ix2 (0 : Fin 4) (⟨2 * 1024 + k.val, by omega⟩ : Fin 3072)) := by
  have e : ((cfg0.win 6).blk t).view.emb (r0_5.idx (ix2 (0 : Fin 1) k)) = ix2 (0 : Fin 1) (⟨2 * 1024 + k.val, by omega⟩ : Fin 3072) := by rw [at0_5]; blk_ext [idx t]
  suffices h : ∀ z, z = (m ((c : Thread nD τ).loc main_arg4) : FVec Ideal S4x3072 .f32) (ix2 (0 : Fin 4) (⟨2 * 1024 + k.val, by omega⟩ : Fin 3072)) →
      View.ld (iblk m c 6 t) r0_5 (ix2 (0 : Fin 1) k) = z from h _ rfl
  intro z hz
  blk_simp [iblk, idx t]
  entry_read
  exact (congrArg (broadcastInDim S1x3072 ![1] bcast_S3072_S1x3072_1 (shapeCast S3072 (extractStridedSlice S1x3072 ![0, 0]
    (m ((c : Thread nD τ).loc main_arg4) : FVec Ideal S4x3072 .f32) slices_S4x3072_S1x3072_0_0) shapeCasts_S1x3072_S3072)) e).trans ((bias_apply _ _).trans hz.symm)
theorem w0_apply (k j : Fin 1024) : View.ld (iblk m c 7 t) r0_2 (ix4 (0 : Fin 1) (0 : Fin 1) k j)
    = (m ((c : Thread nD τ).loc main_arg5) : FVec Ideal S4x3x1024x1024 .f32) (ix4 (0 : Fin 4) (0 : Fin 3) k j) := by
  blk_simp [iblk, idx t]
  entry_read
  pointwise
  blk_ext [idx t]
theorem w1_apply (k j : Fin 1024) : View.ld (iblk m c 7 t) r0_4 (ix4 (0 : Fin 1) (0 : Fin 1) k j)
    = (m ((c : Thread nD τ).loc main_arg5) : FVec Ideal S4x3x1024x1024 .f32) (ix4 (0 : Fin 4) (1 : Fin 3) k j) := by
  blk_simp [iblk, idx t]
  entry_read
  pointwise
  blk_ext [idx t]
theorem w2_apply (k j : Fin 1024) : View.ld (iblk m c 7 t) r0_6 (ix4 (0 : Fin 1) (0 : Fin 1) k j)
    = (m ((c : Thread nD τ).loc main_arg5) : FVec Ideal S4x3x1024x1024 .f32) (ix4 (0 : Fin 4) (2 : Fin 3) k j) := by
  blk_simp [iblk, idx t]
  entry_read
  pointwise
  blk_ext [idx t]
theorem wo_apply (k j : Fin 1024) : View.ld (iblk m c 8 t) r0_7 (ix3 (0 : Fin 1) k j)
    = (m ((c : Thread nD τ).loc main_arg6) : FVec Ideal S4x1024x1024 .f32) (ix3 (0 : Fin 4) k j) := by
  blk_simp [iblk, idx t]
  entry_read
  pointwise
  blk_ext [idx t]
theorem gainBlock_apply (k : Fin 1024) : View.ld (iblk m c 10 t) r0_8 (ix2 (0 : Fin 1) k)
    = (m ((c : Thread nD τ).loc main_arg8) : FVec Ideal S4x1024 .f32) (ix2 (0 : Fin 4) k) := by
  have e : ((cfg0.win 10).blk t).view.emb (r0_8.idx (ix2 (0 : Fin 1) k)) = ix2 (0 : Fin 1) k := by rw [at0_8]; blk_ext [idx t]
  blk_simp [iblk, idx t]
  entry_read
  exact (congrArg (broadcastInDim S1x1024 ![1] bcast_S1024_S1x1024_1 (shapeCast S1024 (extractStridedSlice S1x1024 ![0, 0]
    (m ((c : Thread nD τ).loc main_arg8) : FVec Ideal S4x1024 .f32) slices_S4x1024_S1x1024_0_0) shapeCasts_S1x1024_S1024)) e).trans (gain_apply _ _)
theorem shiftBlock_apply (k : Fin 1024) : View.ld (iblk m c 11 t) r0_8 (ix2 (0 : Fin 1) k)
    = (m ((c : Thread nD τ).loc main_arg9) : FVec Ideal S4x1024 .f32) (ix2 (0 : Fin 4) k) := by
  have e : ((cfg0.win 11).blk t).view.emb (r0_8.idx (ix2 (0 : Fin 1) k)) = ix2 (0 : Fin 1) k := by rw [at0_8]; blk_ext [idx t]
  blk_simp [iblk, idx t]
  entry_read
  exact (congrArg (broadcastInDim S1x1024 ![1] bcast_S1024_S1x1024_1 (shapeCast S1024 (extractStridedSlice S1x1024 ![0, 0]
    (m ((c : Thread nD τ).loc main_arg9) : FVec Ideal S4x1024 .f32) slices_S4x1024_S1x1024_0_0) shapeCasts_S1x1024_S1024)) e).trans (gain_apply _ _)

/-- The reference's result at the kernel's memory. -/
abbrev totalAt : FVec Ideal S32768x1024 .f32 :=
  total (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- The body's value at point `t`. -/
abbrev block : FVec Ideal S512x1024 .f32 :=
  k0_pay1 (k0_pay6 (View.ld (iblk m c 10 t) r0_8)) (k0_pay7 (View.ld (iblk m c 11 t) r0_8))
    (k0_pay8 (k0_pay4 (View.ld (iblk m c 3 t) r0_0) (View.ld (iblk m c 6 t) r0_1) (View.ld (iblk m c 0 t) r0_0) (View.ld (iblk m c 7 t) r0_2)
        (View.ld (iblk m c 4 t) r0_0) (View.ld (iblk m c 6 t) r0_3) (View.ld (iblk m c 1 t) r0_0) (View.ld (iblk m c 7 t) r0_4))
      (k0_pay5 (View.ld (iblk m c 5 t) r0_0) (View.ld (iblk m c 6 t) r0_5)) (View.ld (iblk m c 2 t) r0_0) (View.ld (iblk m c 7 t) r0_6)
      (View.ld (iblk m c 8 t) r0_7) (View.ld (iblk m c 9 t) r0_0))

include hr in
/-- The body's value is the reference's row. -/
theorem block_apply (q : Fin 1024) : block m c t (ix2 p q) = totalAt m c (ix2 r q) := by
  refine (pay_apply _ _ _ _ _ _ _ _ _ _ _ _ _ _ _ _ p q).trans ?_
  refine Eq.trans ?_ (total_apply _ _ _ _ _ _ _ _ _ _ r (batchOf r) (posOf r) rfl rfl q).symm
  have hx : (fun k : Fin 1024 => (View.ld (iblk m c 9 t) r0_0 (ix2 p k) : EReal)) = fun k => (m ((c : Thread nD τ).loc main_arg7) : FVec Ideal S8x4096x1024 .f32) (ix3 (batchOf r) (posOf r) k) :=
    funext fun k => x_apply m c t p r hr k
  have hp : (fun (n : Fin 3) (k : Fin 1024) => (![View.ld (iblk m c 3 t) r0_0 (ix2 p k), View.ld (iblk m c 4 t) r0_0 (ix2 p k), View.ld (iblk m c 5 t) r0_0 (ix2 p k)] : Fin 3 → EReal) n)
      = fun n k => (m ((c : Thread nD τ).loc main_arg3) : FVec Ideal S32768x6144 .bf16) (ix2 r (⟨3072 + (n.val * 1024 + k.val), by omega⟩ : Fin 6144)) :=
    funext fun n => funext fun k => match n with | 0 => p0_apply m c t p r hr k | 1 => p1_apply m c t p r hr k | 2 => p2_apply m c t p r hr k
  have hb : (fun (n : Fin 3) (k : Fin 1024) => (![View.ld (iblk m c 6 t) r0_1 (ix2 (0 : Fin 1) k), View.ld (iblk m c 6 t) r0_3 (ix2 (0 : Fin 1) k), View.ld (iblk m c 6 t) r0_5 (ix2 (0 : Fin 1) k)] : Fin 3 → EReal) n)
      = fun n k => (m ((c : Thread nD τ).loc main_arg4) : FVec Ideal S4x3072 .f32) (ix2 (0 : Fin 4) (⟨n.val * 1024 + k.val, by omega⟩ : Fin 3072)) :=
    funext fun n => funext fun k => match n with | 0 => b0_apply m c t p r k | 1 => b1_apply m c t p r k | 2 => b2_apply m c t p r k
  have hy : (fun (n : Fin 3) (k : Fin 1024) => (![View.ld (iblk m c 0 t) r0_0 (ix2 p k), View.ld (iblk m c 1 t) r0_0 (ix2 p k), View.ld (iblk m c 2 t) r0_0 (ix2 p k)] : Fin 3 → EReal) n)
      = fun n k => (![(m ((c : Thread nD τ).loc main_arg0) : FVec Ideal S8x4096x1024 .bf16) (ix3 (batchOf r) (posOf r) k), (m ((c : Thread nD τ).loc main_arg1) : FVec Ideal S8x4096x1024 .bf16) (ix3 (batchOf r) (posOf r) k),
        (m ((c : Thread nD τ).loc main_arg2) : FVec Ideal S8x4096x1024 .bf16) (ix3 (batchOf r) (posOf r) k)] : Fin 3 → EReal) n :=
    funext fun n => funext fun k => match n with | 0 => y0_apply m c t p r hr k | 1 => y1_apply m c t p r hr k | 2 => y2_apply m c t p r hr k
  have hw : (fun (n : Fin 3) (k j : Fin 1024) => (![View.ld (iblk m c 7 t) r0_2 (ix4 (0 : Fin 1) (0 : Fin 1) k j), View.ld (iblk m c 7 t) r0_4 (ix4 (0 : Fin 1) (0 : Fin 1) k j),
        View.ld (iblk m c 7 t) r0_6 (ix4 (0 : Fin 1) (0 : Fin 1) k j)] : Fin 3 → EReal) n)
      = fun n k j => (m ((c : Thread nD τ).loc main_arg5) : FVec Ideal S4x3x1024x1024 .f32) (ix4 (0 : Fin 4) n k j) :=
    funext fun n => funext fun k => funext fun j => match n with | 0 => w0_apply m c t k j | 1 => w1_apply m c t k j | 2 => w2_apply m c t k j
  have ho : (fun (k j : Fin 1024) => (View.ld (iblk m c 8 t) r0_7 (ix3 (0 : Fin 1) k j) : EReal)) = fun k j => (m ((c : Thread nD τ).loc main_arg6) : FVec Ideal S4x1024x1024 .f32) (ix3 (0 : Fin 4) k j) :=
    funext fun k => funext fun j => wo_apply m c t k j
  have hg : (fun k : Fin 1024 => (View.ld (iblk m c 10 t) r0_8 (ix2 (0 : Fin 1) k) : EReal)) = fun k => (m ((c : Thread nD τ).loc main_arg8) : FVec Ideal S4x1024 .f32) (ix2 (0 : Fin 4) k) :=
    funext fun k => gainBlock_apply m c t k
  have hs : (fun k : Fin 1024 => (View.ld (iblk m c 11 t) r0_8 (ix2 (0 : Fin 1) k) : EReal)) = fun k => (m ((c : Thread nD τ).loc main_arg9) : FVec Ideal S4x1024 .f32) (ix2 (0 : Fin 4) k) :=
    funext fun k => shiftBlock_apply m c t k
  rw [hx, hp, hb, hy, hw, ho, hg, hs]

/-! ## The arrays -/

/-- The first result is the reference's rows. -/
theorem final12 : (dats m 0 c).arrAt 12 (cfgs 0).N = totalAt m c := by
  refine (dats m 0 c).arrAt_eq_of_covers 12 _ (by decide +kernel) fun t _ y => ?_
  blk_simp
  rw [after0_12]; frame_out
  obtain ⟨p, q, rfl⟩ : ∃ (p : Fin 512) (q : Fin 1024), y = ix2 p q := ⟨y 0, y 1, ValueIdx.eq_ix2 y⟩
  have ht := (idx t).2.2.2.2.2.2.2.2.2.2.2.2.2.2.2
  have e : ((cfg0.win 12).blk t).view.emb (ix2 p q) = ix2 (⟨t.val * 512 + p.val, by omega⟩ : Fin 32768) q := by blk_ext [idx t]
  exact (block_apply m c t p _ rfl q).trans (congrArg (totalAt m c) e.symm)

/-- The two others are its halves. -/
theorem final13 : (dats m 0 c).arrAt 13 (cfgs 0).N = left (totalAt m c) := by
  refine (dats m 0 c).arrAt_eq_of_covers 13 _ (by decide +kernel) fun t _ y => ?_
  blk_simp
  rw [after0_13]; frame_out
  obtain ⟨p, q, rfl⟩ : ∃ (p : Fin 512) (q : Fin 512), y = ix2 p q := ⟨y 0, y 1, ValueIdx.eq_ix2 y⟩
  have ht := (idx t).2.2.2.2.2.2.2.2.2.2.2.2.2.2.2
  have e : ((cfg0.win 13).blk t).view.emb (ix2 p q) = ix2 (⟨t.val * 512 + p.val, by omega⟩ : Fin 32768) q := by blk_ext [idx t]
  refine ((pay2_apply _ _ _ p q).trans (block_apply m c t p (⟨t.val * 512 + p.val, by omega⟩ : Fin 32768) rfl _)).trans ?_
  exact ((congrArg (left (totalAt m c)) e).trans (left_apply _ _ q)).symm
theorem final14 : (dats m 0 c).arrAt 14 (cfgs 0).N = right (totalAt m c) := by
  refine (dats m 0 c).arrAt_eq_of_covers 14 _ (by decide +kernel) fun t _ y => ?_
  blk_simp
  rw [after0_14]; frame_out
  obtain ⟨p, q, rfl⟩ : ∃ (p : Fin 512) (q : Fin 512), y = ix2 p q := ⟨y 0, y 1, ValueIdx.eq_ix2 y⟩
  have ht := (idx t).2.2.2.2.2.2.2.2.2.2.2.2.2.2.2
  have e : ((cfg0.win 14).blk t).view.emb (ix2 p q) = ix2 (⟨t.val * 512 + p.val, by omega⟩ : Fin 32768) q := by blk_ext [idx t]
  refine ((pay3_apply _ _ _ p q).trans (block_apply m c t p (⟨t.val * 512 + p.val, by omega⟩ : Fin 32768) rfl _)).trans ?_
  exact ((congrArg (right (totalAt m c)) e).trans (right_apply _ _ q)).symm

end Cert.Proof.Merge

end
-- ==== Proof.Low.Schedule.lean ====
/-
  The input projection's low half and its small columns: when the small columns are stored and written back.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Kernel5Ideal.Low

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The schedule -/

/-- The body stores the small columns at the first of a row's four points. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem idle4 : ∀ t : Fin cfg0.N, cfg0.idle 4 (cfg0.grid.coords t) = !decide (t.val % 4 = 0) :=
  (by decide +kernel : ∀ t : Fin grid0.N, (!(k0_cond1 (grid0.coords t) == 1#1)) = !decide (t.val % 4 = 0))
/-- They are written back at the last. -/
theorem flush4 : ∀ t : Fin cfg0.N, (cfg0.win 4).flush t = decide (t.val % 4 = 3) :=
  fun t => (Pipeline.Window.flush_eq_flushF _ t).trans
    ((by decide +kernel : ∀ t : Fin grid0.N, win0_4.flushF t = decide (t.val % 4 = 3)) t)

/-- Nothing of the row is in the buffer before its first point. -/
theorem fresh4 (n : ℕ) (hn : n ≤ cfg0.N) : cfg0.fresh 4 n = decide (n % 4 = 0) :=
  cfg0.fresh_tab 4 (fun n => decide (n % 4 = 0)) rfl (fun t => by
    rw [flush4, idle4]
    exact (by decide +kernel : ∀ t : Fin grid0.N, decide ((t.val + 1) % 4 = 0) = (decide (t.val % 4 = 3) || (!decide (t.val % 4 = 0) && decide (t.val % 4 = 0)))) t) n hn

/-- The first point of point `t`'s row. -/
def base (t : Fin cfg0.N) : Fin cfg0.N := ⟨t.val - t.val % 4, Nat.lt_of_le_of_lt (Nat.sub_le _ _) t.isLt⟩
theorem base_self (t : Fin cfg0.N) (h : t.val % 4 = 0) : base t = t := Fin.ext (by show t.val - t.val % 4 = t.val; omega)
theorem base_pred (t : Fin cfg0.N) (h : t.val % 4 ≠ 0) (h' : t.val - 1 < cfg0.N) : base ⟨t.val - 1, h'⟩ = base t :=
  Fin.ext (by show t.val - 1 - (t.val - 1) % 4 = t.val - t.val % 4; omega)

end Cert.Kernel5Ideal.Low

end
-- ==== Proof.Low.Data.lean ====
/-
  The input projection's low half and its small columns: what each buffer holds around the body.
-/
module

public import proofs.«01_k».proof.Proof.Low.Schedule

@[expose] public section

set_option maxRecDepth 16384
set_option Elab.async false

noncomputable section

namespace Cert.Kernel5Ideal.Low

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations before the call -/

/-- The host operations before the call: the wide columns cut and rounded, the small columns padded and rounded, the tokens one per row. -/
abbrev opss : List (List (HloOp τ sig (Elt F))) := [hostOps0, hostOps0_1, hostOps0_2]

/-- The buffers when the call is reached. -/
abbrev V (c : Dev nD) (b : Ref sig .tc) : Buf (Elt F) ((c : Thread nD τ).loc b) := StableHlo.after (opss (F := F)).flatten (fun b => m (c, b)) b

/-! ## The windows' blocks and what the body leaves -/

/-- Window `w`'s block at point `t`, read off its array when the call is reached. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: each input's buffer keeps its block; the low half's holds the point's product, the small columns' the product of
    the row's first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay3 (iblk m c 0 (base t)) (iblk m c 2 (base t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (iblk m c 0 t) (iblk m c 1 t) := by dsimp only [dats]
theorem after0_4 (c : Dev nD) (t : Fin cfg0.N) : (dats m 0 c).after 4 t = k0_pay3 (iblk m c 0 (base t)) (iblk m c 2 (base t)) := by dsimp only [dats]

theorem after0_4_first (c : Dev nD) (t : Fin cfg0.N) (h : t.val % 4 = 0) : (dats m 0 c).after 4 t = k0_pay3 (iblk m c 0 t) (iblk m c 2 t) := by
  rw [after0_4, base_self t h]

/-- Each input's buffer holds its block when the body runs, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- After a row's first point the buffer of the small columns holds that point's product. -/
theorem before0_4 (c : Dev nD) (t : Fin cfg0.N) (h : t.val % 4 ≠ 0) (d) : (dats m 0 c).before 4 t d = (dats m 0 c).after 4 t := by
  have carry : ∀ (t : Fin cfg0.N), t.val % 4 ≠ 0 → ∀ h' : t.val - 1 < cfg0.N,
      (dats m 0 c).after 4 t = (dats m 0 c).after 4 ⟨t.val - 1, h'⟩ := fun t h h' => by
    rw [after0_4, after0_4, base_pred t h h']
  have e := (dats m 0 c).before_out_traj 4 rfl (fun _ _ => rfl)
    (fun t ht hi hf => carry t (fun h0 => by rw [idle4, h0] at hi; exact absurd hi (by decide)) _) _ t rfl d
  rw [e, fresh4 _ t.isLt.le, if_neg (by simpa using h)]
  exact (carry t h _).symm

end Cert.Kernel5Ideal.Low

end
-- ==== Proof.Low.Host.lean ====
/-
  The input projection's low half and its small columns: the host operations before the call.
-/
module

public import proofs.«01_k».proof.Proof.Low.Data

@[expose] public section

set_option maxRecDepth 16384
set_option Elab.async false

noncomputable section

namespace Cert.Kernel5Ideal.Low

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem opss_fresh : (opss : List (List (HloOp τ sig (Elt F)))).Forall fun ops => ops.Forall fun op => op.fresh = ∅ := by
  simp only [List.Forall]; repeat' constructor

set_option maxHeartbeats 800000 in
/-- The program is its host operations and the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss ⟨hostOps0_sub, hostOps0_1_sub, hostOps0_2_sub⟩ opss_fresh main_chain

/-- No host operation writes the tokens. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
/-- No host operation writes the matrices. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

end Cert.Kernel5Ideal.Low

end
-- ==== Proof.Low.Run.lean ====
/-
  The input projection's low half and its small columns: the body's two runs.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.TableIdle
public import Idealize.ShloMosaic.Lib.Claim
public import Idealize.ShloMosaic.Lib.VecWindow
public import Idealize.ShloMosaic.Lib.Ring
public import Idealize.ShloMosaic.Lib.Tactic
public import Idealize.ShloMosaic.Lib.WordCmp

@[expose] public section

set_option maxRecDepth 16384
set_option Elab.async false

noncomputable section

namespace Cert.Kernel5Ideal.Low

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic's carrier at the values `F`. -/
abbrev MM (F : FTy → Type) : Type := MT nD τ sig Unit (Elt F) ℕ (UR sig nD τ) ℕ

/-! ## The body's runs -/

set_option backward.proofsInPublic true in
set_option maxHeartbeats 8000000 in
/-- A row's first point: both products stored. -/
theorem run_store (c : Dev nD) (i : grid0.Coords) (arg2 : Memref sig .tc .vmem S2048x1024 .bf16) (harg2 : arg2.IsWhole) (arg3 : Memref sig .tc .vmem S1x1024x1536 .bf16) (harg3 : arg3.IsWhole)
    (arg4 : Memref sig .tc .vmem S1x1024x128 .bf16) (harg4 : arg4.IsWhole) (arg5 : Memref sig .tc .vmem S2048x1536 .bf16) (harg5 : arg5.IsWhole) (arg6 : Memref sig .tc .vmem S2048x128 .f32) (harg6 : arg6.IsWhole)
    (x0 : S2048x1024.Idx → Elt F .bf16) (x1 : S1x1024x1536.Idx → Elt F .bf16) (x2 : S1x1024x128.Idx → Elt F .bf16)
    (k0_h1 : k0_cond1 i = 1#1) (K : PUnit → sProp (MM F)) :
    iprop((arg2.view.loc (c : Thread nD τ) ↦[arg2.view.set]{fullShare} arg2.view.rep x0)
        ∗ (arg3.view.loc (c : Thread nD τ) ↦[arg3.view.set]{fullShare} arg3.view.rep x1)
        ∗ (arg4.view.loc (c : Thread nD τ) ↦[arg4.view.set]{fullShare} arg4.view.rep x2)
        ∗ (∃ d, owns (c : Thread nD τ) arg5 fullShare d) ∗ (∃ d, owns (c : Thread nD τ) arg6 fullShare d)
        ∗ (iprop((arg2.view.loc (c : Thread nD τ) ↦[arg2.view.set]{fullShare} arg2.view.rep x0)
            ∗ (arg3.view.loc (c : Thread nD τ) ↦[arg3.view.set]{fullShare} arg3.view.rep x1)
            ∗ (arg4.view.loc (c : Thread nD τ) ↦[arg4.view.set]{fullShare} arg4.view.rep x2)
            ∗ owns (c : Thread nD τ) arg5 fullShare (k0_pay2 x0 x1) ∗ owns (c : Thread nD τ) arg6 fullShare (k0_pay3 x0 x2)) -∗ K ⟨⟩))
      ⊢ wp frame (wpE (defs₀ (F := F)) Variants.none c none) Set.univ (cc0_in_proj i arg2 harg2 arg3 harg3 arg4 harg4 arg5 harg5 arg6 harg6) K := by
  unfold owns
  rw [cc0_in_proj_eq_skeleton]; unfold cc0_in_proj_skel
  iintro ⟨H0, H1, H2, ⟨%d5, %f5, -, HO5⟩, ⟨%d6, %f6, -, HO6⟩, Hk⟩
  sl_exec! (disch := first | exact k0_h1)
  sl_step; iapply Hk
  isplitl [H0]; · iexact H0
  isplitl [H1]; · iexact H1
  isplitl [H2]; · iexact H2
  isplitl [HO5]
  · iexists _; isplitr; swap
    · iexact HO5
    · ipureintro; delta run_store.sl.HO5_1; rw [View.read_writes_full, View.readAt_rep_full, View.readAt_rep_full]
  iexists _; isplitr; swap
  · iexact HO6
  · ipureintro; delta run_store.sl.HO6_1; rw [View.read_writes_full, View.readAt_rep_full, View.readAt_rep_full]

set_option backward.proofsInPublic true in
set_option maxHeartbeats 8000000 in
/-- A row's other points: the low half's product stored, the small columns' buffer not touched. -/
theorem run_skip (c : Dev nD) (i : grid0.Coords) (arg2 : Memref sig .tc .vmem S2048x1024 .bf16) (harg2 : arg2.IsWhole) (arg3 : Memref sig .tc .vmem S1x1024x1536 .bf16) (harg3 : arg3.IsWhole)
    (arg4 : Memref sig .tc .vmem S1x1024x128 .bf16) (harg4 : arg4.IsWhole) (arg5 : Memref sig .tc .vmem S2048x1536 .bf16) (harg5 : arg5.IsWhole) (arg6 : Memref sig .tc .vmem S2048x128 .f32) (harg6 : arg6.IsWhole)
    (x0 : S2048x1024.Idx → Elt F .bf16) (x1 : S1x1024x1536.Idx → Elt F .bf16)
    (k0_h1 : ¬(k0_cond1 i = 1#1)) (K : PUnit → sProp (MM F)) :
    iprop((arg2.view.loc (c : Thread nD τ) ↦[arg2.view.set]{fullShare} arg2.view.rep x0)
        ∗ (arg3.view.loc (c : Thread nD τ) ↦[arg3.view.set]{fullShare} arg3.view.rep x1)
        ∗ (∃ d, owns (c : Thread nD τ) arg5 fullShare d)
        ∗ (iprop((arg2.view.loc (c : Thread nD τ) ↦[arg2.view.set]{fullShare} arg2.view.rep x0)
            ∗ (arg3.view.loc (c : Thread nD τ) ↦[arg3.view.set]{fullShare} arg3.view.rep x1)
            ∗ owns (c : Thread nD τ) arg5 fullShare (k0_pay2 x0 x1)) -∗ K ⟨⟩))
      ⊢ wp frame (wpE (defs₀ (F := F)) Variants.none c none) Set.univ (cc0_in_proj i arg2 harg2 arg3 harg3 arg4 harg4 arg5 harg5 arg6 harg6) K := by
  unfold owns
  rw [cc0_in_proj_eq_skeleton]; unfold cc0_in_proj_skel
  iintro ⟨H0, H1, ⟨%d5, %f5, -, HO5⟩, Hk⟩
  sl_exec! (disch := first | exact k0_h1)
  sl_step; iapply Hk
  isplitl [H0]; · iexact H0
  isplitl [H1]; · iexact H1
  iexists _; isplitr; swap
  · iexact HO5
  · ipureintro; delta run_skip.sl.HO5_1; rw [View.read_writes_full, View.readAt_rep_full, View.readAt_rep_full]

end Cert.Kernel5Ideal.Low

end
-- ==== Proof.Low.Frame.lean ====
/-
  The input projection's low half and its small columns: the call's frame. The small result's block stays in its buffer over the
  four column points of a row of blocks: the first of them stores it, the last writes it back.
-/
module

public import proofs.«01_k».proof.Proof.Low.Host
public import proofs.«01_k».proof.Proof.Low.Run

@[expose] public section

set_option maxRecDepth 16384
set_option Elab.async false

noncomputable section

namespace Cert.Kernel5Ideal.Low

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's obligation -/

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)

/-- The body at point `t` on its staging memrefs, as the pipeline calls it. -/
abbrev bodyAt0 (t : Fin cfg0.N) : Prog (TpuEff nD τ sig (Elt F) Λ₀ .tc) PUnit :=
  cc0_in_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))

set_option maxHeartbeats 4000000 in
/-- The body's obligation at point `t`: a row's first point, or another. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  have i4 := idle4 t
  have f4 := flush4 t
  rewrite [show (dats m 0 c).Φ t.succ = (dats m 0 c).Φ t.castSucc from rfl,
    show (dats m 0 c).owesAt () t.succ = (dats m 0 c).owesAt () t.castSucc from rfl]
  by_cases h : t.val % 4 = 0
  · rewrite [show cfg0.idle 4 (cfg0.grid.coords t) = false from i4.trans (by simp [h])]
    simp only [before0_0, before0_1, before0_2, after0_0, after0_1, after0_2, after0_3, after0_4_first m c t h]
    iintro ⟨HΦ, Ho, ⟨%d0, H0⟩, ⟨%d1, H1⟩, ⟨%d2, H2⟩, ⟨%d3, H3⟩, ⟨%d4, H4⟩⟩
    iapply (run_store c (grid0.coords t) _ _ _ _ _ _ _ _ _ _ (iblk m c 0 t) (iblk m c 1 t) (iblk m c 2 t) ((cond_iff t).2 h) _)
    isplitl [H0]; · iapply rep_of_owns; iexact H0
    isplitl [H1]; · iapply rep_of_owns; iexact H1
    isplitl [H2]; · iapply rep_of_owns; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iapply owns_of_rep; iexact H0
    isplitl [H1]; · iapply owns_of_rep; iexact H1
    isplitl [H2]; · iapply owns_of_rep; iexact H2
    isplitl [H3]; · iexact H3
    iexact H4
  · rewrite [show cfg0.idle 4 (cfg0.grid.coords t) = true from i4.trans (by simp [h])]
    simp only [before0_0, before0_1, before0_2, after0_0, after0_1, after0_2, after0_3]
    iintro ⟨HΦ, Ho, ⟨%d0, H0⟩, ⟨%d1, H1⟩, ⟨%d2, H2⟩, ⟨%d3, H3⟩, ⟨%d4, H4⟩⟩
    iapply (run_skip c (grid0.coords t) _ _ _ _ _ _ _ _ _ _ (iblk m c 0 t) (iblk m c 1 t) (fun h1 => h ((cond_iff t).1 h1)) _)
    isplitl [H0]; · iapply rep_of_owns; iexact H0
    isplitl [H1]; · iapply rep_of_owns; iexact H1
    isplitl [H3]; · iexists _; iexact H3
    iintro ⟨H0, H1, H3⟩
    isplitl [HΦ]; · iexact HΦ
    isplitl [Ho]; · iexact Ho
    isplitl [H0]; · iapply owns_of_rep; iexact H0
    isplitl [H1]; · iapply owns_of_rep; iexact H1
    isplitl [H2]; · iexact H2
    isplitl [H3]; · iexact H3
    rewrite [f4]
    by_cases hf : t.val % 4 = 3
    · rewrite [show decide (t.val % 4 = 3) = true from decide_eq_true hf, ← before0_4 m c t h d4]
      iexact H4
    · rewrite [show decide (t.val % 4 = 3) = false from decide_eq_false hf]
      iexists d4; iexact H4

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, defs₀_row]
  exact sound_body m c t

/-! ## The run and the frame -/

set_option backward.isDefEq.respectTransparency.types false in
set_option maxHeartbeats 800000 in
/-- Every weakly fair execution terminates with each array at what the pipeline computes, every other buffer as the call found it
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two results named and the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 3 cfg0.N
      ∧ r.2.mem ((c : Thread nD τ).loc main_v7_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 3, (h.1 c).1 4,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩)
    (run_main_quiescent m ρ)

/-- The frame: the program runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and ((θ_run defs _ _).mono (fun _ h c => (h c).2.2) (run_blocks m ρ))
    ((θ_run defs _ _).mono (fun _ h => h.2) (run_main_quiescent m ρ))

end Cert.Kernel5Ideal.Low

end
-- ==== Proof.Low.Value.lean ====
/-
  The input projection's low half and its small columns: the two arrays the kernel's sixty-four points make are the reference's
  products.
-/
module

public import proofs.«01_k».proof.Proof.Low.Frame
public import proofs.«01_k».proof.Proof.Gen.Reference5Ideal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Proof.Low

open Cert.Kernel5Ideal Cert.Kernel5Ideal.Gen Cert.Kernel5Ideal.Low

variable (m : (ℓ : Loc nD τ sig) → Buf (Elt Ideal) ℓ)

/-- All tokens times the first layer's matrix. -/
abbrev proj (x : FVec Ideal S8x4096x1024 .f32) (w : FVec Ideal S4x1024x12296 .f32) : FVec Ideal Cert.Reference5Ideal.S8x4096x12296 .f32 :=
  Host.dotGeneral Cert.Reference5Ideal.dot_S8x4096x1024_S1024x12296_S8x4096x12296_2_0_01_1_n_n none x
    (shapeCast Cert.Reference5Ideal.S1024x12296 (extractStridedSlice Cert.Reference5Ideal.S1x1024x12296 ![0, 0, 0] w
      Cert.Reference5Ideal.Gen.slices_S4x1024x12296_S1x1024x12296_0_0_0) Cert.Reference5Ideal.Gen.shapeCasts_S1x1024x12296_S1024x12296)

/-- The reference's first result: the low half's columns of it, one row per token, rounded. -/
abbrev low (x : FVec Ideal S8x4096x1024 .f32) (w : FVec Ideal S4x1024x12296 .f32) : FVec Ideal S32768x6144 .bf16 :=
  truncf .bf16 (shapeCast Cert.Reference5Ideal.S32768x6144 (extractStridedSlice Cert.Reference5Ideal.S8x4096x6144 ![0, 0, 0] (proj x w)
    Cert.Reference5Ideal.Gen.slices_S8x4096x12296_S8x4096x6144_0_0_0) Cert.Reference5Ideal.Gen.shapeCasts_S8x4096x6144_S32768x6144)
    Cert.Reference5Ideal.Gen.bitsLt_bf16_f32

/-- The eight small columns, one row per token. -/
abbrev eight (p : FVec Ideal Cert.Reference5Ideal.S8x4096x12296 .f32) : FVec Ideal Cert.Reference5Ideal.S32768x8 .f32 :=
  shapeCast Cert.Reference5Ideal.S32768x8 (extractStridedSlice Cert.Reference5Ideal.S8x4096x8 ![0, 0, 6144] p
    Cert.Reference5Ideal.Gen.slices_S8x4096x12296_S8x4096x8_0_0_6144) Cert.Reference5Ideal.Gen.shapeCasts_S8x4096x8_S32768x8

/-- The reference's second result: the eight small columns, one row per token, zeros after them. -/
abbrev small (x : FVec Ideal S8x4096x1024 .f32) (w : FVec Ideal S4x1024x12296 .f32) : FVec Ideal S32768x128 .f32 :=
  pad Cert.Reference5Ideal.S32768x128 ![0, 0] ![0, 120] ![0, 0] (eight (proj x w))
    (sitofp .f32 (constantI Cert.Reference5Ideal.S_ 32 0#32)) Cert.Reference5Ideal.Gen.pads_S32768x8_S32768x128_000_01200 Cert.Reference5Ideal.Gen.h_S_

/-- Where each window's block stands at grid point `t`. -/
theorem idx : ∀ t : Fin cfg0.N, win0_0.index t = ![t.val / 4, 0] ∧ win0_1.index t = ![0, 0, t.val % 4] ∧ win0_2.index t = ![0, 0, 0]
    ∧ win0_3.index t = ![t.val / 4, t.val % 4] ∧ win0_4.index t = ![t.val / 4, 0] ∧ t.val / 4 < 16 :=
  (by decide +kernel : ∀ t : Fin grid0.N, _)

/-! ## The reference at an index -/

/-- The host's product at an index. -/
theorem dot_apply (x : FVec Ideal Cert.Reference5Ideal.S8x4096x1024 .f32) (w : FVec Ideal Cert.Reference5Ideal.S1024x12296 .f32) (b : Fin 8) (s : Fin 4096) (c : Fin 12296) :
    (Host.dotGeneral Cert.Reference5Ideal.dot_S8x4096x1024_S1024x12296_S8x4096x12296_2_0_01_1_n_n none x w : FVec Ideal Cert.Reference5Ideal.S8x4096x12296 .f32) (ix3 b s c)
      = ∑ k : Fin 1024, x (ix3 b s k) * w (ix2 k c) := by
  pointwise

/-- The first layer's matrix at an index. -/
theorem layer_apply (w : FVec Ideal S4x1024x12296 .f32) (k : Fin 1024) (c : Fin 12296) :
    shapeCast Cert.Reference5Ideal.S1024x12296 (extractStridedSlice Cert.Reference5Ideal.S1x1024x12296 ![0, 0, 0] w
        Cert.Reference5Ideal.Gen.slices_S4x1024x12296_S1x1024x12296_0_0_0) Cert.Reference5Ideal.Gen.shapeCasts_S1x1024x12296_S1024x12296 (ix2 k c)
      = w (ix3 (0 : Fin 4) k c) := by
  refine (shapeCast_apply _ _ (ix2 k c) (ix3 (0 : Fin 1) k c) (by
    rw [Shape.rowMajor_val_three, Shape.rowMajor_val_two]
    show (0 * 1024 + k.val) * 12296 + c.val = k.val * 12296 + c.val
    omega)).trans ?_
  refine extractStridedSlice_apply _ w _ (ix3 (0 : Fin 1) k c) (ix3 (0 : Fin 4) k c) fun a => ?_
  match a with
  | ⟨0, _⟩ => rfl
  | ⟨1, _⟩ => exact (Nat.zero_add _).symm
  | ⟨2, _⟩ => exact (Nat.zero_add _).symm

/-- The product at an index: the token's row times the column. -/
theorem proj_apply (x : FVec Ideal S8x4096x1024 .f32) (w : FVec Ideal S4x1024x12296 .f32) (b : Fin 8) (s : Fin 4096) (c : Fin 12296) :
    proj x w (ix3 b s c) = ∑ k : Fin 1024, x (ix3 b s k) * w (ix3 (0 : Fin 4) k c) :=
  (dot_apply x _ b s c).trans (Finset.sum_congr rfl fun k _ => congrArg (x _ * ·) (layer_apply w k c))

/-- The low half's columns, one row per token, at an index. -/
theorem cut_apply (p : FVec Ideal Cert.Reference5Ideal.S8x4096x12296 .f32) (r : Fin 32768) (c : Fin 6144) :
    shapeCast Cert.Reference5Ideal.S32768x6144 (extractStridedSlice Cert.Reference5Ideal.S8x4096x6144 ![0, 0, 0] p
      Cert.Reference5Ideal.Gen.slices_S8x4096x12296_S8x4096x6144_0_0_0) Cert.Reference5Ideal.Gen.shapeCasts_S8x4096x6144_S32768x6144 (ix2 r c)
      = p (ix3 (⟨r.val / 4096, by omega⟩ : Fin 8) (⟨r.val % 4096, by omega⟩ : Fin 4096) (⟨c.val, by omega⟩ : Fin 12296)) := by
  refine (shapeCast_apply _ _ (ix2 r c) (ix3 (⟨r.val / 4096, by omega⟩ : Fin 8) (⟨r.val % 4096, by omega⟩ : Fin 4096) c) (by
    rw [Shape.rowMajor_val_three, Shape.rowMajor_val_two]
    show (r.val / 4096 * 4096 + r.val % 4096) * 6144 + c.val = r.val * 6144 + c.val
    omega)).trans ?_
  refine extractStridedSlice_apply _ p _ _ _ fun a => ?_
  match a with
  | ⟨0, _⟩ => exact (Nat.zero_add _).symm
  | ⟨1, _⟩ => exact (Nat.zero_add _).symm
  | ⟨2, _⟩ => exact (Nat.zero_add _).symm

/-- The small columns, one row per token, at an index. -/
theorem eight_apply (p : FVec Ideal Cert.Reference5Ideal.S8x4096x12296 .f32) (r : Fin 32768) (c : Fin 8) :
    eight p (ix2 r c)
      = p (ix3 (⟨r.val / 4096, by omega⟩ : Fin 8) (⟨r.val % 4096, by omega⟩ : Fin 4096) (⟨6144 + c.val, by omega⟩ : Fin 12296)) := by
  refine (shapeCast_apply _ _ (ix2 r c) (ix3 (⟨r.val / 4096, by omega⟩ : Fin 8) (⟨r.val % 4096, by omega⟩ : Fin 4096) c) (by
    rw [Shape.rowMajor_val_three, Shape.rowMajor_val_two]
    show (r.val / 4096 * 4096 + r.val % 4096) * 8 + c.val = r.val * 8 + c.val
    omega)).trans ?_
  refine extractStridedSlice_apply _ p _ _ _ fun a => ?_
  match a with
  | ⟨0, _⟩ => exact (Nat.zero_add _).symm
  | ⟨1, _⟩ => exact (Nat.zero_add _).symm
  | ⟨2, _⟩ => rfl

/-- The low half at an index. -/
theorem low_apply (x : FVec Ideal S8x4096x1024 .f32) (w : FVec Ideal S4x1024x12296 .f32) (r : Fin 32768) (c : Fin 6144) :
    low x w (ix2 r c) = ∑ k : Fin 1024, x (ix3 (⟨r.val / 4096, by omega⟩ : Fin 8) (⟨r.val % 4096, by omega⟩ : Fin 4096) k)
      * w (ix3 (0 : Fin 4) k (⟨c.val, by omega⟩ : Fin 12296)) :=
  (cut_apply _ r c).trans (proj_apply x w _ _ _)

/-- The padding word as a float. -/
theorem pad_word : (FloatOps.sitofp FTy.f32 0#32 : Ideal .f32) = (0 : EReal) := by
  show (((0#32 : BitVec 32).toInt : ℝ) : EReal) = 0
  simp

/-- The padded columns at an index: a small column's, or zero. -/
theorem padded (y : FVec Ideal Cert.Reference5Ideal.S32768x8 .f32) (r : Fin 32768) (c : Fin 128) :
    (pad Cert.Reference5Ideal.S32768x128 ![0, 0] ![0, 120] ![0, 0] y
      (sitofp .f32 (constantI Cert.Reference5Ideal.S_ 32 0#32)) Cert.Reference5Ideal.Gen.pads_S32768x8_S32768x128_000_01200 Cert.Reference5Ideal.Gen.h_S_ : FVec Ideal S32768x128 .f32) (ix2 r c)
      = if h : c.val < 8 then y (ix2 r (⟨c.val, h⟩ : Fin 8)) else (0 : EReal) := by
  pointwise
  rw [pad_word]

/-! ## The kernel at an index -/

/-- What the body stores at an index of the low half's block. -/
theorem pay2_apply (v : Vec Ideal S2048x1024 .bf16) (w : Vec Ideal S1x1024x1536 .bf16) (p : Fin 2048) (q : Fin 1536) :
    k0_pay2 v w (ix2 p q) = ∑ k : Fin 1024, (v (ix2 p k) : EReal) * w (ix3 (0 : Fin 1) k q) := by
  pointwise [k0_pay2, k0_pay1]

/-- What the body stores at an index of the small columns' block. -/
theorem pay3_apply (v : Vec Ideal S2048x1024 .bf16) (w : Vec Ideal S1x1024x128 .bf16) (p : Fin 2048) (q : Fin 128) :
    k0_pay3 v w (ix2 p q) = ∑ k : Fin 1024, (v (ix2 p k) : EReal) * w (ix3 (0 : Fin 1) k q) := by
  pointwise [k0_pay3, k0_pay1]

/-- The small columns of the matrices with zeros after them, at an index. -/
theorem wide_apply (y : FVec Ideal S4x1024x8 .f32) (k : Fin 1024) (q : Fin 128) :
    (pad S4x1024x128 ![0, 0, 0] ![0, 0, 120] ![0, 0, 0] y
      (sitofp .f32 (constantI S_ 32 0#32)) pads_S4x1024x8_S4x1024x128_000_000_01200 h_S_ : FVec Ideal S4x1024x128 .f32) (ix3 (0 : Fin 4) k q)
      = if h : q.val < 8 then y (ix3 (0 : Fin 4) k (⟨q.val, h⟩ : Fin 8)) else (0 : EReal) := by
  pointwise
  rw [pad_word]

/-! ## The arrays the call finds -/

set_option maxHeartbeats 1100000 in
/-- The tokens, one per row, rounded. -/
theorem V_x (c : Dev nD) : V m c main_v6
    = truncf .bf16 (shapeCast S32768x1024 (m ((c : Thread nD τ).loc main_arg0) : FVec Ideal S8x4096x1024 .f32) shapeCasts_S8x4096x1024_S32768x1024 : FVec Ideal S32768x1024 .f32) bitsLt_bf16_f32 := by
  simp only [V, opss, hostOps0, hostOps0_1, hostOps0_2, StableHlo.TRef.binary, StableHlo.TRef.unary, StableHlo.TRef.toBuf, StableHlo.TRef.ofBuf, cast_eq, List.flatten_cons, List.flatten_nil,
    List.append_nil, List.cons_append, List.nil_append]
  after_results <;> rfl

set_option maxHeartbeats 1100000 in
/-- The low half's columns of the matrices, rounded. -/
theorem V_w (c : Dev nD) : V m c main_v1
    = truncf .bf16 (extractStridedSlice S4x1024x6144 ![0, 0, 0] (m ((c : Thread nD τ).loc main_arg1) : FVec Ideal S4x1024x12296 .f32) slices_S4x1024x12296_S4x1024x6144_0_0_0 : FVec Ideal S4x1024x6144 .f32) bitsLt_bf16_f32 := by
  simp only [V, opss, hostOps0, hostOps0_1, hostOps0_2, StableHlo.TRef.binary, StableHlo.TRef.unary, StableHlo.TRef.toBuf, StableHlo.TRef.ofBuf, cast_eq, List.flatten_cons, List.flatten_nil,
    List.append_nil, List.cons_append, List.nil_append]
  after_results <;> rfl

set_option maxHeartbeats 1100000 in
/-- The small columns of the matrices with zeros after them, rounded. -/
theorem V_s (c : Dev nD) : V m c main_v4
    = truncf .bf16 (pad S4x1024x128 ![0, 0, 0] ![0, 0, 120] ![0, 0, 0]
      (extractStridedSlice S4x1024x8 ![0, 0, 6144] (m ((c : Thread nD τ).loc main_arg1) : FVec Ideal S4x1024x12296 .f32) slices_S4x1024x12296_S4x1024x8_0_0_6144)
      (sitofp .f32 (constantI S_ 32 0#32)) pads_S4x1024x8_S4x1024x128_000_000_01200 h_S_ : FVec Ideal S4x1024x128 .f32) bitsLt_bf16_f32 := by
  simp only [V, opss, hostOps0, hostOps0_1, hostOps0_2, StableHlo.TRef.binary, StableHlo.TRef.unary, StableHlo.TRef.toBuf, StableHlo.TRef.ofBuf, cast_eq, List.flatten_cons, List.flatten_nil,
    List.append_nil, List.cons_append, List.nil_append]
  after_results <;> rfl

/-- The tokens, one per row, at an index. -/
theorem rows_apply (x : FVec Ideal S8x4096x1024 .f32) (r : Fin 32768) (k : Fin 1024) :
    (truncf .bf16 (shapeCast S32768x1024 x shapeCasts_S8x4096x1024_S32768x1024 : FVec Ideal S32768x1024 .f32) bitsLt_bf16_f32 : FVec Ideal S32768x1024 .bf16) (ix2 r k)
      = x (ix3 (⟨r.val / 4096, by omega⟩ : Fin 8) (⟨r.val % 4096, by omega⟩ : Fin 4096) k) :=
  shapeCast_apply _ _ (ix2 r k) (ix3 (⟨r.val / 4096, by omega⟩ : Fin 8) (⟨r.val % 4096, by omega⟩ : Fin 4096) k) (by
    rw [Shape.rowMajor_val_three, Shape.rowMajor_val_two]
    show (r.val / 4096 * 4096 + r.val % 4096) * 1024 + k.val = r.val * 1024 + k.val
    omega)

/-- The tokens' block at grid point `t`: row `p` is token `t / 4 * 2048 + p`. -/
theorem xb_apply (c : Dev nD) (t : Fin cfg0.N) (p : Fin 2048) (k : Fin 1024) (h : t.val / 4 < 16) :
    iblk m c 0 t (ix2 p k) = (m ((c : Thread nD τ).loc main_arg0) : FVec Ideal S8x4096x1024 .f32)
      (ix3 (⟨(t.val / 4 * 2048 + p.val) / 4096, by omega⟩ : Fin 8) (⟨(t.val / 4 * 2048 + p.val) % 4096, by omega⟩ : Fin 4096) k) := by
  have e : ((cfg0.win 0).blk t).view.emb (ix2 p k) = (ix2 (⟨t.val / 4 * 2048 + p.val, by omega⟩ : Fin 32768) k : S32768x1024.Idx) := by
    blk_ext [idx t]
  blk_simp [iblk]
  refine (congrFun (V_x m c) _).trans ?_
  exact (congrArg (truncf .bf16 (shapeCast S32768x1024 (m ((c : Thread nD τ).loc main_arg0) : FVec Ideal S8x4096x1024 .f32) shapeCasts_S8x4096x1024_S32768x1024 : FVec Ideal S32768x1024 .f32) bitsLt_bf16_f32 : FVec Ideal S32768x1024 .bf16) e).trans
    (rows_apply _ _ _)

/-- The matrix's block at grid point `t`: column `q` is column `t % 4 * 1536 + q`. -/
theorem wb_apply (c : Dev nD) (t : Fin cfg0.N) (k : Fin 1024) (q : Fin 1536) :
    iblk m c 1 t (ix3 (0 : Fin 1) k q) = (m ((c : Thread nD τ).loc main_arg1) : FVec Ideal S4x1024x12296 .f32)
      (ix3 (0 : Fin 4) k (⟨t.val % 4 * 1536 + q.val, by omega⟩ : Fin 12296)) := by
  blk_simp [iblk, idx t]
  refine (congrFun (V_w m c) _).trans ?_
  pointwise
  blk_ext [idx t]

/-- The eight small columns of the matrices at an index. -/
theorem slice_apply (w : FVec Ideal S4x1024x12296 .f32) (k : Fin 1024) (q : Fin 8) :
    extractStridedSlice S4x1024x8 ![0, 0, 6144] w slices_S4x1024x12296_S4x1024x8_0_0_6144 (ix3 (0 : Fin 4) k q)
      = w (ix3 (0 : Fin 4) k (⟨6144 + q.val, by omega⟩ : Fin 12296)) :=
  extractStridedSlice_apply _ w _ _ _ fun a => by
    match a with
    | ⟨0, _⟩ => rfl
    | ⟨1, _⟩ => exact (Nat.zero_add _).symm
    | ⟨2, _⟩ => rfl

/-- The small columns' block: the same at every grid point, zeros after the eight. -/
theorem sb_apply (c : Dev nD) (t : Fin cfg0.N) (k : Fin 1024) (q : Fin 128) :
    iblk m c 2 t (ix3 (0 : Fin 1) k q) = if h : q.val < 8 then (m ((c : Thread nD τ).loc main_arg1) : FVec Ideal S4x1024x12296 .f32)
      (ix3 (0 : Fin 4) k (⟨6144 + q.val, by omega⟩ : Fin 12296)) else (0 : EReal) := by
  have e : ((cfg0.win 2).blk t).view.emb (ix3 (0 : Fin 1) k q) = (ix3 (0 : Fin 4) k q : S4x1024x128.Idx) := by
    blk_ext [idx t]
  blk_simp [iblk]
  refine (congrFun (V_s m c) _).trans ?_
  refine (congrArg (pad S4x1024x128 ![0, 0, 0] ![0, 0, 120] ![0, 0, 0]
      (extractStridedSlice S4x1024x8 ![0, 0, 6144] (m ((c : Thread nD τ).loc main_arg1) : FVec Ideal S4x1024x12296 .f32) slices_S4x1024x12296_S4x1024x8_0_0_6144)
      (sitofp .f32 (constantI S_ 32 0#32)) pads_S4x1024x8_S4x1024x128_000_000_01200 h_S_ : FVec Ideal S4x1024x128 .f32) e).trans ?_
  rw [wide_apply]
  by_cases h : q.val < 8
  · rw [dif_pos h, dif_pos h]; exact slice_apply _ _ _
  · rw [dif_neg h, dif_neg h]

/-! ## The two arrays -/

/-- What the body stores at an index of the low half's block is the reference's product where that index stands. -/
theorem point_low (c : Dev nD) (t : Fin cfg0.N) (y : S2048x1536.Idx) : k0_pay2 (iblk m c 0 t) (iblk m c 1 t) y
    = low (m ((c : Thread nD τ).loc main_arg0)) (m ((c : Thread nD τ).loc main_arg1)) (((cfg0.win 3).blk t).view.emb y) := by
  obtain ⟨p, q, rfl⟩ : ∃ (p : Fin 2048) (q : Fin 1536), y = ix2 p q := ⟨y 0, y 1, (ValueIdx.eq_ix2 y)⟩
  have h := (idx t).2.2.2.2.2
  have e : ((cfg0.win 3).blk t).view.emb (ix2 p q)
      = ix2 (⟨t.val / 4 * 2048 + p.val, by omega⟩ : Fin 32768) (⟨t.val % 4 * 1536 + q.val, by omega⟩ : Fin 6144) := by
    blk_ext [idx t]
  refine (pay2_apply _ _ p q).trans ?_
  refine Eq.trans ?_ ((congrArg (low _ _) e).trans (low_apply _ _ _ _)).symm
  exact Finset.sum_congr rfl fun k _ => congrArg₂ (· * ·) (xb_apply m c t p k h) (wb_apply m c t k q)

/-- The low half's array after the run is the reference's. -/
theorem final_low (c : Dev nD) : (dats m 0 c).arrAt 3 (cfgs 0).N
    = low (m ((c : Thread nD τ).loc main_arg0)) (m ((c : Thread nD τ).loc main_arg1)) := by
  refine (dats m 0 c).arrAt_eq_of_covers 3 _ (by decide +kernel) fun t _ y => ?_
  blk_simp
  rw [after0_3]
  exact point_low m c t y

/-- The reference's small columns at an index. -/
theorem small_apply (x : FVec Ideal S8x4096x1024 .f32) (w : FVec Ideal S4x1024x12296 .f32) (r : Fin 32768) (q : Fin 128) :
    small x w (ix2 r q) = if h : q.val < 8 then ∑ k : Fin 1024, x (ix3 (⟨r.val / 4096, by omega⟩ : Fin 8) (⟨r.val % 4096, by omega⟩ : Fin 4096) k)
      * w (ix3 (0 : Fin 4) k (⟨6144 + q.val, by omega⟩ : Fin 12296)) else (0 : EReal) := by
  refine (padded _ r q).trans ?_
  by_cases h : q.val < 8
  · rw [dif_pos h, dif_pos h]; exact (eight_apply _ r _).trans (proj_apply x w _ _ _)
  · rw [dif_neg h, dif_neg h]

/-- What a row's first point stores at an index of the small columns' block is the reference's where that index stands, at every point
    of the row. -/
theorem point_small (c : Dev nD) (t : Fin cfg0.N) (y : S2048x128.Idx) : k0_pay3 (iblk m c 0 (base t)) (iblk m c 2 (base t)) y
    = small (m ((c : Thread nD τ).loc main_arg0)) (m ((c : Thread nD τ).loc main_arg1)) (((cfg0.win 4).blk t).view.emb y) := by
  obtain ⟨p, q, rfl⟩ : ∃ (p : Fin 2048) (q : Fin 128), y = ix2 p q := ⟨y 0, y 1, (ValueIdx.eq_ix2 y)⟩
  have h := (idx (base t)).2.2.2.2.2
  have hb : (base t).val / 4 = t.val / 4 := by show (t.val - t.val % 4) / 4 = t.val / 4; omega
  have e : ((cfg0.win 4).blk t).view.emb (ix2 p q)
      = ix2 (⟨(base t).val / 4 * 2048 + p.val, by omega⟩ : Fin 32768) q := by
    rw [show (⟨(base t).val / 4 * 2048 + p.val, by omega⟩ : Fin 32768) = ⟨t.val / 4 * 2048 + p.val, by omega⟩ from Fin.ext (by show (base t).val / 4 * 2048 + p.val = t.val / 4 * 2048 + p.val; rw [hb])]
    blk_ext [idx t]
  refine (pay3_apply _ _ p q).trans ?_
  refine Eq.trans ?_ ((congrArg (small _ _) e).trans (small_apply _ _ _ _)).symm
  by_cases h8 : q.val < 8
  · rw [dif_pos h8]
    exact Finset.sum_congr rfl fun k _ => congrArg₂ (· * ·) (xb_apply m c (base t) p k h) ((sb_apply m c (base t) k q).trans (dif_pos h8))
  · rw [dif_neg h8]
    exact Finset.sum_eq_zero fun k _ => (congrArg (fun z : EReal => @HMul.hMul EReal EReal EReal instHMul (iblk m c 0 (base t) (ix2 p k)) z) ((sb_apply m c (base t) k q).trans (dif_neg h8))).trans (mul_zero _)

/-- The small columns' array after the run is the reference's. -/
theorem final_small (c : Dev nD) : (dats m 0 c).arrAt 4 (cfgs 0).N
    = small (m ((c : Thread nD τ).loc main_arg0)) (m ((c : Thread nD τ).loc main_arg1)) := by
  refine (dats m 0 c).arrAt_eq_of_covers 4 _ (by decide +kernel) fun t _ y => ?_
  blk_simp
  rw [after0_4]
  exact point_small m c t y

end Cert.Proof.Low

end
-- ==== Proof.lean ====
/-
  The certificate's claims. The row gather on the SparseCores runs, leaves its arguments and its semaphores as it found
  them, and computes the reference's array, at the ideal values and at the bits: its run is proved once over any float
  values (Proof/Rows/), and the claims about the two kernels and the two references are read from it here. The input
  projection's wide half runs likewise, and at the ideal values computes the reference's array (Proof/Proj/). So does the
  experts' call, whose tables choose the weights it reads, for tables that name one of the sixteen experts (Proof/Experts/),
  the merge of the three branches with the output weights, the residual and the norm (Proof/Merge/), and the input projection's
  low half with its small columns (Proof/Low/).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_rows_in_range
public import proofs.«01_k».proof.Proof.Rows.Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Proj.Value
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_expert_in_range
public import proofs.«01_k».proof.Proof.Experts.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Merge.Value
public import proofs.«01_k».proof.Proof.Gen.Kernel5
public import proofs.«01_k».proof.Proof.Gen.Kernel5.Skeleton
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Low.Value
public import Idealize.ShloMosaic.Adequacy
public import Idealize.ShloMosaic.Init

@[expose] public section

noncomputable section

namespace Cert.Proof

open Idealize.ShloMosaic Idealize.SL.Sem

/-! ## The frames -/

/-- The kernel at the ideal values. -/
theorem frame_kernelIdeal : Cert.quiescent_KernelIdeal := fun m ρ h =>
  (θ_run Cert.KernelIdeal.defs _ _).mono (fun _ h => ⟨fun c => (h.1 c).2, h.2⟩) (Rows.run_main (F := Ideal) m ρ (Rows.preOK m h))
/-- The kernel at the bits: the same program. -/
theorem frame_kernel : Cert.quiescent_Kernel := fun m ρ h =>
  (θ_run Cert.KernelIdeal.defs _ _).mono (fun _ h => ⟨fun c => (h.1 c).2, h.2⟩) (Rows.run_main (F := Bits) m ρ (Rows.preOK m h))
/-- The reference at the bits. -/
theorem frame_reference : Cert.quiescent_Reference := fun m ρ _ =>
  (θ_run Cert.Reference.defs _ _).mono (fun _ h => ⟨fun c => (h.1 c).2, h.2⟩) (RowsRef.run_main (F := Bits) m ρ)
/-- The reference at the ideal values: the same program. -/
theorem frame_referenceIdeal : Cert.quiescent_ReferenceIdeal := fun m ρ _ =>
  (θ_run Cert.Reference.defs _ _).mono (fun _ h => ⟨fun c => (h.1 c).2, h.2⟩) (RowsRef.run_main (F := Ideal) m ρ)

/-! ## The values -/

/-- At the ideal values kernel and reference compute the same array. -/
theorem algebraic : Cert.algebraic_KernelIdeal_ReferenceIdeal := fun m ρ m' ρ' h hm =>
  ⟨fun c => Rows.result m c,
    (θ_run Cert.KernelIdeal.defs _ _).mono (fun _ h => h.1) (Rows.run_main (F := Ideal) m ρ (Rows.preOK m h)),
    (θ_run Cert.Reference.defs _ _).mono (fun _ hr c => ⟨(hr.1 c).1.trans ((congrArg₂ RowsRef.rows (hm c).1 (hm c).2).trans
      (Rows.result_eq m c (Rows.preOK m h)).symm), (hr.1 c).2⟩) (RowsRef.run_main (F := Ideal) m' ρ')⟩
/-- So they do at the bits. -/
theorem bitexact : Cert.bitexact_Kernel_Reference := fun m ρ m' ρ' h hm =>
  ⟨fun c => Rows.result (F := Bits) m c,
    (θ_run Cert.KernelIdeal.defs _ _).mono (fun _ h => h.1) (Rows.run_main (F := Bits) m ρ (Rows.preOK m h)),
    (θ_run Cert.Reference.defs _ _).mono (fun _ hr c => ⟨(hr.1 c).1.trans ((congrArg₂ RowsRef.rows (hm c).1 (hm c).2).trans
      (Rows.result_eq (F := Bits) m c (Rows.preOK m h)).symm), (hr.1 c).2⟩) (RowsRef.run_main (F := Bits) m' ρ')⟩

/-! ## The input projection -/

/-- The projection at the bits. -/
theorem frame_kernel2 : Cert.quiescent_Kernel2 := fun m ρ _ => Cert.Kernel2.Gen.frame m ρ

/-- The projection at the ideal values. -/
theorem frame_kernel2Ideal : Cert.quiescent_Kernel2Ideal := fun m ρ _ => Cert.Kernel2Ideal.Gen.frame m ρ

/-- Its reference. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- At the ideal values the projection and its reference compute the same array. -/
theorem algebraic2 : Cert.algebraic_Kernel2Ideal_Reference2Ideal := fun m ρ m' ρ' _ hm =>
  ⟨fun c => Proj.product (m (c.tc.loc Cert.Kernel2Ideal.main_arg0)) (m (c.tc.loc Cert.Kernel2Ideal.main_arg1)),
    (θ_run Cert.Kernel2Ideal.defs _ _).mono (fun _ h c => ⟨(h c).1.trans (Proj.final m c), (h c).2⟩)
      (Cert.Kernel2Ideal.Value.run_blocks m ρ),
    (θ_run Cert.Reference2Ideal.defs _ _).mono (fun _ h c => ⟨(h c).1.trans (congrArg₂ Proj.product (hm c).1 (hm c).2), (h c).2⟩)
      (Cert.Reference2Ideal.Value.run m' ρ')⟩

/-! ## The experts -/

/-- The experts' body at the bits is the program's at the ideal values. -/
theorem body3_eq : Cert.Kernel3.cc0_experts (F := Bits) = Cert.Kernel3Ideal.cc0_experts (F := Bits) := rfl
theorem defs₀3_eq : Cert.Kernel3.defs₀ (F := Bits) = Cert.Kernel3Ideal.defs₀ (F := Bits) := by
  refine congrArg Defs.onTc (funext fun l => funext fun x => ?_)
  match l with
  | 0 =>
    obtain ⟨t, s⟩ := x
    rfl
theorem defs3_eq : Cert.Kernel3.defs (F := Bits) = Cert.Kernel3Ideal.defs (F := Bits) :=
  congrArg (Idealize.ShloMosaic.Pipeline.defs (Cert.Kernel3Ideal.pcfgs (F := Bits))) defs₀3_eq

/-- The experts' call at the bits: the same program. -/
theorem frame_kernel3 : Cert.quiescent_Kernel3 := fun m ρ h => by
  have hr := Cert.Kernel3Ideal.Experts.inRange (F := Bits) m h
  rw [defs3_eq]
  exact Cert.Kernel3Ideal.Experts.frame (F := Bits) _ m ρ (Cert.Kernel3Ideal.Experts.pinned m hr)

/-- The experts' call at the ideal values. -/
theorem frame_kernel3Ideal : Cert.quiescent_Kernel3Ideal := fun m ρ h =>
  have hr := Cert.Kernel3Ideal.Experts.inRange m h
  Cert.Kernel3Ideal.Experts.frame _ m ρ (Cert.Kernel3Ideal.Experts.pinned m hr)

/-- Its reference. -/
theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- At the ideal values the experts' call and its reference compute the same two arrays. -/
theorem algebraic3 : Cert.algebraic_Kernel3Ideal_Reference3Ideal := fun m ρ m' ρ' h hm => by
  have hr := Cert.Kernel3Ideal.Experts.inRange m h
  have hp := Cert.Kernel3Ideal.Experts.pinned m hr
  have e : ∀ c : Dev Cert.Kernel3Ideal.nD, ExpertValue.total (m' (c.tc.loc Cert.Reference3Ideal.main_arg0)) (m' (c.tc.loc Cert.Reference3Ideal.main_arg1))
      (m' (c.tc.loc Cert.Reference3Ideal.main_arg2)) (m' (c.tc.loc Cert.Reference3Ideal.main_arg3)) (m' (c.tc.loc Cert.Reference3Ideal.main_arg4))
      (m' (c.tc.loc Cert.Reference3Ideal.main_arg5)) (m' (c.tc.loc Cert.Reference3Ideal.main_arg6))
      = ExpertValue.sumAt (Cert.Kernel3Ideal.Experts.tables m hr) m c := fun c => by
    obtain ⟨e0, e1, e2, e3, e4, e5, e6⟩ := hm c
    rw [e0, e1, e2, e3, e4, e5, e6]
    obtain rfl : c = 0 := Subsingleton.elim _ _
    rfl
  refine ⟨fun c => ExpertValue.left (ExpertValue.sumAt (Cert.Kernel3Ideal.Experts.tables m hr) m c),
    fun c => ExpertValue.right (ExpertValue.sumAt (Cert.Kernel3Ideal.Experts.tables m hr) m c), ?_, ?_⟩
  · exact (θ_run Cert.Kernel3Ideal.defs _ _).mono
      (fun _ hq c => ⟨((hq.1 c).1 (5 : Fin 7)).trans (ExpertValue.final5 _ m ρ (hr 0) c),
        ((hq.1 c).1 (6 : Fin 7)).trans (ExpertValue.final6 _ m ρ (hr 0) c), hq.2 c⟩)
      (θ_run_and (Cert.Kernel3Ideal.Experts.run_main _ m ρ hp) (Cert.Kernel3Ideal.Experts.unchanged _ m ρ hp))
  · exact (θ_run Cert.Reference3Ideal.defs _ _).mono
      (fun _ hq c => ⟨(hq c).1.trans (congrArg ExpertValue.left (e c)), (hq c).2.1.trans (congrArg ExpertValue.right (e c)), (hq c).2.2⟩)
      (Cert.Reference3Ideal.Value.run m' ρ')

/-! ## The merge -/

/-- The merge at the bits. -/
theorem frame_kernel4 : Cert.quiescent_Kernel4 := fun m ρ _ => Cert.Kernel4.Gen.frame m ρ

/-- The merge at the ideal values. -/
theorem frame_kernel4Ideal : Cert.quiescent_Kernel4Ideal := fun m ρ _ => Cert.Kernel4Ideal.Gen.frame m ρ

/-- Its reference. -/
theorem frame_reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

/-- At the ideal values the merge and its reference compute the same three arrays. -/
theorem algebraic4 : Cert.algebraic_Kernel4Ideal_Reference4Ideal := fun m ρ m' ρ' _ hm => by
  have e : ∀ c : Dev Cert.Kernel4Ideal.nD, Merge.total (m' (c.tc.loc Cert.Reference4Ideal.main_arg0)) (m' (c.tc.loc Cert.Reference4Ideal.main_arg1))
      (m' (c.tc.loc Cert.Reference4Ideal.main_arg2)) (m' (c.tc.loc Cert.Reference4Ideal.main_arg3)) (m' (c.tc.loc Cert.Reference4Ideal.main_arg4))
      (m' (c.tc.loc Cert.Reference4Ideal.main_arg5)) (m' (c.tc.loc Cert.Reference4Ideal.main_arg6)) (m' (c.tc.loc Cert.Reference4Ideal.main_arg7))
      (m' (c.tc.loc Cert.Reference4Ideal.main_arg8)) (m' (c.tc.loc Cert.Reference4Ideal.main_arg9)) = Merge.totalAt m c := fun c => by
    obtain ⟨e0, e1, e2, e3, e4, e5, e6, e7, e8, e9⟩ := hm c
    rw [e0, e1, e2, e3, e4, e5, e6, e7, e8, e9]
  refine ⟨fun c => Merge.totalAt m c, fun c => Merge.left (Merge.totalAt m c), fun c => Merge.right (Merge.totalAt m c), ?_, ?_⟩
  · exact (θ_run Cert.Kernel4Ideal.defs _ _).mono
      (fun _ h c => ⟨(h c).1.trans (Merge.final12 m c), (h c).2.1.trans (Merge.final13 m c), (h c).2.2.1.trans (Merge.final14 m c), (h c).2.2.2⟩)
      (Cert.Kernel4Ideal.Value.run_blocks m ρ)
  · exact (θ_run Cert.Reference4Ideal.defs _ _).mono
      (fun _ h c => ⟨(h c).1.trans (e c), (h c).2.1.trans (congrArg Merge.left (e c)), (h c).2.2.1.trans (congrArg Merge.right (e c)), (h c).2.2.2⟩)
      (Cert.Reference4Ideal.Value.run m' ρ')

/-! ## The input projection's low half and its small columns -/

/-- The body at the bits is the program's at the ideal values. -/
theorem body5_eq : Cert.Kernel5.cc0_in_proj (F := Bits) = Cert.Kernel5Ideal.cc0_in_proj (F := Bits) := rfl
theorem defs₀5_eq : Cert.Kernel5.defs₀ (F := Bits) = Cert.Kernel5Ideal.defs₀ (F := Bits) := by
  refine congrArg Defs.onTc (funext fun l => funext fun x => ?_)
  match l with
  | 0 =>
    obtain ⟨t, s⟩ := x
    rfl
theorem defs5_eq : Cert.Kernel5.defs (F := Bits) = Cert.Kernel5Ideal.defs (F := Bits) :=
  congrArg (Idealize.ShloMosaic.Pipeline.defs (Cert.Kernel5Ideal.pcfgs (F := Bits))) defs₀5_eq

/-- The call at the bits: the same program. -/
theorem frame_kernel5 : Cert.quiescent_Kernel5 := fun m ρ _ => by
  rw [defs5_eq]
  exact Cert.Kernel5Ideal.Low.frame (F := Bits) m ρ

/-- The call at the ideal values. -/
theorem frame_kernel5Ideal : Cert.quiescent_Kernel5Ideal := fun m ρ _ => Cert.Kernel5Ideal.Low.frame m ρ

/-- Its reference. -/
theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

/-- At the ideal values the call and its reference compute the same two arrays. -/
theorem algebraic5 : Cert.algebraic_Kernel5Ideal_Reference5Ideal := fun m ρ m' ρ' _ hm =>
  ⟨fun c => Low.low (m (c.tc.loc Cert.Kernel5Ideal.main_arg0)) (m (c.tc.loc Cert.Kernel5Ideal.main_arg1)),
    fun c => Low.small (m (c.tc.loc Cert.Kernel5Ideal.main_arg0)) (m (c.tc.loc Cert.Kernel5Ideal.main_arg1)),
    (θ_run Cert.Kernel5Ideal.defs _ _).mono (fun _ h c => ⟨(h c).1.trans (Low.final_low m c), (h c).2.1.trans (Low.final_small m c), (h c).2.2⟩)
      (Cert.Kernel5Ideal.Low.run_blocks m ρ),
    (θ_run Cert.Reference5Ideal.defs _ _).mono (fun _ h c => ⟨(h c).1.trans (congrArg₂ Low.low (hm c).1 (hm c).2),
        (h c).2.1.trans (congrArg₂ Low.small (hm c).1 (hm c).2), (h c).2.2⟩)
      (Cert.Reference5Ideal.Value.run m' ρ')⟩

/-- Everything the certificate claims. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_rows_in_range.Gen.facts, Cert.Pre_expert_in_range.Gen.facts,
  frame_kernel, frame_kernelIdeal, frame_referenceIdeal, frame_reference, frame_kernel2, frame_kernel2Ideal, frame_reference2Ideal,
  frame_kernel3, frame_kernel3Ideal, frame_reference3Ideal, frame_kernel4, frame_kernel4Ideal, frame_reference4Ideal,
  frame_kernel5, frame_kernel5Ideal, frame_reference5Ideal,
  trivial, algebraic, bitexact, trivial, algebraic2, trivial, algebraic3, trivial, algebraic4, trivial, algebraic5⟩

end Cert.Proof

end
